-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Moe [hPre_plan_ranges : Cert.Pre_plan_ranges.Facts] (m : (ℓ : Loc Cert.Moe.nD Cert.Moe.τ Cert.Moe.sig) → Buf (Elt Bits) ℓ) : Prop :=
  ∀ c : Dev Cert.Moe.nD,
    (Cert.Pre_plan_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_plan_ranges : Cert.Pre_plan_ranges.Facts] (m : (ℓ : Loc Cert.MoeIdeal.nD Cert.MoeIdeal.τ Cert.MoeIdeal.sig) → Buf (Elt Ideal) ℓ) : Prop :=
  ∀ c : Dev Cert.MoeIdeal.nD,
    (Cert.Pre_plan_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_plan_ranges [hPre_plan_ranges : Cert.Pre_plan_ranges.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_plan_ranges.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Moe [hMoe : Cert.Moe.Facts] [hPre_plan_ranges : Cert.Pre_plan_ranges.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_plan_ranges : Cert.Pre_plan_ranges.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_plan_ranges [hMoeRefIdeal : Cert.MoeRefIdeal.Facts] [hPre_plan_ranges : Cert.Pre_plan_ranges.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_plan_ranges m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15)
      ∧ r.2.mem ((c.tc : Thread Cert.Prep.nD Cert.Prep.τ).loc Cert.Prep.main_arg16) = m ((c.tc : Thread Cert.Prep.nD Cert.Prep.τ).loc Cert.Prep.main_arg16))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
      ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15)
      ∧ r.2.mem ((c.tc : Thread Cert.PrepRefIdeal.nD Cert.PrepRefIdeal.τ).loc Cert.PrepRefIdeal.main_arg16) = m ((c.tc : Thread Cert.PrepRefIdeal.nD Cert.PrepRefIdeal.τ).loc Cert.PrepRefIdeal.main_arg16))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v4)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v4) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v66) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v17)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v17) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Moe_MoeIdeal : Prop :=
  True

def algebraic_MoeIdeal_MoeRefIdeal [hMoeIdeal : Cert.MoeIdeal.Facts] [hMoeRefIdeal : Cert.MoeRefIdeal.Facts] [hPre_plan_ranges : Cert.Pre_plan_ranges.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v6)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v6) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v129) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v36_0)) (v1 : (c : Dev Cert.InpIdeal.nD) → Buf (Elt Ideal) ((c.tc : Thread Cert.InpIdeal.nD Cert.InpIdeal.τ).loc Cert.InpIdeal.main_v36_1)) (v2 : (c : Dev Cert.InpIdeal.nD) → Buf (Elt Ideal) ((c.tc : Thread Cert.InpIdeal.nD Cert.InpIdeal.τ).loc Cert.InpIdeal.main_v36_2)) (v3 : (c : Dev Cert.InpIdeal.nD) → Buf (Elt Ideal) ((c.tc : Thread Cert.InpIdeal.nD Cert.InpIdeal.τ).loc Cert.InpIdeal.main_v36_3)) (v4 : (c : Dev Cert.InpIdeal.nD) → Buf (Elt Ideal) ((c.tc : Thread Cert.InpIdeal.nD Cert.InpIdeal.τ).loc Cert.InpIdeal.main_v36_4)) (v5 : (c : Dev Cert.InpIdeal.nD) → Buf (Elt Ideal) ((c.tc : Thread Cert.InpIdeal.nD Cert.InpIdeal.τ).loc Cert.InpIdeal.main_v36_5)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v36_0) = v0 c
          ∧ r.2.mem ((c.tc : Thread Cert.InpIdeal.nD Cert.InpIdeal.τ).loc Cert.InpIdeal.main_v36_1) = v1 c
          ∧ r.2.mem ((c.tc : Thread Cert.InpIdeal.nD Cert.InpIdeal.τ).loc Cert.InpIdeal.main_v36_2) = v2 c
          ∧ r.2.mem ((c.tc : Thread Cert.InpIdeal.nD Cert.InpIdeal.τ).loc Cert.InpIdeal.main_v36_3) = v3 c
          ∧ r.2.mem ((c.tc : Thread Cert.InpIdeal.nD Cert.InpIdeal.τ).loc Cert.InpIdeal.main_v36_4) = v4 c
          ∧ r.2.mem ((c.tc : Thread Cert.InpIdeal.nD Cert.InpIdeal.τ).loc Cert.InpIdeal.main_v36_5) = v5 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v55) = v0 c
          ∧ r.2.mem ((c.tc : Thread Cert.InpRefIdeal.nD Cert.InpRefIdeal.τ).loc Cert.InpRefIdeal.main_v56) = v1 c
          ∧ r.2.mem ((c.tc : Thread Cert.InpRefIdeal.nD Cert.InpRefIdeal.τ).loc Cert.InpRefIdeal.main_v57) = v2 c
          ∧ r.2.mem ((c.tc : Thread Cert.InpRefIdeal.nD Cert.InpRefIdeal.τ).loc Cert.InpRefIdeal.main_v59) = v3 c
          ∧ r.2.mem ((c.tc : Thread Cert.InpRefIdeal.nD Cert.InpRefIdeal.τ).loc Cert.InpRefIdeal.main_v60) = v4 c
          ∧ r.2.mem ((c.tc : Thread Cert.InpRefIdeal.nD Cert.InpRefIdeal.τ).loc Cert.InpRefIdeal.main_v61) = v5 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)
      ∧ m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15)
      ∧ m' ((c.tc : Thread Cert.PrepRefIdeal.nD Cert.PrepRefIdeal.τ).loc Cert.PrepRefIdeal.main_arg16) = m ((c.tc : Thread Cert.PrepIdeal.nD Cert.PrepIdeal.τ).loc Cert.PrepIdeal.main_arg16)) →
    ∃ (v0 : (c : Dev Cert.PrepIdeal.nD) → Buf (Elt Ideal) ((c.tc : Thread Cert.PrepIdeal.nD Cert.PrepIdeal.τ).loc Cert.PrepIdeal.main_v42_0)) (v1 : (c : Dev Cert.PrepIdeal.nD) → Buf (Elt Ideal) ((c.tc : Thread Cert.PrepIdeal.nD Cert.PrepIdeal.τ).loc Cert.PrepIdeal.main_v42_2)) (v2 : (c : Dev Cert.PrepIdeal.nD) → Buf (Elt Ideal) ((c.tc : Thread Cert.PrepIdeal.nD Cert.PrepIdeal.τ).loc Cert.PrepIdeal.main_v42_3)) (v3 : (c : Dev Cert.PrepIdeal.nD) → Buf (Elt Ideal) ((c.tc : Thread Cert.PrepIdeal.nD Cert.PrepIdeal.τ).loc Cert.PrepIdeal.main_v42_4)) (v4 : (c : Dev Cert.PrepIdeal.nD) → Buf (Elt Ideal) ((c.tc : Thread Cert.PrepIdeal.nD Cert.PrepIdeal.τ).loc Cert.PrepIdeal.main_v42_5)) (v5 : (c : Dev Cert.PrepIdeal.nD) → Buf (Elt Ideal) ((c.tc : Thread Cert.PrepIdeal.nD Cert.PrepIdeal.τ).loc Cert.PrepIdeal.main_v42_6)) (v6 : (c : Dev Cert.PrepIdeal.nD) → Buf (Elt Ideal) ((c.tc : Thread Cert.PrepIdeal.nD Cert.PrepIdeal.τ).loc Cert.PrepIdeal.main_v42_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v42_0) = v0 c
          ∧ r.2.mem ((c.tc : Thread Cert.PrepIdeal.nD Cert.PrepIdeal.τ).loc Cert.PrepIdeal.main_v42_2) = v1 c
          ∧ r.2.mem ((c.tc : Thread Cert.PrepIdeal.nD Cert.PrepIdeal.τ).loc Cert.PrepIdeal.main_v42_3) = v2 c
          ∧ r.2.mem ((c.tc : Thread Cert.PrepIdeal.nD Cert.PrepIdeal.τ).loc Cert.PrepIdeal.main_v42_4) = v3 c
          ∧ r.2.mem ((c.tc : Thread Cert.PrepIdeal.nD Cert.PrepIdeal.τ).loc Cert.PrepIdeal.main_v42_5) = v4 c
          ∧ r.2.mem ((c.tc : Thread Cert.PrepIdeal.nD Cert.PrepIdeal.τ).loc Cert.PrepIdeal.main_v42_6) = v5 c
          ∧ r.2.mem ((c.tc : Thread Cert.PrepIdeal.nD Cert.PrepIdeal.τ).loc Cert.PrepIdeal.main_v42_7) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15)
          ∧ r.2.mem ((c.tc : Thread Cert.PrepIdeal.nD Cert.PrepIdeal.τ).loc Cert.PrepIdeal.main_arg16) = m ((c.tc : Thread Cert.PrepIdeal.nD Cert.PrepIdeal.τ).loc Cert.PrepIdeal.main_arg16))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v109) = v0 c
          ∧ r.2.mem ((c.tc : Thread Cert.PrepRefIdeal.nD Cert.PrepRefIdeal.τ).loc Cert.PrepRefIdeal.main_v111) = v1 c
          ∧ r.2.mem ((c.tc : Thread Cert.PrepRefIdeal.nD Cert.PrepRefIdeal.τ).loc Cert.PrepRefIdeal.main_v113) = v2 c
          ∧ r.2.mem ((c.tc : Thread Cert.PrepRefIdeal.nD Cert.PrepRefIdeal.τ).loc Cert.PrepRefIdeal.main_v116) = v3 c
          ∧ r.2.mem ((c.tc : Thread Cert.PrepRefIdeal.nD Cert.PrepRefIdeal.τ).loc Cert.PrepRefIdeal.main_v120) = v4 c
          ∧ r.2.mem ((c.tc : Thread Cert.PrepRefIdeal.nD Cert.PrepRefIdeal.τ).loc Cert.PrepRefIdeal.main_v122) = v5 c
          ∧ r.2.mem ((c.tc : Thread Cert.PrepRefIdeal.nD Cert.PrepRefIdeal.τ).loc Cert.PrepRefIdeal.main_v123) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14)
          ∧ r.2.mem ((c.tc : Thread Cert.PrepRefIdeal.nD Cert.PrepRefIdeal.τ).loc Cert.PrepRefIdeal.main_arg15) = m' ((c.tc : Thread Cert.PrepRefIdeal.nD Cert.PrepRefIdeal.τ).loc Cert.PrepRefIdeal.main_arg15)
          ∧ r.2.mem ((c.tc : Thread Cert.PrepRefIdeal.nD Cert.PrepRefIdeal.τ).loc Cert.PrepRefIdeal.main_arg16) = m' ((c.tc : Thread Cert.PrepRefIdeal.nD Cert.PrepRefIdeal.τ).loc Cert.PrepRefIdeal.main_arg16))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hMoe : Cert.Moe.Facts) (hMoeIdeal : Cert.MoeIdeal.Facts) (hMoeRefIdeal : Cert.MoeRefIdeal.Facts) (hInp : Cert.Inp.Facts) (hInpIdeal : Cert.InpIdeal.Facts) (hInpRefIdeal : Cert.InpRefIdeal.Facts) (hPrep : Cert.Prep.Facts) (hPrepIdeal : Cert.PrepIdeal.Facts) (hPrepRefIdeal : Cert.PrepRefIdeal.Facts) (hPre_finite_scores : Cert.Pre_finite_scores.Facts) (hPre_plan_ranges : Cert.Pre_plan_ranges.Facts),
    quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Moe (hMoe := hMoe) (hPre_plan_ranges := hPre_plan_ranges)
    ∧ quiescent_MoeIdeal (hMoeIdeal := hMoeIdeal) (hPre_plan_ranges := hPre_plan_ranges)
    ∧ quiescent_MoeRefIdeal (hMoeRefIdeal := hMoeRefIdeal)
    ∧ quiescent_MoeRefIdeal_pre_plan_ranges (hMoeRefIdeal := hMoeRefIdeal) (hPre_plan_ranges := hPre_plan_ranges)
    ∧ quiescent_Inp (hInp := hInp)
    ∧ quiescent_InpIdeal (hInpIdeal := hInpIdeal)
    ∧ quiescent_InpRefIdeal (hInpRefIdeal := hInpRefIdeal)
    ∧ quiescent_Prep (hPrep := hPrep)
    ∧ quiescent_PrepIdeal (hPrepIdeal := hPrepIdeal)
    ∧ quiescent_PrepRefIdeal (hPrepRefIdeal := hPrepRefIdeal)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Moe_MoeIdeal
    ∧ algebraic_MoeIdeal_MoeRefIdeal (hMoeIdeal := hMoeIdeal) (hMoeRefIdeal := hMoeRefIdeal) (hPre_plan_ranges := hPre_plan_ranges)
    ∧ preserves_Inp_InpIdeal
    ∧ algebraic_InpIdeal_InpRefIdeal (hInpIdeal := hInpIdeal) (hInpRefIdeal := hInpRefIdeal)
    ∧ preserves_Prep_PrepIdeal
    ∧ algebraic_PrepIdeal_PrepRefIdeal (hPrepIdeal := hPrepIdeal) (hPrepRefIdeal := hPrepRefIdeal)
-- ==== Pre_finite_scores.lean ====
abbrev S16x2048x16x64 : Shape := ⟨4, ![16, 2048, 16, 64]⟩
abbrev S16x2048x4x64 : Shape := ⟨4, ![16, 2048, 4, 64]⟩
abbrev S16 : Shape := ⟨1, ![16]⟩
abbrev S_ : Shape := ⟨0, ![]⟩

class Facts : Prop where
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  h_S_ : 0 < S_.numel
  bcast_S_S16x2048x4x64 : S_.BroadcastsInDim S16x2048x4x64 (![] : Fin 0 → Fin S16x2048x4x64.rank)
  reducesTo_S16x2048x4x64_S_d0_1_2_3 : S16x2048x4x64.ReducesTo [0, 1, 2, 3] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x16x64 .f32) (main_arg1 : FVec F S16x2048x4x64 .f32) (main_arg2 : FVec F S16x2048x4x64 .f32) (main_arg3 : FVec F S16 .f32) : IVec S_ 1 :=
  let main_v0 : FVec F S16x2048x16x64 .f32 := Host.absf main_arg0
  let main_cst : FVec F S_ .f32 := constant S_ .f32 0x7F800000#32
  let main_v1 : FVec F S16x2048x16x64 .f32 := broadcastInDim S16x2048x16x64 ![] bcast_S_S16x2048x16x64 main_cst
  let main_v2 : IVec S16x2048x16x64 1 := cmpf .olt main_v0 main_v1
  let main_c : IVec S_ 1 := constantI S_ 1 1#1
  let main_v3 : IVec S_ 1 := (fun x v => Host.reduce IntOp.andi x v reducesTo_S16x2048x16x64_S_d0_1_2_3 h_S_) main_v2 main_c
  let main_v4 : FVec F S16x2048x4x64 .f32 := Host.absf main_arg1
  let main_cst_0 : FVec F S_ .f32 := constant S_ .f32 0x7F800000#32
  let main_v5 : FVec F S16x2048x4x64 .f32 := broadcastInDim S16x2048x4x64 ![] bcast_S_S16x2048x4x64 main_cst_0
  let main_v6 : IVec S16x2048x4x64 1 := cmpf .olt main_v4 main_v5
  let main_c_1 : IVec S_ 1 := constantI S_ 1 1#1
  let main_v7 : IVec S_ 1 := (fun x v => Host.reduce IntOp.andi x v reducesTo_S16x2048x4x64_S_d0_1_2_3 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_plan_ranges.lean ====
abbrev S136 : Shape := ⟨1, ![136]⟩
abbrev S69632x1024 : Shape := ⟨2, ![69632, 1024]⟩
abbrev S1x8x1024x2816 : Shape := ⟨4, ![1, 8, 1024, 2816]⟩
abbrev S1x8x2816x1024 : Shape := ⟨4, ![1, 8, 2816, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S136 32) (main_arg2 : FVec F S69632x1024 .f32) (main_arg3 : FVec F S1x8x1024x2816 .f32) (main_arg4 : FVec F S1x8x1024x2816 .f32) (main_arg5 : FVec F S1x8x2816x1024 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 1 := constantI S_ 1 1#1
  let main_v2 : IVec S_ 1 := (fun x v => Host.reduce IntOp.andi x v reducesTo_S136_S_d0 h_S_) main_v1 main_c_0
  let main_c_1 : IVec S_ 32 := constantI S_ 32 8#32
  let main_v3 : IVec S136 32 := broadcastInDim S136 ![] bcast_S_S136 main_c_1
  let main_v4 : IVec S136 1 := cmpi .slt main_arg0 main_v3
  let main_c_2 : IVec S_ 1 := constantI S_ 1 1#1
  let main_v5 : IVec S_ 1 := (fun x v => Host.reduce IntOp.andi x v reducesTo_S136_S_d0 h_S_) main_v4 main_c_2
  let main_v6 : IVec S_ 1 := andi main_v2 main_v5
  let main_c_3 : IVec S_ 32 := constantI S_ 32 0#32
  let main_v7 : IVec S136 32 := broadcastInDim S136 ![] bcast_S_S136 main_c_3
  let main_v8 : IVec S136 1 := cmpi .sge main_arg1 main_v7
  let main_c_4 : IVec S_ 1 := constantI S_ 1 1#1
  let main_v9 : IVec S_ 1 := (fun x v => Host.reduce IntOp.andi x v reducesTo_S136_S_d0 h_S_) main_v8 main_c_4
  let main_v10 : IVec S_ 1 := andi main_v6 main_v9
  main_v10
-- ==== Swa.lean ====
abbrev S16x2048x16x64 : Shape := ⟨4, ![16, 2048, 16, 64]⟩
abbrev S16x2048x4x64 : Shape := ⟨4, ![16, 2048, 4, 64]⟩
abbrev S16 : Shape := ⟨1, ![16]⟩
abbrev S16x2048x1024 : Shape := ⟨3, ![16, 2048, 1024]⟩
abbrev S16x2048x256 : Shape := ⟨3, ![16, 2048, 256]⟩
abbrev S1x128x1024 : Shape := ⟨3, ![1, 128, 1024]⟩
abbrev S1x128x256 : Shape := ⟨3, ![1, 128, 256]⟩
abbrev S128x256 : Shape := ⟨2, ![128, 256]⟩
abbrev S256x256 : Shape := ⟨2, ![256, 256]⟩
abbrev S512x256 : Shape := ⟨2, ![512, 256]⟩
abbrev S128x1024 : Shape := ⟨2, ![128, 1024]⟩
abbrev S1 : Shape := ⟨1, ![1]⟩
abbrev S128x1 : Shape := ⟨2, ![128, 1]⟩
abbrev S512x1 : Shape := ⟨2, ![512, 1]⟩
abbrev S256x64 : Shape := ⟨2, ![256, 64]⟩
abbrev S128x64 : Shape := ⟨2, ![128, 64]⟩
abbrev S512x64 : Shape := ⟨2, ![512, 64]⟩
abbrev S512 : Shape := ⟨1, ![512]⟩

abbrev nBuf : Space → Nat
  | .hbm => 9
  | .vmem => 12
  | .smem => 1
  | _ => 0

abbrev bufTy : (tb : Table) → Fin (tcTables nBuf tb) → BufTy
  | .hbm, ⟨0, _⟩ => ⟨S16x2048x16x64, .f32⟩
  | .hbm, ⟨1, _⟩ => ⟨S16x2048x4x64, .f32⟩
  | .hbm, ⟨2, _⟩ => ⟨S16x2048x4x64, .f32⟩
  | .hbm, ⟨3, _⟩ => ⟨S16, .f32⟩
  | .hbm, ⟨4, _⟩ => ⟨S16x2048x1024, .f32⟩
  | .hbm, ⟨5, _⟩ => ⟨S16x2048x1024, .bf16⟩
  | .hbm, ⟨6, _⟩ => ⟨S16x2048x256, .f32⟩
  | .hbm, ⟨7, _⟩ => ⟨S16x2048x256, .f32⟩
  | .hbm, ⟨8, _⟩ => ⟨S16x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x1024, .bf16⟩
  | .local _ .vmem, ⟨11, _⟩ => ⟨S1x128x1024, .bf16⟩
  | .local _ .smem, ⟨0, _⟩ => ⟨S16, .f32⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S16x2048x16x64 : Shape := ⟨4, ![16, 2048, 16, 64]⟩
abbrev S16x2048x4x64 : Shape := ⟨4, ![16, 2048, 4, 64]⟩
abbrev S16 : Shape := ⟨1, ![16]⟩
abbrev S16x16x128x4x4x64 : Shape := ⟨6, ![16, 16, 128, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S16x16x128x4x64 : Shape := ⟨5, ![16, 16, 128, 4, 64]⟩
abbrev S16x1x128x4x64 : Shape := ⟨5, ![16, 1, 128, 4, 64]⟩
abbrev S16x15x128x4x64 : Shape := ⟨5, ![16, 15, 128, 4, 64]⟩
abbrev S16x16x256x4x64 : Shape := ⟨5, ![16, 16, 256, 4, 64]⟩
abbrev S16x16x4x256x128x4 : Shape := ⟨6, ![16, 16, 4, 256, 128, 4]⟩
abbrev S16x16x4x4x128x256 : Shape := ⟨6, ![16, 16, 4, 4, 128, 256]⟩
abbrev S1x16x1x1x128x256 : Shape := ⟨6, ![1, 16, 1, 1, 128, 256]⟩
abbrev S1x1x4x4x1x1 : Shape := ⟨6, ![1, 1, 4, 4, 1, 1]⟩
abbrev S16x16x4x4x128 : Shape := ⟨5, ![16, 16, 4, 4, 128]⟩
abbrev S16x16x4x4x128x1 : Shape := ⟨6, ![16, 16, 4, 4, 128, 1]⟩
abbrev S16x16x4x64x4x128 : Shape := ⟨6, ![16, 16, 4, 64, 4, 128]⟩
abbrev S16x2048x1024 : Shape := ⟨3, ![16, 2048, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x4x64, .f32⟩
  | .hbm, ⟨2, _⟩ => ⟨S16x2048x4x64, .f32⟩
  | .hbm, ⟨3, _⟩ => ⟨S16, .f32⟩
  | .hbm, ⟨4, _⟩ => ⟨S16x16x128x4x4x64, .f32⟩
  | .hbm, ⟨5, _⟩ => ⟨S128, .i32⟩
  | .hbm, ⟨6, _⟩ => ⟨S128x1, .i32⟩
  | .hbm, ⟨7, _⟩ => ⟨S256, .i32⟩
  | .hbm, ⟨8, _⟩ => ⟨S1x256, .i32⟩
  | .hbm, ⟨9, _⟩ => ⟨S_, .i32⟩
  | .hbm, ⟨10, _⟩ => ⟨S128x1, .i32⟩
  | .hbm, ⟨11, _⟩ => ⟨S128x1, .i32⟩
  | .hbm, ⟨12, _⟩ => ⟨S128x256, .i32⟩
  | .hbm, ⟨13, _⟩ => ⟨S128x256, .i32⟩
  | .hbm, ⟨14, _⟩ => ⟨S128x256, .i32⟩
  | .hbm, ⟨15, _⟩ => ⟨S16, .i32⟩
  | .hbm, ⟨16, _⟩ => ⟨S16x1x1, .i32⟩
  | .hbm, ⟨17, _⟩ => ⟨S_, .i32⟩
  | .hbm, ⟨18, _⟩ => ⟨S128x256, .i32⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i1⟩
  | .hbm, ⟨23, _⟩ => ⟨S128x256, .i1⟩
  | .hbm, ⟨24, _⟩ => ⟨S1x128x256, .i1⟩
  | .hbm, ⟨25, _⟩ => ⟨S_, .i32⟩
  | .hbm, ⟨26, _⟩ => ⟨S16x1x1, .i32⟩
  | .hbm, ⟨27, _⟩ => ⟨S16x1x1, .i1⟩
  | .hbm, ⟨28, _⟩ => ⟨S_, .i32⟩
  | .hbm, ⟨29, _⟩ => ⟨S1x256, .i32⟩
  | .hbm, ⟨30, _⟩ => ⟨S1x256, .i1⟩
  | .hbm, ⟨31, _⟩ => ⟨S1x1x256, .i1⟩
  | .hbm, ⟨32, _⟩ => ⟨S16x1x256, .i1⟩
  | .hbm, ⟨33, _⟩ => ⟨S16x1x256, .i1⟩
  | .hbm, ⟨34, _⟩ => ⟨S16x1x256, .i1⟩
  | .hbm, ⟨35, _⟩ => ⟨S16x128x256, .i1⟩
  | .hbm, ⟨36, _⟩ => ⟨S16x128x256, .i1⟩
  | .hbm, ⟨37, _⟩ => ⟨S16x128x256, .i1⟩
  | .hbm, ⟨38, _⟩ => ⟨S16x16x128x4x64, .f32⟩
  | .hbm, ⟨39, _⟩ => ⟨S16x1x128x4x64, .f32⟩
  | .hbm, ⟨40, _⟩ => ⟨S_, .f32⟩
  | .hbm, ⟨41, _⟩ => ⟨S16x1x128x4x64, .f32⟩
  | .hbm, ⟨42, _⟩ => ⟨S16x15x128x4x64, .f32⟩
  | .hbm, ⟨43, _⟩ => ⟨S16x16x128x4x64, .f32⟩
  | .hbm, ⟨44, _⟩ => ⟨S16x16x256x4x64, .f32⟩
  | .hbm, ⟨45, _⟩ => ⟨S16x16x4x256x128x4, .f32⟩
  | .hbm, ⟨46, _⟩ => ⟨S16x16x4x4x128x256, .f32⟩
  | .hbm, ⟨47, _⟩ => ⟨S_, .f32⟩
  | .hbm, ⟨48, _⟩ => ⟨S16x16x4x4x128x256, .f32⟩
  | .hbm, ⟨49, _⟩ => ⟨S16x16x4x4x128x256, .f32⟩
  | .hbm, ⟨50, _⟩ => ⟨S1x16x1x1x128x256, .i1⟩
  | .hbm, ⟨51, _⟩ => ⟨S_, .f32⟩
  | .hbm, ⟨52, _⟩ => ⟨S_, .f32⟩
  | .hbm, ⟨53, _⟩ => ⟨S16x16x4x4x128x256, .i1⟩
  | .hbm, ⟨54, _⟩ => ⟨S16x16x4x4x128x256, .f32⟩
  | .hbm, ⟨55, _⟩ => ⟨S16x16x4x4x128x256, .f32⟩
  | .hbm, ⟨56, _⟩ => ⟨S1x1x4x4x1x1, .f32⟩
  | .hbm, ⟨57, _⟩ => ⟨S_, .f32⟩
  | .hbm, ⟨58, _⟩ => ⟨S16x16x4x4x128, .f32⟩
  | .hbm, ⟨59, _⟩ => ⟨S16x16x4x4x128x1, .f32⟩
  | .hbm, ⟨60, _⟩ => ⟨S16x16x4x4x128x1, .f32⟩
  | .hbm, ⟨61, _⟩ => ⟨S16x16x4x4x128x1, .f32⟩
  | .hbm, ⟨62, _⟩ => ⟨S16x16x4x4x128x256, .f32⟩
  | .hbm, ⟨63, _⟩ => ⟨S16x16x4x4x128x256, .f32⟩
  | .hbm, ⟨64, _⟩ => ⟨S16x16x4x4x128x256, .f32⟩
  | .hbm, ⟨65, _⟩ => ⟨S_, .f32⟩
  | .hbm, ⟨66, _⟩ => ⟨S16x16x4x4x128, .f32⟩
  | .hbm, ⟨67, _⟩ => ⟨S16x16x4x4x128x1, .f32⟩
  | .hbm, ⟨68, _⟩ => ⟨S16x16x4x4x128x1, .f32⟩
  | .hbm, ⟨69, _⟩ => ⟨S16x16x4x4x128x1, .f32⟩
  | .hbm, ⟨70, _⟩ => ⟨S16x16x4x4x128x1, .f32⟩
  | .hbm, ⟨71, _⟩ => ⟨S16x16x4x4x128x1, .f32⟩
  | .hbm, ⟨72, _⟩ => ⟨S16x16x4x4x128x256, .f32⟩
  | .hbm, ⟨73, _⟩ => ⟨S16x16x4x4x128x256, .f32⟩
  | .hbm, ⟨74, _⟩ => ⟨S16x16x128x4x64, .f32⟩
  | .hbm, ⟨75, _⟩ => ⟨S16x1x128x4x64, .f32⟩
  | .hbm, ⟨76, _⟩ => ⟨S_, .f32⟩
  | .hbm, ⟨77, _⟩ => ⟨S16x1x128x4x64, .f32⟩
  | .hbm, ⟨78, _⟩ => ⟨S16x15x128x4x64, .f32⟩
  | .hbm, ⟨79, _⟩ => ⟨S16x16x128x4x64, .f32⟩
  | .hbm, ⟨80, _⟩ => ⟨S16x16x256x4x64, .f32⟩
  | .hbm, ⟨81, _⟩ => ⟨S16x16x4x64x4x128, .f32⟩
  | .hbm, ⟨82, _⟩ => ⟨S16x16x128x4x4x64, .f32⟩
  | .hbm, ⟨83, _⟩ => ⟨S16x2048x1024, .f32⟩
  | .hbm, ⟨84, _⟩ => ⟨S16x2048x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Ffn.lean ====
abbrev S32768x1024 : Shape := ⟨2, ![32768, 1024]⟩
abbrev S1x2048x1024 : Shape := ⟨3, ![1, 2048, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 26
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1x2048x1024, .f32⟩
  | .hbm, ⟨4, _⟩ => ⟨S2x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S32768x1024, .bf16⟩
  | .hbm, ⟨9, _⟩ => ⟨S32768x1024, .bf16⟩
  | .hbm, ⟨10, _⟩ => ⟨S1x1024x1024, .f32⟩
  | .hbm, ⟨11, _⟩ => ⟨S1024x1024, .f32⟩
  | .hbm, ⟨12, _⟩ => ⟨S1024x1024, .bf16⟩
  | .hbm, ⟨13, _⟩ => ⟨S1x1024x1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .f32⟩
  | .hbm, ⟨24, _⟩ => ⟨S2816x1024, .bf16⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S32768x1024 : Shape := ⟨2, ![32768, 1024]⟩
abbrev S1x2048x1024 : Shape := ⟨3, ![1, 2048, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S32768x2048 : Shape := ⟨2, ![32768, 2048]⟩
abbrev S2048x1024 : Shape := ⟨2, ![2048, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S1024x2816 : Shape := ⟨2, ![1024, 2816]⟩
abbrev S32768x2816 : Shape := ⟨2, ![32768, 2816]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S1x2048x1024, .f32⟩
  | .hbm, ⟨4, _⟩ => ⟨S2x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S32768x2048, .f32⟩
  | .hbm, ⟨9, _⟩ => ⟨S2048x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S1024x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S_, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S1024x2816, .f32⟩
  | .hbm, ⟨42, _⟩ => ⟨S32768x2816, .f32⟩
  | .hbm, ⟨43, _⟩ => ⟨S32768x2816, .f32⟩
  | .hbm, ⟨44, _⟩ => ⟨S2816x1024, .f32⟩
  | .hbm, ⟨45, _⟩ => ⟨S32768x1024, .f32⟩
  | .hbm, ⟨46, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Moe.lean ====
abbrev S136 : Shape := ⟨1, ![136]⟩
abbrev S69632x1024 : Shape := ⟨2, ![69632, 1024]⟩
abbrev S1x8x1024x2816 : Shape := ⟨4, ![1, 8, 1024, 2816]⟩
abbrev S1x8x2816x1024 : Shape := ⟨4, ![1, 8, 2816, 1024]⟩
abbrev S8x1024x2816 : Shape := ⟨3, ![8, 1024, 2816]⟩
abbrev S8x2816x1024 : Shape := ⟨3, ![8, 2816, 1024]⟩
abbrev S512x1024 : Shape := ⟨2, ![512, 1024]⟩
abbrev S1x1024x2816 : Shape := ⟨3, ![1, 1024, 2816]⟩
abbrev S1 : Shape := ⟨1, ![1]⟩
abbrev S1x2816x1024 : Shape := ⟨3, ![1, 2816, 1024]⟩
abbrev S512x2816 : Shape := ⟨2, ![512, 2816]⟩
abbrev S1024x2816 : Shape := ⟨2, ![1024, 2816]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 11
  | .vmem => 11
  | .smem => 2
  | _ => 0

abbrev bufTy : (tb : Table) → Fin (tcTables nBuf tb) → BufTy
  | .hbm, ⟨0, _⟩ => ⟨S69632x1024, .f32⟩
  | .hbm, ⟨1, _⟩ => ⟨S1x8x1024x2816, .f32⟩
  | .hbm, ⟨2, _⟩ => ⟨S1x8x1024x2816, .f32⟩
  | .hbm, ⟨3, _⟩ => ⟨S1x8x2816x1024, .f32⟩
  | .hbm, ⟨4, _⟩ => ⟨S8x1024x2816, .f32⟩
  | .hbm, ⟨5, _⟩ => ⟨S8x1024x2816, .bf16⟩
  | .hbm, ⟨6, _⟩ => ⟨S8x1024x2816, .f32⟩
  | .hbm, ⟨7, _⟩ => ⟨S8x1024x2816, .bf16⟩
  | .hbm, ⟨8, _⟩ => ⟨S8x2816x1024, .f32⟩
  | .hbm, ⟨9, _⟩ => ⟨S8x2816x1024, .bf16⟩
  | .hbm, ⟨10, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | .local _ .smem, ⟨0, _⟩ => ⟨S136, .i32⟩
  | .local _ .smem, ⟨1, _⟩ => ⟨S136, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S136 : Shape := ⟨1, ![136]⟩
abbrev S69632x1024 : Shape := ⟨2, ![69632, 1024]⟩
abbrev S1x8x1024x2816 : Shape := ⟨4, ![1, 8, 1024, 2816]⟩
abbrev S1x8x2816x1024 : Shape := ⟨4, ![1, 8, 2816, 1024]⟩
abbrev S136x1 : Shape := ⟨2, ![136, 1]⟩
abbrev S1x8 : Shape := ⟨2, ![1, 8]⟩
abbrev S136x8 : Shape := ⟨2, ![136, 8]⟩
abbrev S_ : Shape := ⟨0, ![]⟩
abbrev S136x512x8 : Shape := ⟨3, ![136, 512, 8]⟩
abbrev S69632x8 : Shape := ⟨2, ![69632, 8]⟩
abbrev S69632x1 : Shape := ⟨2, ![69632, 1]⟩
abbrev S1x1x1024x2816 : Shape := ⟨4, ![1, 1, 1024, 2816]⟩
abbrev S1024x2816 : Shape := ⟨2, ![1024, 2816]⟩
abbrev S69632x2816 : Shape := ⟨2, ![69632, 2816]⟩
abbrev S1x1x2816x1024 : Shape := ⟨4, ![1, 1, 2816, 1024]⟩
abbrev S2816x1024 : Shape := ⟨2, ![2816, 1024]⟩

abbrev nBuf : Space → Nat
  | .hbm => 207
  | .vmem => 0
  | .smem => 0
  | _ => 0

abbrev hbmTy0_0 (i : Nat) : BufTy := match i % 128 with
  | 0 => ⟨S136, .i32⟩
  | 1 => ⟨S136, .i32⟩
  | 2 => ⟨S69632x1024, .f32⟩
  | 3 => ⟨S1x8x1024x2816, .f32⟩
  | 4 => ⟨S1x8x1024x2816, .f32⟩
  | 5 => ⟨S1x8x2816x1024, .f32⟩
  | 6 => ⟨S136x1, .i32⟩
  | 7 => ⟨S1x8, .i32⟩
  | 8 => ⟨S136x8, .i32⟩
  | 9 => ⟨S136x8, .i32⟩
  | 10 => ⟨S136x8, .i1⟩
  | 11 => ⟨S136x8, .f32⟩
  | 12 => ⟨S_, .i32⟩
  | 13 => ⟨S136, .i32⟩
  | 14 => ⟨S136, .i1⟩
  | 15 => ⟨S136, .f32⟩
  | 16 => ⟨S136x1, .f32⟩
  | 17 => ⟨S136x8, .f32⟩
  | 18 => ⟨S136x8, .f32⟩
  | 19 => ⟨S136x512x8, .f32⟩
  | 20 => ⟨S69632x8, .f32⟩
  | 21 => ⟨S_, .f32⟩
  | 22 => ⟨S69632x1024, .f32⟩
  | 23 => ⟨S69632x1, .f32⟩
  | 24 => ⟨S1x1x1024x2816, .f32⟩
  | 25 => ⟨S1024x2816, .f32⟩
  | 26 => ⟨S69632x2816, .f32⟩
  | 27 => ⟨S69632x2816, .f32⟩
  | 28 => ⟨S69632x2816, .f32⟩
  | 29 => ⟨S_, .f32⟩
  | 30 => ⟨S69632x2816, .f32⟩
  | 31 => ⟨S69632x2816, .f32⟩
  | 32 => ⟨S_, .f32⟩
  | 33 => ⟨S69632x2816, .f32⟩
  | 34 => ⟨S69632x2816, .f32⟩
  | 35 => ⟨S69632x2816, .f32⟩
  | 36 => ⟨S1x1x1024x2816, .f32⟩
  | 37 => ⟨S1024x2816, .f32⟩
  | 38 => ⟨S69632x2816, .f32⟩
  | 39 => ⟨S69632x2816, .f32⟩
  | 40 => ⟨S1x1x2816x1024, .f32⟩
  | 41 => ⟨S2816x1024, .f32⟩
  | 42 => ⟨S69632x1024, .f32⟩
  | 43 => ⟨S69632x1024, .f32⟩
  | 44 => ⟨S69632x1024, .f32⟩
  | 45 => ⟨S69632x1024, .f32⟩
  | 46 => ⟨S69632x1, .f32⟩
  | 47 => ⟨S1x1x1024x2816, .f32⟩
  | 48 => ⟨S1024x2816, .f32⟩
  | 49 => ⟨S69632x2816, .f32⟩
  | 50 => ⟨S69632x2816, .f32⟩
  | 51 => ⟨S69632x2816, .f32⟩
  | 52 => ⟨S_, .f32⟩
  | 53 => ⟨S69632x2816, .f32⟩
  | 54 => ⟨S69632x2816, .f32⟩
  | 55 => ⟨S_, .f32⟩
  | 56 => ⟨S69632x2816, .f32⟩
  | 57 => ⟨S69632x2816, .f32⟩
  | 58 => ⟨S69632x2816, .f32⟩
  | 59 => ⟨S1x1x1024x2816, .f32⟩
  | 60 => ⟨S1024x2816, .f32⟩
  | 61 => ⟨S69632x2816, .f32⟩
  | 62 => ⟨S69632x2816, .f32⟩
  | 63 => ⟨S1x1x2816x1024, .f32⟩
  | 64 => ⟨S2816x1024, .f32⟩
  | 65 => ⟨S69632x1024, .f32⟩
  | 66 => ⟨S69632x1024, .f32⟩
  | 67 => ⟨S69632x1024, .f32⟩
  | 68 => ⟨S69632x1024, .f32⟩
  | 69 => ⟨S69632x1, .f32⟩
  | 70 => ⟨S1x1x1024x2816, .f32⟩
  | 71 => ⟨S1024x2816, .f32⟩
  | 72 => ⟨S69632x2816, .f32⟩
  | 73 => ⟨S69632x2816, .f32⟩
  | 74 => ⟨S69632x2816, .f32⟩
  | 75 => ⟨S_, .f32⟩
  | 76 => ⟨S69632x2816, .f32⟩
  | 77 => ⟨S69632x2816, .f32⟩
  | 78 => ⟨S_, .f32⟩
  | 79 => ⟨S69632x2816, .f32⟩
  | 80 => ⟨S69632x2816, .f32⟩
  | 81 => ⟨S69632x2816, .f32⟩
  | 82 => ⟨S1x1x1024x2816, .f32⟩
  | 83 => ⟨S1024x2816, .f32⟩
  | 84 => ⟨S69632x2816, .f32⟩
  | 85 => ⟨S69632x2816, .f32⟩
  | 86 => ⟨S1x1x2816x1024, .f32⟩
  | 87 => ⟨S2816x1024, .f32⟩
  | 88 => ⟨S69632x1024, .f32⟩
  | 89 => ⟨S69632x1024, .f32⟩
  | 90 => ⟨S69632x1024, .f32⟩
  | 91 => ⟨S69632x1024, .f32⟩
  | 92 => ⟨S69632x1, .f32⟩
  | 93 => ⟨S1x1x1024x2816, .f32⟩
  | 94 => ⟨S1024x2816, .f32⟩
  | 95 => ⟨S69632x2816, .f32⟩
  | 96 => ⟨S69632x2816, .f32⟩
  | 97 => ⟨S69632x2816, .f32⟩
  | 98 => ⟨S_, .f32⟩
  | 99 => ⟨S69632x2816, .f32⟩
  | 100 => ⟨S69632x2816, .f32⟩
  | 101 => ⟨S_, .f32⟩
  | 102 => ⟨S69632x2816, .f32⟩
  | 103 => ⟨S69632x2816, .f32⟩
  | 104 => ⟨S69632x2816, .f32⟩
  | 105 => ⟨S1x1x1024x2816, .f32⟩
  | 106 => ⟨S1024x2816, .f32⟩
  | 107 => ⟨S69632x2816, .f32⟩
  | 108 => ⟨S69632x2816, .f32⟩
  | 109 => ⟨S1x1x2816x1024, .f32⟩
  | 110 => ⟨S2816x1024, .f32⟩
  | 111 => ⟨S69632x1024, .f32⟩
  | 112 => ⟨S69632x1024, .f32⟩
  | 113 => ⟨S69632x1024, .f32⟩
  | 114 => ⟨S69632x1024, .f32⟩
  | 115 => ⟨S69632x1, .f32⟩
  | 116 => ⟨S1x1x1024x2816, .f32⟩
  | 117 => ⟨S1024x2816, .f32⟩
  | 118 => ⟨S69632x2816, .f32⟩
  | 119 => ⟨S69632x2816, .f32⟩
  | 120 => ⟨S69632x2816, .f32⟩
  | 121 => ⟨S_, .f32⟩
  | 122 => ⟨S69632x2816, .f32⟩
  | 123 => ⟨S69632x2816, .f32⟩
  | 124 => ⟨S_, .f32⟩
  | 125 => ⟨S69632x2816, .f32⟩
  | 126 => ⟨S69632x2816, .f32⟩
  | 127 => ⟨S69632x2816, .f32⟩
  | _ => ⟨S136, .i32⟩

abbrev hbmTy0_1 (i : Nat) : BufTy := match i % 128 with
  | 0 => ⟨S1x1x1024x2816, .f32⟩
  | 1 => ⟨S1024x2816, .f32⟩
  | 2 => ⟨S69632x2816, .f32⟩
  | 3 => ⟨S69632x2816, .f32⟩
  | 4 => ⟨S1x1x2816x1024, .f32⟩
  | 5 => ⟨S2816x1024, .f32⟩
  | 6 => ⟨S69632x1024, .f32⟩
  | 7 => ⟨S69632x1024, .f32⟩
  | 8 => ⟨S69632x1024, .f32⟩
  | 9 => ⟨S69632x1024, .f32⟩
  | 10 => ⟨S69632x1, .f32⟩
  | 11 => ⟨S1x1x1024x2816, .f32⟩
  | 12 => ⟨S1024x2816, .f32⟩
  | 13 => ⟨S69632x2816, .f32⟩
  | 14 => ⟨S69632x2816, .f32⟩
  | 15 => ⟨S69632x2816, .f32⟩
  | 16 => ⟨S_, .f32⟩
  | 17 => ⟨S69632x2816, .f32⟩
  | 18 => ⟨S69632x2816, .f32⟩
  | 19 => ⟨S_, .f32⟩
  | 20 => ⟨S69632x2816, .f32⟩
  | 21 => ⟨S69632x2816, .f32⟩
  | 22 => ⟨S69632x2816, .f32⟩
  | 23 => ⟨S1x1x1024x2816, .f32⟩
  | 24 => ⟨S1024x2816, .f32⟩
  | 25 => ⟨S69632x2816, .f32⟩
  | 26 => ⟨S69632x2816, .f32⟩
  | 27 => ⟨S1x1x2816x1024, .f32⟩
  | 28 => ⟨S2816x1024, .f32⟩
  | 29 => ⟨S69632x1024, .f32⟩
  | 30 => ⟨S69632x1024, .f32⟩
  | 31 => ⟨S69632x1024, .f32⟩
  | 32 => ⟨S69632x1024, .f32⟩
  | 33 => ⟨S69632x1, .f32⟩
  | 34 => ⟨S1x1x1024x2816, .f32⟩
  | 35 => ⟨S1024x2816, .f32⟩
  | 36 => ⟨S69632x2816, .f32⟩
  | 37 => ⟨S69632x2816, .f32⟩
  | 38 => ⟨S69632x2816, .f32⟩
  | 39 => ⟨S_, .f32⟩
  | 40 => ⟨S69632x2816, .f32⟩
  | 41 => ⟨S69632x2816, .f32⟩
  | 42 => ⟨S_, .f32⟩
  | 43 => ⟨S69632x2816, .f32⟩
  | 44 => ⟨S69632x2816, .f32⟩
  | 45 => ⟨S69632x2816, .f32⟩
  | 46 => ⟨S1x1x1024x2816, .f32⟩
  | 47 => ⟨S1024x2816, .f32⟩
  | 48 => ⟨S69632x2816, .f32⟩
  | 49 => ⟨S69632x2816, .f32⟩
  | 50 => ⟨S1x1x2816x1024, .f32⟩
  | 51 => ⟨S2816x1024, .f32⟩
  | 52 => ⟨S69632x1024, .f32⟩
  | 53 => ⟨S69632x1024, .f32⟩
  | 54 => ⟨S69632x1024, .f32⟩
  | 55 => ⟨S69632x1024, .f32⟩
  | 56 => ⟨S69632x1, .f32⟩
  | 57 => ⟨S1x1x1024x2816, .f32⟩
  | 58 => ⟨S1024x2816, .f32⟩
  | 59 => ⟨S69632x2816, .f32⟩
  | 60 => ⟨S69632x2816, .f32⟩
  | 61 => ⟨S69632x2816, .f32⟩
  | 62 => ⟨S_, .f32⟩
  | 63 => ⟨S69632x2816, .f32⟩
  | 64 => ⟨S69632x2816, .f32⟩
  | 65 => ⟨S_, .f32⟩
  | 66 => ⟨S69632x2816, .f32⟩
  | 67 => ⟨S69632x2816, .f32⟩
  | 68 => ⟨S69632x2816, .f32⟩
  | 69 => ⟨S1x1x1024x2816, .f32⟩
  | 70 => ⟨S1024x2816, .f32⟩
  | 71 => ⟨S69632x2816, .f32⟩
  | 72 => ⟨S69632x2816, .f32⟩
  | 73 => ⟨S1x1x2816x1024, .f32⟩
  | 74 => ⟨S2816x1024, .f32⟩
  | 75 => ⟨S69632x1024, .f32⟩
  | 76 => ⟨S69632x1024, .f32⟩
  | 77 => ⟨S69632x1024, .f32⟩
  | 78 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call3_v0 : Ref sig .tc := ⟨.hbm, 73, rfl⟩
abbrev main_call3_v1 : Ref sig .tc := ⟨.hbm, 74, rfl⟩
abbrev main_call3_cst : Ref sig .tc := ⟨.hbm, 75, rfl⟩
abbrev main_call3_v2 : Ref sig .tc := ⟨.hbm, 76, rfl⟩
abbrev main_call3_v3 : Ref sig .tc := ⟨.hbm, 77, rfl⟩
abbrev main_call3_cst_0 : Ref sig .tc := ⟨.hbm, 78, rfl⟩
abbrev main_call3_v4 : Ref sig .tc := ⟨.hbm, 79, rfl⟩
abbrev main_call3_v5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_call4_v0 : Ref sig .tc := ⟨.hbm, 96, rfl⟩
abbrev main_call4_v1 : Ref sig .tc := ⟨.hbm, 97, rfl⟩
abbrev main_call4_cst : Ref sig .tc := ⟨.hbm, 98, rfl⟩
abbrev main_call4_v2 : Ref sig .tc := ⟨.hbm, 99, rfl⟩
abbrev main_call4_v3 : Ref sig .tc := ⟨.hbm, 100, rfl⟩
abbrev main_call4_cst_0 : Ref sig .tc := ⟨.hbm, 101, rfl⟩
abbrev main_call4_v4 : Ref sig .tc := ⟨.hbm, 102, rfl⟩
abbrev main_call4_v5 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call5_v0 : Ref sig .tc := ⟨.hbm, 119, rfl⟩
abbrev main_call5_v1 : Ref sig .tc := ⟨.hbm, 120, rfl⟩
abbrev main_call5_cst : Ref sig .tc := ⟨.hbm, 121, rfl⟩
abbrev main_call5_v2 : Ref sig .tc := ⟨.hbm, 122, rfl⟩
abbrev main_call5_v3 : Ref sig .tc := ⟨.hbm, 123, rfl⟩
abbrev main_call5_cst_0 : Ref sig .tc := ⟨.hbm, 124, rfl⟩
abbrev main_call5_v4 : Ref sig .tc := ⟨.hbm, 125, rfl⟩
abbrev main_call5_v5 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call6_v0 : Ref sig .tc := ⟨.hbm, 142, rfl⟩
abbrev main_call6_v1 : Ref sig .tc := ⟨.hbm, 143, rfl⟩
abbrev main_call6_cst : Ref sig .tc := ⟨.hbm, 144, rfl⟩
abbrev main_call6_v2 : Ref sig .tc := ⟨.hbm, 145, rfl⟩
abbrev main_call6_v3 : Ref sig .tc := ⟨.hbm, 146, rfl⟩
abbrev main_call6_cst_0 : Ref sig .tc := ⟨.hbm, 147, rfl⟩
abbrev main_call6_v4 : Ref sig .tc := ⟨.hbm, 148, rfl⟩
abbrev main_call6_v5 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_call7_v0 : Ref sig .tc := ⟨.hbm, 165, rfl⟩
abbrev main_call7_v1 : Ref sig .tc := ⟨.hbm, 166, rfl⟩
abbrev main_call7_cst : Ref sig .tc := ⟨.hbm, 167, rfl⟩
abbrev main_call7_v2 : Ref sig .tc := ⟨.hbm, 168, rfl⟩
abbrev main_call7_v3 : Ref sig .tc := ⟨.hbm, 169, rfl⟩
abbrev main_call7_cst_0 : Ref sig .tc := ⟨.hbm, 170, rfl⟩
abbrev main_call7_v4 : Ref sig .tc := ⟨.hbm, 171, rfl⟩
abbrev main_call7_v5 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_call8_v0 : Ref sig .tc := ⟨.hbm, 188, rfl⟩
abbrev main_call8_v1 : Ref sig .tc := ⟨.hbm, 189, rfl⟩
abbrev main_call8_cst : Ref sig .tc := ⟨.hbm, 190, rfl⟩
abbrev main_call8_v2 : Ref sig .tc := ⟨.hbm, 191, rfl⟩
abbrev main_call8_v3 : Ref sig .tc := ⟨.hbm, 192, rfl⟩
abbrev main_call8_cst_0 : Ref sig .tc := ⟨.hbm, 193, rfl⟩
abbrev main_call8_v4 : Ref sig .tc := ⟨.hbm, 194, rfl⟩
abbrev main_call8_v5 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩

abbrev nD : Nat := 1
abbrev τ : Topo := Topo.v7x

variable {F : FTy → Type} [FloatOps F]
-- ==== Inp.lean ====
abbrev S16x2048x1024 : Shape := ⟨3, ![16, 2048, 1024]⟩
abbrev S2x1024 : Shape := ⟨2, ![2, 1024]⟩
abbrev S1x1024x4112 : Shape := ⟨3, ![1, 1024, 4112]⟩
abbrev S1x64 : Shape := ⟨2, ![1, 64]⟩
abbrev S1024x4112 : Shape := ⟨2, ![1024, 4112]⟩
abbrev S32768x1024 : Shape := ⟨2, ![32768, 1024]⟩
abbrev S1x1024 : Shape := ⟨2, ![1, 1024]⟩
abbrev S1024 : Shape := ⟨1, ![1024]⟩
abbrev S1024x1024 : Shape := ⟨2, ![1024, 1024]⟩
abbrev S1024x1536 : Shape := ⟨2, ![1024, 1536]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S64 : Shape := ⟨1, ![64]⟩
abbrev S16x64 : Shape := ⟨2, ![16, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S32768x1536 : Shape := ⟨2, ![32768, 1536]⟩
abbrev S32768x128 : Shape := ⟨2, ![32768, 128]⟩
abbrev S32768x256 : Shape := ⟨2, ![32768, 256]⟩
abbrev S512x1024 : Shape := ⟨2, ![512, 1024]⟩
abbrev S512x1536 : Shape := ⟨2, ![512, 1536]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 66
  | .vmem => 24
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x4112, .f32⟩
  | .hbm, ⟨3, _⟩ => ⟨S1x64, .f32⟩
  | .hbm, ⟨4, _⟩ => ⟨S1x64, .f32⟩
  | .hbm, ⟨5, _⟩ => ⟨S1024x4112, .f32⟩
  | .hbm, ⟨6, _⟩ => ⟨S32768x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S1024x1536, .f32⟩
  | .hbm, ⟨13, _⟩ => ⟨S1024x1536, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x1024, .f32⟩
  | .hbm, ⟨20, _⟩ => ⟨S1024x1024, .bf16⟩
  | .hbm, ⟨21, _⟩ => ⟨S1024x256, .f32⟩
  | .hbm, ⟨22, _⟩ => ⟨S1024x256, .bf16⟩
  | .hbm, ⟨23, _⟩ => ⟨S1024x256, .f32⟩
  | .hbm, ⟨24, _⟩ => ⟨S1024x256, .bf16⟩
  | .hbm, ⟨25, _⟩ => ⟨S64, .f32⟩
  | .hbm, ⟨26, _⟩ => ⟨S1x64, .f32⟩
  | .hbm, ⟨27, _⟩ => ⟨S16x64, .f32⟩
  | .hbm, ⟨28, _⟩ => ⟨S1024, .f32⟩
  | .hbm, ⟨29, _⟩ => ⟨S1x1024, .f32⟩
  | .hbm, ⟨30, _⟩ => ⟨S64, .f32⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S256, .i32⟩
  | .hbm, ⟨36, _⟩ => ⟨S_, .i32⟩
  | .hbm, ⟨37, _⟩ => ⟨S_, .i32⟩
  | .hbm, ⟨38, _⟩ => ⟨S256, .i32⟩
  | .hbm, ⟨39, _⟩ => ⟨S256, .i32⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S256, .i32⟩
  | .hbm, ⟨45, _⟩ => ⟨S256, .i32⟩
  | .hbm, ⟨46, _⟩ => ⟨S_, .i32⟩
  | .hbm, ⟨47, _⟩ => ⟨S256, .i32⟩
  | .hbm, ⟨48, _⟩ => ⟨S256, .i1⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S1x256, .i32⟩
  | .hbm, ⟨56, _⟩ => ⟨S256x256, .i32⟩
  | .hbm, ⟨57, _⟩ => ⟨S256x256, .i32⟩
  | .hbm, ⟨58, _⟩ => ⟨S256x256, .i1⟩
  | .hbm, ⟨59, _⟩ => ⟨S256x256, .bf16⟩
  | .hbm, ⟨60, _⟩ => ⟨S32768x1024, .bf16⟩
  | .hbm, ⟨61, _⟩ => ⟨S32768x1536, .f32⟩
  | .hbm, ⟨62, _⟩ => ⟨S32768x128, .f32⟩
  | .hbm, ⟨63, _⟩ => ⟨S32768x1024, .bf16⟩
  | .hbm, ⟨64, _⟩ => ⟨S32768x256, .f32⟩
  | .hbm, ⟨65, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S1024x1024, .bf16⟩
  | .local _ .vmem, ⟨7, _⟩ => ⟨S1024x256, .bf16⟩
  | .local _ .vmem, ⟨8, _⟩ => ⟨S1024x256, .bf16⟩
  | .local _ .vmem, ⟨9, _⟩ => ⟨S1x1024, .f32⟩
  | .local _ .vmem, ⟨10, _⟩ => ⟨S1x256, .f32⟩
  | .local _ .vmem, ⟨11, _⟩ => ⟨S256x256, .bf16⟩
  | .local _ .vmem, ⟨12, _⟩ => ⟨S512x1024, .bf16⟩
  | .local _ .vmem, ⟨13, _⟩ => ⟨S512x1024, .bf16⟩
  | .local _ .vmem, ⟨14, _⟩ => ⟨S512x1536, .f32⟩
  | .local _ .vmem, ⟨15, _⟩ => ⟨S512x1536, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36_0 : Ref sig .tc := ⟨.hbm, 60, rfl⟩
abbrev main_v36_1 : Ref sig .tc := ⟨.hbm, 61, rfl⟩
abbrev main_v36_2 : Ref sig .tc := ⟨.hbm, 62, rfl⟩
abbrev main_v36_3 : Ref sig .tc := ⟨.hbm, 63, rfl⟩
abbrev main_v36_4 : Ref sig .tc := ⟨.hbm, 64, rfl⟩
abbrev main_v36_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InpRefIdeal.lean ====
abbrev S16x2048x1024 : Shape := ⟨3, ![16, 2048, 1024]⟩
abbrev S2x1024 : Shape := ⟨2, ![2, 1024]⟩
abbrev S1x1024x4112 : Shape := ⟨3, ![1, 1024, 4112]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x4112 : Shape := ⟨2, ![1024, 4112]⟩
abbrev S16x2048x4112 : Shape := ⟨3, ![16, 2048, 4112]⟩
abbrev S16x2048x1536 : Shape := ⟨3, ![16, 2048, 1536]⟩
abbrev S16x2048x16 : Shape := ⟨3, ![16, 2048, 16]⟩
abbrev S16x2048x256 : Shape := ⟨3, ![16, 2048, 256]⟩
abbrev S16x2048x16x64 : Shape := ⟨4, ![16, 2048, 16, 64]⟩
abbrev S64 : Shape := ⟨1, ![64]⟩
abbrev S16x2048x16x1 : Shape := ⟨4, ![16, 2048, 16, 1]⟩
abbrev S1x1x1x64 : Shape := ⟨4, ![1, 1, 1, 64]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x128 : Shape := ⟨3, ![16, 2048, 128]⟩
abbrev S32768x1024 : Shape := ⟨2, ![32768, 1024]⟩
abbrev S32768x1536 : Shape := ⟨2, ![32768, 1536]⟩
abbrev S32768x128 : Shape := ⟨2, ![32768, 128]⟩
abbrev S32768x256 : Shape := ⟨2, ![32768, 256]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S1x1024x4112, .f32⟩
  | .hbm, ⟨3, _⟩ => ⟨S1x64, .f32⟩
  | .hbm, ⟨4, _⟩ => ⟨S1x64, .f32⟩
  | .hbm, ⟨5, _⟩ => ⟨S1x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x4112, .f32⟩
  | .hbm, ⟨24, _⟩ => ⟨S16x2048x4112, .f32⟩
  | .hbm, ⟨25, _⟩ => ⟨S16x2048x1024, .f32⟩
  | .hbm, ⟨26, _⟩ => ⟨S16x2048x1536, .f32⟩
  | .hbm, ⟨27, _⟩ => ⟨S16x2048x16, .f32⟩
  | .hbm, ⟨28, _⟩ => ⟨S16x2048x1024, .f32⟩
  | .hbm, ⟨29, _⟩ => ⟨S16x2048x256, .f32⟩
  | .hbm, ⟨30, _⟩ => ⟨S16x2048x256, .f32⟩
  | .hbm, ⟨31, _⟩ => ⟨S16x2048x16x64, .f32⟩
  | .hbm, ⟨32, _⟩ => ⟨S64, .f32⟩
  | .hbm, ⟨33, _⟩ => ⟨S16x2048x16x64, .f32⟩
  | .hbm, ⟨34, _⟩ => ⟨S_, .f32⟩
  | .hbm, ⟨35, _⟩ => ⟨S16x2048x16, .f32⟩
  | .hbm, ⟨36, _⟩ => ⟨S16x2048x16x1, .f32⟩
  | .hbm, ⟨37, _⟩ => ⟨S_, .f32⟩
  | .hbm, ⟨38, _⟩ => ⟨S16x2048x16x1, .f32⟩
  | .hbm, ⟨39, _⟩ => ⟨S16x2048x16x1, .f32⟩
  | .hbm, ⟨40, _⟩ => ⟨S_, .f32⟩
  | .hbm, ⟨41, _⟩ => ⟨S16x2048x16x1, .f32⟩
  | .hbm, ⟨42, _⟩ => ⟨S16x2048x16x1, .f32⟩
  | .hbm, ⟨43, _⟩ => ⟨S16x2048x16x1, .f32⟩
  | .hbm, ⟨44, _⟩ => ⟨S16x2048x16x64, .f32⟩
  | .hbm, ⟨45, _⟩ => ⟨S16x2048x16x64, .f32⟩
  | .hbm, ⟨46, _⟩ => ⟨S1x1x1x64, .f32⟩
  | .hbm, ⟨47, _⟩ => ⟨S16x2048x16x64, .f32⟩
  | .hbm, ⟨48, _⟩ => ⟨S16x2048x16x64, .f32⟩
  | .hbm, ⟨49, _⟩ => ⟨S16x2048x4x64, .f32⟩
  | .hbm, ⟨50, _⟩ => ⟨S64, .f32⟩
  | .hbm, ⟨51, _⟩ => ⟨S16x2048x4x64, .f32⟩
  | .hbm, ⟨52, _⟩ => ⟨S_, .f32⟩
  | .hbm, ⟨53, _⟩ => ⟨S16x2048x4, .f32⟩
  | .hbm, ⟨54, _⟩ => ⟨S16x2048x4x1, .f32⟩
  | .hbm, ⟨55, _⟩ => ⟨S_, .f32⟩
  | .hbm, ⟨56, _⟩ => ⟨S16x2048x4x1, .f32⟩
  | .hbm, ⟨57, _⟩ => ⟨S16x2048x4x1, .f32⟩
  | .hbm, ⟨58, _⟩ => ⟨S_, .f32⟩
  | .hbm, ⟨59, _⟩ => ⟨S16x2048x4x1, .f32⟩
  | .hbm, ⟨60, _⟩ => ⟨S16x2048x4x1, .f32⟩
  | .hbm, ⟨61, _⟩ => ⟨S16x2048x4x1, .f32⟩
  | .hbm, ⟨62, _⟩ => ⟨S16x2048x4x64, .f32⟩
  | .hbm, ⟨63, _⟩ => ⟨S16x2048x4x64, .f32⟩
  | .hbm, ⟨64, _⟩ => ⟨S1x1x1x64, .f32⟩
  | .hbm, ⟨65, _⟩ => ⟨S16x2048x4x64, .f32⟩
  | .hbm, ⟨66, _⟩ => ⟨S16x2048x4x64, .f32⟩
  | .hbm, ⟨67, _⟩ => ⟨S_, .i32⟩
  | .hbm, ⟨68, _⟩ => ⟨S_, .f32⟩
  | .hbm, ⟨69, _⟩ => ⟨S16x2048x128, .f32⟩
  | .hbm, ⟨70, _⟩ => ⟨S32768x1024, .f32⟩
  | .hbm, ⟨71, _⟩ => ⟨S32768x1024, .bf16⟩
  | .hbm, ⟨72, _⟩ => ⟨S32768x1536, .f32⟩
  | .hbm, ⟨73, _⟩ => ⟨S32768x128, .f32⟩
  | .hbm, ⟨74, _⟩ => ⟨S32768x1024, .f32⟩
  | .hbm, ⟨75, _⟩ => ⟨S32768x1024, .bf16⟩
  | .hbm, ⟨76, _⟩ => ⟨S32768x256, .f32⟩
  | .hbm, ⟨77, _⟩ => ⟨S32768x256, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c : Ref sig .tc := ⟨.hbm, 67, rfl⟩
abbrev main_call0_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩

abbrev nD : Nat := 1
abbrev τ : Topo := Topo.v7x

variable {F : FTy → Type} [FloatOps F]
-- ==== Prep.lean ====
abbrev S128x4x1024 : Shape := ⟨3, ![128, 4, 1024]⟩
abbrev S1x128x1024 : Shape := ⟨3, ![1, 128, 1024]⟩
abbrev S2x1024 : Shape := ⟨2, ![2, 1024]⟩
abbrev S1x6x1024 : Shape := ⟨3, ![1, 6, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x1024x1024 : Shape := ⟨3, ![1, 1024, 1024]⟩
abbrev S512x1024 : Shape := ⟨2, ![512, 1024]⟩
abbrev S128x1024 : Shape := ⟨2, ![128, 1024]⟩
abbrev S1024 : Shape := ⟨1, ![1024]⟩
abbrev S6x1024 : Shape := ⟨2, ![6, 1024]⟩
abbrev S1024x1024 : Shape := ⟨2, ![1024, 1024]⟩
abbrev S1024x64 : Shape := ⟨2, ![1024, 64]⟩
abbrev S64x1024 : Shape := ⟨2, ![64, 1024]⟩
abbrev S1024x128 : Shape := ⟨2, ![1024, 128]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S520x1024 : Shape := ⟨2, ![520, 1024]⟩
abbrev S512 : Shape := ⟨1, ![512]⟩
abbrev S512x1 : Shape := ⟨2, ![512, 1]⟩
abbrev S8x1024 : Shape := ⟨2, ![8, 1024]⟩
abbrev S512x64 : Shape := ⟨2, ![512, 64]⟩
abbrev S512x128 : Shape := ⟨2, ![512, 128]⟩
abbrev S512x256 : Shape := ⟨2, ![512, 256]⟩

abbrev nBuf : Space → Nat
  | .hbm => 84
  | .vmem => 27
  | .smem => 0
  | _ => 0

abbrev bufTy : (tb : Table) → Fin (tcTables nBuf tb) → BufTy
  | .hbm, ⟨0, _⟩ => ⟨S128x4x1024, .f32⟩
  | .hbm, ⟨1, _⟩ => ⟨S1x128x1024, .f32⟩
  | .hbm, ⟨2, _⟩ => ⟨S2x1024, .f32⟩
  | .hbm, ⟨3, _⟩ => ⟨S1x6x1024, .f32⟩
  | .hbm, ⟨4, _⟩ => ⟨S1x1024, .f32⟩
  | .hbm, ⟨5, _⟩ => ⟨S1x1024x64, .f32⟩
  | .hbm, ⟨6, _⟩ => ⟨S1x64x1024, .f32⟩
  | .hbm, ⟨7, _⟩ => ⟨S1x1024, .f32⟩
  | .hbm, ⟨8, _⟩ => ⟨S1x1024x64, .f32⟩
  | .hbm, ⟨9, _⟩ => ⟨S1x64x1024, .f32⟩
  | .hbm, ⟨10, _⟩ => ⟨S1x1024x128, .f32⟩
  | .hbm, ⟨11, _⟩ => ⟨S1x128x1024, .f32⟩
  | .hbm, ⟨12, _⟩ => ⟨S1x1024, .f32⟩
  | .hbm, ⟨13, _⟩ => ⟨S1x1024, .f32⟩
  | .hbm, ⟨14, _⟩ => ⟨S1x1024x1024, .f32⟩
  | .hbm, ⟨15, _⟩ => ⟨S1x1024x1024, .f32⟩
  | .hbm, ⟨16, _⟩ => ⟨S1x1024x1024, .f32⟩
  | .hbm, ⟨17, _⟩ => ⟨S512x1024, .f32⟩
  | .hbm, ⟨18, _⟩ => ⟨S128x1024, .f32⟩
  | .hbm, ⟨19, _⟩ => ⟨S128x4x1024, .f32⟩
  | .hbm, ⟨20, _⟩ => ⟨S512x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S6x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S1024x1024, .f32⟩
  | .hbm, ⟨38, _⟩ => ⟨S1024x1024, .bf16⟩
  | .hbm, ⟨39, _⟩ => ⟨S1024x64, .f32⟩
  | .hbm, ⟨40, _⟩ => ⟨S1024x64, .bf16⟩
  | .hbm, ⟨41, _⟩ => ⟨S64x1024, .f32⟩
  | .hbm, ⟨42, _⟩ => ⟨S64x1024, .bf16⟩
  | .hbm, ⟨43, _⟩ => ⟨S1024x64, .f32⟩
  | .hbm, ⟨44, _⟩ => ⟨S1024x64, .bf16⟩
  | .hbm, ⟨45, _⟩ => ⟨S64x1024, .f32⟩
  | .hbm, ⟨46, _⟩ => ⟨S64x1024, .bf16⟩
  | .hbm, ⟨47, _⟩ => ⟨S1024x128, .f32⟩
  | .hbm, ⟨48, _⟩ => ⟨S1024x128, .bf16⟩
  | .hbm, ⟨49, _⟩ => ⟨S128x1024, .f32⟩
  | .hbm, ⟨50, _⟩ => ⟨S128x1024, .bf16⟩
  | .hbm, ⟨51, _⟩ => ⟨S256, .i32⟩
  | .hbm, ⟨52, _⟩ => ⟨S_, .i32⟩
  | .hbm, ⟨53, _⟩ => ⟨S_, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S_, .i32⟩
  | .hbm, ⟨58, _⟩ => ⟨S256, .i32⟩
  | .hbm, ⟨59, _⟩ => ⟨S256, .i1⟩
  | .hbm, ⟨60, _⟩ => ⟨S256, .i32⟩
  | .hbm, ⟨61, _⟩ => ⟨S256, .i32⟩
  | .hbm, ⟨62, _⟩ => ⟨S_, .i32⟩
  | .hbm, ⟨63, _⟩ => ⟨S256, .i32⟩
  | .hbm, ⟨64, _⟩ => ⟨S256, .i1⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S256x1, .i32⟩
  | .hbm, ⟨71, _⟩ => ⟨S1x256, .i32⟩
  | .hbm, ⟨72, _⟩ => ⟨S256x256, .i32⟩
  | .hbm, ⟨73, _⟩ => ⟨S256x256, .i32⟩
  | .hbm, ⟨74, _⟩ => ⟨S256x256, .i1⟩
  | .hbm, ⟨75, _⟩ => ⟨S256x256, .bf16⟩
  | .hbm, ⟨76, _⟩ => ⟨S512x1024, .bf16⟩
  | .hbm, ⟨77, _⟩ => ⟨S512x1024, .f32⟩
  | .hbm, ⟨78, _⟩ => ⟨S512x1024, .bf16⟩
  | .hbm, ⟨79, _⟩ => ⟨S512x1024, .bf16⟩
  | .hbm, ⟨80, _⟩ => ⟨S512x1024, .bf16⟩
  | .hbm, ⟨81, _⟩ => ⟨S512x1024, .bf16⟩
  | .hbm, ⟨82, _⟩ => ⟨S512x1024, .bf16⟩
  | .hbm, ⟨83, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S6x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x64, .bf16⟩
  | .local _ .vmem, ⟨12, _⟩ => ⟨S64x1024, .bf16⟩
  | .local _ .vmem, ⟨13, _⟩ => ⟨S1024x64, .bf16⟩
  | .local _ .vmem, ⟨14, _⟩ => ⟨S64x1024, .bf16⟩
  | .local _ .vmem, ⟨15, _⟩ => ⟨S1024x128, .bf16⟩
  | .local _ .vmem, ⟨16, _⟩ => ⟨S128x1024, .bf16⟩
  | .local _ .vmem, ⟨17, _⟩ => ⟨S256x256, .bf16⟩
  | .local _ .vmem, ⟨18, _⟩ => ⟨S512x1024, .bf16⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S520x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42_0 : Ref sig .tc := ⟨.hbm, 76, rfl⟩
abbrev main_v42_1 : Ref sig .tc := ⟨.hbm, 77, rfl⟩
abbrev main_v42_2 : Ref sig .tc := ⟨.hbm, 78, rfl⟩
abbrev main_v42_3 : Ref sig .tc := ⟨.hbm, 79, rfl⟩
abbrev main_v42_4 : Ref sig .tc := ⟨.hbm, 80, rfl⟩
abbrev main_v42_5 : Ref sig .tc := ⟨.hbm, 81, rfl⟩
abbrev main_v42_6 : Ref sig .tc := ⟨.hbm, 82, rfl⟩
abbrev main_v42_7 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_scratch0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S512x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S512x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S512x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]
-- ==== PrepRefIdeal.lean ====
abbrev S128x4x1024 : Shape := ⟨3, ![128, 4, 1024]⟩
abbrev S1x128x1024 : Shape := ⟨3, ![1, 128, 1024]⟩
abbrev S2x1024 : Shape := ⟨2, ![2, 1024]⟩
abbrev S1x6x1024 : Shape := ⟨3, ![1, 6, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x1024x1024 : Shape := ⟨3, ![1, 1024, 1024]⟩
abbrev S_ : Shape := ⟨0, ![]⟩
abbrev S128x4 : Shape := ⟨2, ![128, 4]⟩
abbrev S128x4x1 : Shape := ⟨3, ![128, 4, 1]⟩
abbrev S1024 : Shape := ⟨1, ![1024]⟩
abbrev S1x1x1024 : Shape := ⟨3, ![1, 1, 1024]⟩
abbrev S128x1024 : Shape := ⟨2, ![128, 1024]⟩
abbrev S128x1x1024 : Shape := ⟨3, ![128, 1, 1024]⟩
abbrev S128x3x1024 : Shape := ⟨3, ![128, 3, 1024]⟩
abbrev S1024x1024 : Shape := ⟨2, ![1024, 1024]⟩
abbrev S1024x64 : Shape := ⟨2, ![1024, 64]⟩
abbrev S128x4x64 : Shape := ⟨3, ![128, 4, 64]⟩
abbrev S64x1024 : Shape := ⟨2, ![64, 1024]⟩
abbrev S1024x128 : Shape := ⟨2, ![1024, 128]⟩
abbrev S128x4x128 : Shape := ⟨3, ![128, 4, 128]⟩
abbrev S128x4x16x64 : Shape := ⟨4, ![128, 4, 16, 64]⟩
abbrev S128x4x16 : Shape := ⟨3, ![128, 4, 16]⟩
abbrev S128x4x16x1 : Shape := ⟨4, ![128, 4, 16, 1]⟩
abbrev S512x1024 : Shape := ⟨2, ![512, 1024]⟩

abbrev nBuf : Space → Nat
  | .hbm => 152
  | .vmem => 0
  | .smem => 0
  | _ => 0

abbrev hbmTy0_0 (i : Nat) : BufTy := match i % 128 with
  | 0 => ⟨S128x4x1024, .f32⟩
  | 1 => ⟨S1x128x1024, .f32⟩
  | 2 => ⟨S2x1024, .f32⟩
  | 3 => ⟨S1x6x1024, .f32⟩
  | 4 => ⟨S1x1024, .f32⟩
  | 5 => ⟨S1x1024x64, .f32⟩
  | 6 => ⟨S1x64x1024, .f32⟩
  | 7 => ⟨S1x1024, .f32⟩
  | 8 => ⟨S1x1024x64, .f32⟩
  | 9 => ⟨S1x64x1024, .f32⟩
  | 10 => ⟨S1x1024x128, .f32⟩
  | 11 => ⟨S1x128x1024, .f32⟩
  | 12 => ⟨S1x1024, .f32⟩
  | 13 => ⟨S1x1024, .f32⟩
  | 14 => ⟨S1x1024x1024, .f32⟩
  | 15 => ⟨S1x1024x1024, .f32⟩
  | 16 => ⟨S1x1024x1024, .f32⟩
  | 17 => ⟨S128x4x1024, .f32⟩
  | 18 => ⟨S_, .f32⟩
  | 19 => ⟨S128x4, .f32⟩
  | 20 => ⟨S128x4x1, .f32⟩
  | 21 => ⟨S_, .f32⟩
  | 22 => ⟨S128x4x1, .f32⟩
  | 23 => ⟨S128x4x1, .f32⟩
  | 24 => ⟨S_, .f32⟩
  | 25 => ⟨S128x4x1, .f32⟩
  | 26 => ⟨S128x4x1, .f32⟩
  | 27 => ⟨S128x4x1, .f32⟩
  | 28 => ⟨S128x4x1024, .f32⟩
  | 29 => ⟨S128x4x1024, .f32⟩
  | 30 => ⟨S1x1024, .f32⟩
  | 31 => ⟨S1024, .f32⟩
  | 32 => ⟨S1x1x1024, .f32⟩
  | 33 => ⟨S128x4x1024, .f32⟩
  | 34 => ⟨S128x4x1024, .f32⟩
  | 35 => ⟨S128x1024, .f32⟩
  | 36 => ⟨S128x1x1024, .f32⟩
  | 37 => ⟨S128x3x1024, .f32⟩
  | 38 => ⟨S128x4x1024, .f32⟩
  | 39 => ⟨S128x4x1024, .f32⟩
  | 40 => ⟨S1x1x1024, .f32⟩
  | 41 => ⟨S1024, .f32⟩
  | 42 => ⟨S1x1x1024, .f32⟩
  | 43 => ⟨S128x4x1024, .f32⟩
  | 44 => ⟨S128x4x1024, .f32⟩
  | 45 => ⟨S128x4x1024, .f32⟩
  | 46 => ⟨S1x1x1024, .f32⟩
  | 47 => ⟨S1024, .f32⟩
  | 48 => ⟨S1x1x1024, .f32⟩
  | 49 => ⟨S128x4x1024, .f32⟩
  | 50 => ⟨S128x4x1024, .f32⟩
  | 51 => ⟨S128x4x1024, .f32⟩
  | 52 => ⟨S1x1x1024, .f32⟩
  | 53 => ⟨S1024, .f32⟩
  | 54 => ⟨S1x1x1024, .f32⟩
  | 55 => ⟨S128x4x1024, .f32⟩
  | 56 => ⟨S128x4x1024, .f32⟩
  | 57 => ⟨S128x4x1024, .f32⟩
  | 58 => ⟨S1x1x1024, .f32⟩
  | 59 => ⟨S1024, .f32⟩
  | 60 => ⟨S1x1x1024, .f32⟩
  | 61 => ⟨S128x4x1024, .f32⟩
  | 62 => ⟨S128x4x1024, .f32⟩
  | 63 => ⟨S128x4x1024, .f32⟩
  | 64 => ⟨S1x1x1024, .f32⟩
  | 65 => ⟨S1024, .f32⟩
  | 66 => ⟨S1x1x1024, .f32⟩
  | 67 => ⟨S128x4x1024, .f32⟩
  | 68 => ⟨S128x4x1024, .f32⟩
  | 69 => ⟨S128x4x1024, .f32⟩
  | 70 => ⟨S1x1x1024, .f32⟩
  | 71 => ⟨S1024, .f32⟩
  | 72 => ⟨S1x1x1024, .f32⟩
  | 73 => ⟨S128x4x1024, .f32⟩
  | 74 => ⟨S128x4x1024, .f32⟩
  | 75 => ⟨S128x4x1024, .f32⟩
  | 76 => ⟨S1024x1024, .f32⟩
  | 77 => ⟨S128x4x1024, .f32⟩
  | 78 => ⟨S1024x1024, .f32⟩
  | 79 => ⟨S128x4x1024, .f32⟩
  | 80 => ⟨S1024x1024, .f32⟩
  | 81 => ⟨S128x4x1024, .f32⟩
  | 82 => ⟨S1024, .f32⟩
  | 83 => ⟨S1024x64, .f32⟩
  | 84 => ⟨S128x4x64, .f32⟩
  | 85 => ⟨S64x1024, .f32⟩
  | 86 => ⟨S128x4x1024, .f32⟩
  | 87 => ⟨S1x1x1024, .f32⟩
  | 88 => ⟨S128x4x1024, .f32⟩
  | 89 => ⟨S128x4x1024, .f32⟩
  | 90 => ⟨S128x4x1024, .f32⟩
  | 91 => ⟨S128x4x1024, .f32⟩
  | 92 => ⟨S_, .f32⟩
  | 93 => ⟨S128x4x1024, .f32⟩
  | 94 => ⟨S128x4x1024, .f32⟩
  | 95 => ⟨S_, .f32⟩
  | 96 => ⟨S128x4x1024, .f32⟩
  | 97 => ⟨S128x4x1024, .f32⟩
  | 98 => ⟨S1024x128, .f32⟩
  | 99 => ⟨S128x4x128, .f32⟩
  | 100 => ⟨S128x4x128, .f32⟩
  | 101 => ⟨S128x4x128, .f32⟩
  | 102 => ⟨S_, .f32⟩
  | 103 => ⟨S128x4x128, .f32⟩
  | 104 => ⟨S128x4x128, .f32⟩
  | 105 => ⟨S_, .f32⟩
  | 106 => ⟨S128x4x128, .f32⟩
  | 107 => ⟨S128x4x128, .f32⟩
  | 108 => ⟨S128x1024, .f32⟩
  | 109 => ⟨S128x4x1024, .f32⟩
  | 110 => ⟨S1024, .f32⟩
  | 111 => ⟨S1x1x1024, .f32⟩
  | 112 => ⟨S128x4x1024, .f32⟩
  | 113 => ⟨S128x4x1024, .f32⟩
  | 114 => ⟨S128x4x16x64, .f32⟩
  | 115 => ⟨S128x4x16x64, .f32⟩
  | 116 => ⟨S_, .f32⟩
  | 117 => ⟨S128x4x16, .f32⟩
  | 118 => ⟨S128x4x16x1, .f32⟩
  | 119 => ⟨S128x4x16x1, .f32⟩
  | 120 => ⟨S_, .f32⟩
  | 121 => ⟨S128x4x16x1, .f32⟩
  | 122 => ⟨S128x4x16x1, .f32⟩
  | 123 => ⟨S128x4x16x64, .f32⟩
  | 124 => ⟨S128x4x16x64, .f32⟩
  | 125 => ⟨S_, .f32⟩
  | 126 => ⟨S128x4x1024, .f32⟩
  | 127 => ⟨S128x4x1024, .f32⟩
  | _ => ⟨S128x4x1024, .f32⟩

abbrev hbmTy0_1 (i : Nat) : BufTy := match i % 128 with
  | 0 => ⟨S1024, .f32⟩
  | 1 => ⟨S1x1x1024, .f32⟩
  | 2 => ⟨S128x4x1024, .f32⟩
  | 3 => ⟨S128x4x1024, .f32⟩
  | 4 => ⟨S_, .f32⟩
  | 5 => ⟨S128x4x1024, .f32⟩
  | 6 => ⟨S128x4x1024, .f32⟩
  | 7 => ⟨S128x4x1024, .f32⟩
  | 8 => ⟨S512x1024, .f32⟩
  | 9 => ⟨S512x1024, .bf16⟩
  | 10 => ⟨S512x1024, .f32⟩
  | 11 => ⟨S512x1024, .bf16⟩
  | 12 => ⟨S512x1024, .f32⟩
  | 13 => ⟨S512x1024, .bf16⟩
  | 14 => ⟨S128x4x16x64, .f32⟩
  | 15 => ⟨S512x1024, .f32⟩
  | 16 => ⟨S512x1024, .bf16⟩
  | 17 => ⟨S128x4x16x64, .f32⟩
  | 18 => ⟨S128x4x16x64, .f32⟩
  | 19 => ⟨S512x1024, .f32⟩
  | 20 => ⟨S512x1024, .bf16⟩
  | 21 => ⟨S512x1024, .f32⟩
  | 22 => ⟨S512x1024, .bf16⟩
  | 23 => ⟨S512x1024, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_2 : Ref sig .tc := ⟨.hbm, 92, rfl⟩
abbrev main_v72 : Ref sig .tc := ⟨.hbm, 93, rfl⟩
abbrev main_v73 : Ref sig .tc := ⟨.hbm, 94, rfl⟩
abbrev main_cst_3 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_4 : Ref sig .tc := ⟨.hbm, 102, rfl⟩
abbrev main_v80 : Ref sig .tc := ⟨.hbm, 103, rfl⟩
abbrev main_v81 : Ref sig .tc := ⟨.hbm, 104, rfl⟩
abbrev main_cst_5 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_6 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_7 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_8 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_9 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩

abbrev nD : Nat := 1
abbrev τ : Topo := Topo.v7x

variable {F : FTy → Type} [FloatOps F]
-- ==== Proof.Softmax.lean ====
/- Hand-written: softmax with a sink over the extended reals. The kernel divides the weighted sum of the values by the denominator,
   the reference divides the weights; both agree where the scores below the mask are finite. -/
module

public import Idealize.ShloMosaic.Lib.Pointwise

@[expose] public section

noncomputable section

namespace Cert.Softmax

open Idealize.ShloMosaic

/-- The largest score of a row, the sink included. -/
def top {n : ℕ} (s : Fin n → EReal) (σ : EReal) : EReal := max (Finset.univ.fold max ⊥ s) σ

theorem fold_ne_top {n : ℕ} (s : Fin n → EReal) (hs : ∀ k, s k ≠ ⊤) (S : Finset (Fin n)) : S.fold max ⊥ s ≠ ⊤ := by
  classical
  induction S using Finset.induction_on with
  | empty => simp
  | insert a S h ih =>
    rw [Finset.fold_insert h]
    exact ne_of_lt (max_lt (lt_top_iff_ne_top.2 (hs a)) (lt_top_iff_ne_top.2 ih))

theorem top_real {n : ℕ} (s : Fin n → EReal) (hs : ∀ k, s k ≠ ⊤) (σ : ℝ) : ∃ μ : ℝ, top s (σ : EReal) = μ := by
  have h1 : top s (σ : EReal) ≠ ⊤ :=
    ne_of_lt (max_lt (lt_top_iff_ne_top.2 (fold_ne_top s hs _)) (EReal.coe_lt_top σ))
  have h2 : top s (σ : EReal) ≠ ⊥ := (lt_of_lt_of_le (EReal.bot_lt_coe σ) (le_max_right _ _)).ne'
  exact ⟨_, (EReal.coe_toReal h1 h2).symm⟩

/-- The weight of a score: nonnegative, finite, and zero under the mask. -/
theorem weight {x : EReal} (hx : x ≠ ⊤) (μ : ℝ) :
    ∃ p : ℝ, 0 ≤ p ∧ Ideal.exp (x - (μ : EReal)) = (p : EReal) ∧ (x = ⊥ → p = 0) := by
  induction x using EReal.rec with
  | bot => exact ⟨0, le_refl _, by rw [EReal.bot_sub]; simp, fun _ => rfl⟩
  | top => exact absurd rfl hx
  | coe r =>
    refine ⟨Real.exp (r - μ), (Real.exp_pos _).le, ?_, fun h => absurd h (EReal.coe_ne_bot r)⟩
    rw [← EReal.coe_sub]; rfl

theorem sum_mul_coe {n : ℕ} (f : Fin n → EReal) (c : ℝ) (hc : 0 ≤ c) : (∑ k, f k) * (c : EReal) = ∑ k, f k * (c : EReal) := by
  classical
  have h : ∀ S : Finset (Fin n), (∑ k ∈ S, f k) * (c : EReal) = ∑ k ∈ S, f k * (c : EReal) := fun S => by
    induction S using Finset.induction_on with
    | empty => simp
    | insert a S ha ih =>
      rw [Finset.sum_insert ha, Finset.sum_insert ha,
        EReal.right_distrib_of_nonneg_of_ne_top (by exact_mod_cast hc) (EReal.coe_ne_top c), ih]
  exact h _

theorem coe_sum {n : ℕ} (f : Fin n → ℝ) : ∑ k, (f k : EReal) = ((∑ k, f k : ℝ) : EReal) := by
  classical
  have h : ∀ S : Finset (Fin n), ∑ k ∈ S, (f k : EReal) = ((∑ k ∈ S, f k : ℝ) : EReal) := fun S => by
    induction S using Finset.induction_on with
    | empty => simp
    | insert a S ha ih => rw [Finset.sum_insert ha, Finset.sum_insert ha, ih, EReal.coe_add]
  exact h _

/-- One row: the weighted values over the denominator is the sum of the values by the divided weights. The value of a masked key
    is read by neither side. -/
theorem row {n : ℕ} (s : Fin n → EReal) (hs : ∀ k, s k ≠ ⊤) (σ : ℝ) (v v' : Fin n → EReal) (hv : ∀ k, s k = ⊥ ∨ v k = v' k) :
    Ideal.div (∑ k, Ideal.exp (s k - top s σ) * v k) (∑ k, Ideal.exp (s k - top s σ) + Ideal.exp ((σ : EReal) - top s σ))
      = ∑ k, v' k * Ideal.div (Ideal.exp (s k - top s σ)) (∑ k, Ideal.exp (s k - top s σ) + Ideal.exp ((σ : EReal) - top s σ)) := by
  obtain ⟨μ, hμ⟩ := top_real s hs σ
  rw [hμ]
  choose p hp0 hp hpm using fun k => weight (hs k) μ
  have he : Ideal.exp ((σ : EReal) - (μ : EReal)) = ((Real.exp (σ - μ) : ℝ) : EReal) := by
    rw [← EReal.coe_sub]; rfl
  have hD : 0 < (∑ k, p k) + Real.exp (σ - μ) :=
    add_pos_of_nonneg_of_pos (Finset.sum_nonneg fun k _ => hp0 k) (Real.exp_pos _)
  have hden : ∑ k, Ideal.exp (s k - (μ : EReal)) + Ideal.exp ((σ : EReal) - (μ : EReal))
      = (((∑ k, p k) + Real.exp (σ - μ) : ℝ) : EReal) := by
    rw [he, Finset.sum_congr rfl fun k _ => hp k, coe_sum, EReal.coe_add]
  rw [hden, Ideal.div_coe hD.ne', sum_mul_coe _ _ (by positivity)]
  refine Finset.sum_congr rfl fun k _ => ?_
  rw [Ideal.div_coe hD.ne', hp k, mul_comm ((p k : ℝ) : EReal) (v k), mul_assoc]
  rcases hv k with h | h
  · rw [hpm k h]; simp
  · rw [h]

/-- A scaled dot product of finite vectors: the scale before the sum or after it; the result is finite. -/
theorem scaled_dot {n : ℕ} (c : ℝ) (a b : Fin n → EReal) (ha : ∀ k, a k ≠ ⊤ ∧ a k ≠ ⊥) (hb : ∀ k, b k ≠ ⊤ ∧ b k ≠ ⊥) :
    ∑ k, a k * (c : EReal) * b k = (∑ k, b k * a k) * (c : EReal) ∧ ∑ k, a k * (c : EReal) * b k ≠ ⊤ := by
  choose x hx using fun k => (⟨_, (EReal.coe_toReal (ha k).1 (ha k).2).symm⟩ : ∃ r : ℝ, a k = r)
  choose y hy using fun k => (⟨_, (EReal.coe_toReal (hb k).1 (hb k).2).symm⟩ : ∃ r : ℝ, b k = r)
  have h1 : ∑ k, a k * (c : EReal) * b k = ((∑ k, x k * c * y k : ℝ) : EReal) := by
    rw [← coe_sum]; exact Finset.sum_congr rfl fun k _ => by rw [hx, hy, EReal.coe_mul, EReal.coe_mul]
  have h2 : ∑ k, b k * a k = ((∑ k, y k * x k : ℝ) : EReal) := by
    rw [← coe_sum]; exact Finset.sum_congr rfl fun k _ => by rw [hx, hy, EReal.coe_mul]
  refine ⟨?_, by rw [h1]; exact EReal.coe_ne_top _⟩
  rw [h1, h2, ← EReal.coe_mul, Finset.sum_mul]
  exact congrArg _ (Finset.sum_congr rfl fun k _ => by ring)

end Cert.Softmax

end
-- ==== Proof.SwaAt.lean ====
/- Hand-written: the attention kernel at one grid point, read at an index. -/
module

public import proofs.«01_k».proof.Proof.Gen.SwaIdeal.Value
public import proofs.«01_k».proof.Proof.Softmax
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SwaIdeal.At

open Cert.SwaIdeal Cert.SwaIdeal.Gen

theorem mask_val : (Named.named κ "mask" 0xF149F2CA#32 : Ideal .f32) = ⊥ :=
  IdealRules.named_const.ideal_named_scalar _ _ _ _ rfl

theorem negInf : Ideal.ofBits .f32 0xFF800000#32 = ⊥ := by
  simp [Ideal.ofBits, Ideal.ieee]

theorem ones : (k0_pay15 : FVec Ideal S256x64 .bf16) = fun _ => 1 := by
  funext i; pointwise [k0_pay15]

/-- A row of masked scores. -/
def maskedRow (M : IVec S512x256 1) (S : FVec Ideal S512x256 .f32) (R : Fin 512) (k : Fin 256) : EReal :=
  Scalar.select (M (ix2 R k)) (S (ix2 R k)) ⊥

/-- The attended value: the weighted sum of the values over the denominator. -/
def attend (s : Fin 256 → EReal) (σ : EReal) (v : Fin 256 → EReal) : EReal :=
  Ideal.div (∑ k : Fin 256, Ideal.exp (s k - Softmax.top s σ) * v k)
    (∑ k : Fin 256, Ideal.exp (s k - Softmax.top s σ) + Ideal.exp (σ - Softmax.top s σ))

/-- The division of one of the last two groups. -/
def quotient (P : FVec Ideal S512x256 .bf16) (E : FVec Ideal S512x1 .f32) (V : FVec Ideal S256x64 .bf16) : FVec Ideal S512x64 .f32 :=
  divf (matmul dot_S512x256_S256x64_S512x64_1_0_0_1_n_n none P V (constant S512x64 .f32 0x00000000#32))
    (addf (matmul dot_S512x256_S256x64_S512x64_1_0_0_1_n_n none P (k0_pay15 (F := Ideal)) (constant S512x64 .f32 0x00000000#32))
      (broadcastTo S512x64 E broadcasts_S512x1_S512x64))

theorem group0 (v11 : FVec Ideal S256x256 .bf16) (E : FVec Ideal S512x1 .f32) (v5 : FVec Ideal S256x256 .bf16) (M : IVec S512x256 1) (v45 : FVec Ideal S128x1024 .bf16) (R : Fin 512) (d : Fin 64) :
    k0_pay30 v11 E (fun _ => 1) (k0_pay19 v5 M v45) (k0_pay20 v5 M v45 E) (k0_pay21 v5 M v45 E) (ix2 R d)
      = attend (fun k => k0_pay19 v5 M v45 (ix2 R k)) (E (ix2 R 0)) fun k => v11 (ix2 k ⟨0 * 64 + d, by omega⟩) := by
  simp only [k0_pay20, k0_pay21]
  generalize k0_pay19 v5 M v45 = T
  pointwise [k0_pay30, negInf]
  simp only [attend, Softmax.top, Nat.zero_mul, Nat.zero_add]

theorem group1 (v11 : FVec Ideal S256x256 .bf16) (M : IVec S512x256 1) (E : FVec Ideal S512x1 .f32) (S : FVec Ideal S512x256 .f32) (R : Fin 512) (d : Fin 64) :
    k0_pay31 v11 M E (fun _ => 1) S (ix2 R d) = attend (maskedRow M S R) (E (ix2 R 0)) fun k => v11 (ix2 k ⟨1 * 64 + d, by omega⟩) := by
  pointwise [k0_pay31, mask_val, negInf]
  rfl

theorem group2 (v11 : FVec Ideal S256x256 .bf16) (M : IVec S512x256 1) (E : FVec Ideal S512x1 .f32) (S : FVec Ideal S512x256 .f32) (R : Fin 512) (d : Fin 64) :
    quotient (k0_pay24 M E S) (k0_pay25 M E S) (extractStridedSlice S256x64 ![0, 128] v11 slices_S256x256_o0_128_S256x64) (ix2 R d)
      = attend (maskedRow M S R) (E (ix2 R 0)) fun k => v11 (ix2 k ⟨2 * 64 + d, by omega⟩) := by
  pointwise [quotient, ones, k0_pay24, k0_pay25, k0_pay23, k0_pay22, mask_val, negInf]
  rfl

theorem group3 (v11 : FVec Ideal S256x256 .bf16) (M : IVec S512x256 1) (E : FVec Ideal S512x1 .f32) (S : FVec Ideal S512x256 .f32) (R : Fin 512) (d : Fin 64) :
    quotient (k0_pay28 M E S) (k0_pay29 M E S) (extractStridedSlice S256x64 ![0, 192] v11 slices_S256x256_o0_192_S256x64) (ix2 R d)
      = attend (maskedRow M S R) (E (ix2 R 0)) fun k => v11 (ix2 k ⟨3 * 64 + d, by omega⟩) := by
  pointwise [quotient, ones, k0_pay28, k0_pay29, k0_pay27, k0_pay26, mask_val, negInf]
  rfl

/-- The unmasked scores of one group of heads. -/
def dots (v5 : FVec Ideal S256x256 .bf16) (v45 : FVec Ideal S128x1024 .bf16) (g r : Fin 4) (q : Fin 128) (k : Fin 256) : EReal :=
  ∑ x : Fin 64, v45 (ix2 q ⟨((g : ℕ) * 4 + r) * 64 + x, by omega⟩) * Ideal.ofBits .bf16 0x3E00#16 * v5 (ix2 k ⟨(g : ℕ) * 64 + x, by omega⟩)

theorem score1 (v5 : FVec Ideal S256x256 .bf16) (v45 : FVec Ideal S128x1024 .bf16) (r : Fin 4) (q : Fin 128) (k : Fin 256) (R : Fin 512) (hR : (R : ℕ) = (r : ℕ) * 128 + q) :
    k0_pay16 v5 v45 (ix2 R k) = dots v5 v45 1 r q k := by
  pointwise [k0_pay16]
  unfold dots
  refine Finset.sum_congr rfl fun x _ => ?_
  split_ifs
  all_goals
    first
    | exact absurd r.isLt (by omega)
    | refine congrArg₂ (fun a b => v45 a * _ * v5 b) (congrArg₂ ix2 (Fin.ext ?_) (Fin.ext ?_)) (congrArg₂ ix2 rfl (Fin.ext ?_)) <;> (try simp only [Fin.val_mk]) <;> omega

theorem score2 (v5 : FVec Ideal S256x256 .bf16) (v45 : FVec Ideal S128x1024 .bf16) (r : Fin 4) (q : Fin 128) (k : Fin 256) (R : Fin 512) (hR : (R : ℕ) = (r : ℕ) * 128 + q) :
    k0_pay17 v5 v45 (ix2 R k) = dots v5 v45 2 r q k := by
  pointwise [k0_pay17]
  unfold dots
  refine Finset.sum_congr rfl fun x _ => ?_
  split_ifs
  all_goals
    first
    | exact absurd r.isLt (by omega)
    | refine congrArg₂ (fun a b => v45 a * _ * v5 b) (congrArg₂ ix2 (Fin.ext ?_) (Fin.ext ?_)) (congrArg₂ ix2 rfl (Fin.ext ?_)) <;> (try simp only [Fin.val_mk]) <;> omega

theorem score3 (v5 : FVec Ideal S256x256 .bf16) (v45 : FVec Ideal S128x1024 .bf16) (r : Fin 4) (q : Fin 128) (k : Fin 256) (R : Fin 512) (hR : (R : ℕ) = (r : ℕ) * 128 + q) :
    k0_pay18 v5 v45 (ix2 R k) = dots v5 v45 3 r q k := by
  pointwise [k0_pay18]
  unfold dots
  refine Finset.sum_congr rfl fun x _ => ?_
  split_ifs
  all_goals
    first
    | exact absurd r.isLt (by omega)
    | refine congrArg₂ (fun a b => v45 a * _ * v5 b) (congrArg₂ ix2 (Fin.ext ?_) (Fin.ext ?_)) (congrArg₂ ix2 rfl (Fin.ext ?_)) <;> (try simp only [Fin.val_mk]) <;> omega

theorem score0 (v5 : FVec Ideal S256x256 .bf16) (v45 : FVec Ideal S128x1024 .bf16) (r : Fin 4) (q : Fin 128) (k : Fin 256) (R : Fin 512) (hR : (R : ℕ) = (r : ℕ) * 128 + q) (M : IVec S512x256 1) :
    k0_pay19 v5 M v45 (ix2 R k) = Scalar.select (M (ix2 R k)) (dots v5 v45 0 r q k) ⊥ := by
  pointwise [k0_pay19, mask_val]
  refine congrArg (fun z => Scalar.select (M (ix2 R k)) z ⊥) ?_
  unfold dots
  refine Finset.sum_congr rfl fun x _ => ?_
  split_ifs
  all_goals
    first
    | exact absurd r.isLt (by omega)
    | refine congrArg₂ (fun a b => v45 a * _ * v5 b) (congrArg₂ ix2 (Fin.ext ?_) (Fin.ext ?_)) (congrArg₂ ix2 rfl (Fin.ext ?_)) <;> (try simp only [Fin.val_mk]) <;> omega

theorem sink0 (w : Fin 16 → Elt Ideal .f32) (r : Fin 4) (q : Fin 128) (R : Fin 512) (hR : (R : ℕ) = (r : ℕ) * 128 + q) :
    k0_pay9 (w 0) (w 1) (w 2) (w 3) (ix2 R 0) = w ⟨0 * 4 + r, by omega⟩ := by
  pointwise [k0_pay9]
  split_ifs
  all_goals
    first
    | exact absurd r.isLt (by omega)
    | (refine congrArg w (Fin.ext ?_); first | omega | (simp only [Fin.val_ofNat]; omega) | (simp; omega))

theorem sink1 (w : Fin 16 → Elt Ideal .f32) (r : Fin 4) (q : Fin 128) (R : Fin 512) (hR : (R : ℕ) = (r : ℕ) * 128 + q) :
    k0_pay10 (w 4) (w 5) (w 6) (w 7) (ix2 R 0) = w ⟨1 * 4 + r, by omega⟩ := by
  pointwise [k0_pay10]
  split_ifs
  all_goals
    first
    | exact absurd r.isLt (by omega)
    | (refine congrArg w (Fin.ext ?_); first | omega | (simp only [Fin.val_ofNat]; omega) | (simp; omega))

theorem sink2 (w : Fin 16 → Elt Ideal .f32) (r : Fin 4) (q : Fin 128) (R : Fin 512) (hR : (R : ℕ) = (r : ℕ) * 128 + q) :
    k0_pay11 (w 8) (w 9) (w 10) (w 11) (ix2 R 0) = w ⟨2 * 4 + r, by omega⟩ := by
  pointwise [k0_pay11]
  split_ifs
  all_goals
    first
    | exact absurd r.isLt (by omega)
    | (refine congrArg w (Fin.ext ?_); first | omega | (simp only [Fin.val_ofNat]; omega) | (simp; omega))

theorem sink3 (w : Fin 16 → Elt Ideal .f32) (r : Fin 4) (q : Fin 128) (R : Fin 512) (hR : (R : ℕ) = (r : ℕ) * 128 + q) :
    k0_pay14 (k0_pay12 (w 12)) (k0_pay13 (w 13)) (w 14) (w 15) (ix2 R 0) = w ⟨3 * 4 + r, by omega⟩ := by
  pointwise [k0_pay14, k0_pay12, k0_pay13]
  split_ifs
  all_goals
    first
    | exact absurd r.isLt (by omega)
    | (refine congrArg w (Fin.ext ?_); first | omega | (simp only [Fin.val_ofNat]; omega) | (simp; omega))

theorem cast_at (x : FVec Ideal S128x1024 .f32) (q : Fin 128) (e : Fin 1024) :
    shapeCast S1x128x1024 (truncf .bf16 x bitsLt_bf16_f32) shapeCasts_S128x1024_S1x128x1024 (ix3 0 q e) = x (ix2 q e) := by
  pointwise

theorem pieces (p : Fin 16 → FVec Ideal S128x64 .f32) (h) (q : Fin 128) (hh : Fin 16) (d : Fin 64) (e : Fin 1024) (he : (e : ℕ) = (hh : ℕ) * 64 + d) :
    concatenate S128x1024 1 [⟨S128x64, p 0⟩, ⟨S128x64, p 1⟩, ⟨S128x64, p 2⟩, ⟨S128x64, p 3⟩, ⟨S128x64, p 4⟩, ⟨S128x64, p 5⟩, ⟨S128x64, p 6⟩, ⟨S128x64, p 7⟩, ⟨S128x64, p 8⟩, ⟨S128x64, p 9⟩, ⟨S128x64, p 10⟩, ⟨S128x64, p 11⟩, ⟨S128x64, p 12⟩, ⟨S128x64, p 13⟩, ⟨S128x64, p 14⟩, ⟨S128x64, p 15⟩] h (ix2 q e) = p hh (ix2 q d) :=
  concatenate_ofFn_apply (t := S128x1024) 1 p h rfl 64 rfl (ix2 q e) hh (by show (e : ℕ) / 64 = hh; omega) (ix2 q d)
    (by show (d : ℕ) = (e : ℕ) % 64; omega) (fun b hb => by
      fin_cases b
      · rfl
      · exact absurd rfl hb)

theorem slice_at (x : FVec Ideal S512x64 .f32) (off : ℕ) (h : S512x64.Slices ![off, 0] S128x64) (q : Fin 128) (d : Fin 64) (R : Fin 512) (hR : (R : ℕ) = off + q) :
    extractStridedSlice S128x64 ![off, 0] x h (ix2 q d) = x (ix2 R d) := by
  refine congrArg x (funext fun a => Fin.ext ?_)
  fin_cases a
  · exact hR.symm
  · exact Nat.zero_add _

theorem slices : ∀ h : Fin 16, S512x64.Slices ![((h : ℕ) % 4) * 128, 0] S128x64 := by
  decide +kernel

theorem piece_at (Q : Fin 4 → FVec Ideal S512x64 .f32) (hh : Fin 16) (q : Fin 128) (d : Fin 64) (R : Fin 512) (hR : (R : ℕ) = (hh : ℕ) % 4 * 128 + q) :
    extractStridedSlice S128x64 ![((hh : ℕ) % 4) * 128, 0] (Q ⟨(hh : ℕ) / 4, by omega⟩) (slices hh) (ix2 q d) = Q ⟨(hh : ℕ) / 4, by omega⟩ (ix2 R d) :=
  slice_at _ _ _ q d R hR

/-- The four groups' outputs. -/
def groups (v11 : FVec Ideal S256x256 .bf16) (P2 P3 : FVec Ideal S512x256 .bf16) (E2 E3 : FVec Ideal S512x1 .f32) (O0 O1 : FVec Ideal S512x64 .f32) : Fin 4 → FVec Ideal S512x64 .f32 :=
  ![O0, O1, quotient P2 E2 (extractStridedSlice S256x64 ![0, 128] v11 slices_S256x256_o0_128_S256x64),
    quotient P3 E3 (extractStridedSlice S256x64 ![0, 192] v11 slices_S256x256_o0_192_S256x64)]

theorem stored_piece (v11 : FVec Ideal S256x256 .bf16) (P2 P3 : FVec Ideal S512x256 .bf16) (E2 E3 : FVec Ideal S512x1 .f32) (O0 O1 : FVec Ideal S512x64 .f32)
    (hh : Fin 16) (q : Fin 128) (d : Fin 64) (e : Fin 1024) (he : (e : ℕ) = (hh : ℕ) * 64 + d) :
    k0_pay1 v11 k0_pay15 P2 E2 P3 E3 O0 O1 (ix3 0 q e)
      = extractStridedSlice S128x64 ![((hh : ℕ) % 4) * 128, 0] (groups v11 P2 P3 E2 E3 O0 O1 ⟨(hh : ℕ) / 4, by omega⟩) (slices hh) (ix2 q d) := by
  unfold k0_pay1
  refine (cast_at _ q e).trans ?_
  exact pieces (fun h => extractStridedSlice S128x64 ![((h : ℕ) % 4) * 128, 0] (groups v11 P2 P3 E2 E3 O0 O1 ⟨(h : ℕ) / 4, by omega⟩) (slices h))
    _ q hh d e he

/-- What the kernel stores, from the groups' outputs. -/
theorem stored (v11 : FVec Ideal S256x256 .bf16) (P2 P3 : FVec Ideal S512x256 .bf16) (E2 E3 : FVec Ideal S512x1 .f32) (O0 O1 : FVec Ideal S512x64 .f32)
    (g r : Fin 4) (q : Fin 128) (d : Fin 64) (e : Fin 1024) (he : (e : ℕ) = ((g : ℕ) * 4 + r) * 64 + d) (R : Fin 512) (hR : (R : ℕ) = (r : ℕ) * 128 + q) :
    k0_pay1 v11 k0_pay15 P2 E2 P3 E3 O0 O1 (ix3 0 q e) = groups v11 P2 P3 E2 E3 O0 O1 g (ix2 R d) := by
  obtain ⟨hh, hhv⟩ : ∃ hh : Fin 16, (hh : ℕ) = (g : ℕ) * 4 + r := ⟨⟨(g : ℕ) * 4 + r, by omega⟩, rfl⟩
  have hg : (⟨(hh : ℕ) / 4, by omega⟩ : Fin 4) = g := Fin.ext (by show (hh : ℕ) / 4 = g; omega)
  rw [stored_piece v11 P2 P3 E2 E3 O0 O1 hh q d e (by rw [he, hhv]), piece_at _ hh q d R (by omega), hg]

/-- A row's number within its block, as the kernel computes it. -/
def within (x : BitVec 32) : BitVec 32 :=
  Scalar.select
    (IntOp.andi (IntOp.xori (IntOp.cmpi CmpIPredicate.slt (IntOp.remsi ArithUnit.vector x 128#32) 0#32) (Scalar.cmpi CmpIPredicate.slt 128#32 0#32))
      (IntOp.cmpi CmpIPredicate.ne (IntOp.remsi ArithUnit.vector x 128#32) 0#32))
    (IntOp.addi (IntOp.remsi ArithUnit.vector x 128#32) 128#32) (IntOp.remsi ArithUnit.vector x 128#32)

theorem within_eq : ∀ R : Fin 512, within (BitVec.ofNat 32 R) = BitVec.ofNat 32 ((R : ℕ) % 128) := by
  decide +kernel

/-- The kernel's mask. -/
theorem mask_at (n : BitVec 32) (R : Fin 512) (q : Fin 128) (hR : (R : ℕ) % 128 = q) (k : Fin 256) :
    k0_pay7 n (iota .tc S512x256 32 [1] iota_S512x256_d1_w32) k0_pay5 k0_pay6 (ix2 R k)
      = IntOp.andi
          (IntOp.andi
            (IntOp.cmpi CmpIPredicate.sge (IntOp.subi (IntOp.addi (BitVec.ofNat 32 q) 128#32) (BitVec.ofNat 32 k)) 0#32)
            (IntOp.cmpi CmpIPredicate.sle (IntOp.subi (IntOp.addi (BitVec.ofNat 32 q) 128#32) (BitVec.ofNat 32 k)) 128#32))
          (IntOp.ori (IntOp.cmpi CmpIPredicate.sge (BitVec.ofNat 32 k) 128#32) (Scalar.cmpi CmpIPredicate.sgt n 0#32)) := by
  have h := within_eq R
  rw [hR] at h
  pointwise [k0_pay7, k0_pay4, k0_pay5, k0_pay6]
  rw [show (Scalar.select (Scalar.cmpi CmpIPredicate.eq 128#32 0#32) 1#32 128#32 : BitVec 32) = 128#32 from by decide]
  unfold within at h
  rw [h]

/-- The mask word of a query and a key. -/
def maskWord (n : BitVec 32) (q : Fin 128) (k : Fin 256) : BitVec 1 :=
  IntOp.andi
    (IntOp.andi
      (IntOp.cmpi CmpIPredicate.sge (IntOp.subi (IntOp.addi (BitVec.ofNat 32 q) 128#32) (BitVec.ofNat 32 k)) 0#32)
      (IntOp.cmpi CmpIPredicate.sle (IntOp.subi (IntOp.addi (BitVec.ofNat 32 q) 128#32) (BitVec.ofNat 32 k)) 128#32))
    (IntOp.ori (IntOp.cmpi CmpIPredicate.sge (BitVec.ofNat 32 k) 128#32) (Scalar.cmpi CmpIPredicate.sgt n 0#32))

/-- What the body leaves in its output block, from what it loads. -/
def block (n : BitVec 32) (w : Fin 16 → Elt Ideal .f32) (Q : FVec Ideal S128x1024 .bf16) (K V : FVec Ideal S256x256 .bf16) : FVec Ideal S1x128x1024 .bf16 :=
  k0_pay1 V k0_pay15
    (k0_pay24 (k0_pay7 n (iota Kind.tc S512x256 32 [1] iota_S512x256_d1_w32) k0_pay5 k0_pay6) (k0_pay11 (w 8) (w 9) (w 10) (w 11)) (k0_pay17 K Q))
    (k0_pay25 (k0_pay7 n (iota Kind.tc S512x256 32 [1] iota_S512x256_d1_w32) k0_pay5 k0_pay6) (k0_pay11 (w 8) (w 9) (w 10) (w 11)) (k0_pay17 K Q))
    (k0_pay28 (k0_pay7 n (iota Kind.tc S512x256 32 [1] iota_S512x256_d1_w32) k0_pay5 k0_pay6) (k0_pay14 (k0_pay12 (w 12)) (k0_pay13 (w 13)) (w 14) (w 15)) (k0_pay18 K Q))
    (k0_pay29 (k0_pay7 n (iota Kind.tc S512x256 32 [1] iota_S512x256_d1_w32) k0_pay5 k0_pay6) (k0_pay14 (k0_pay12 (w 12)) (k0_pay13 (w 13)) (w 14) (w 15)) (k0_pay18 K Q))
    (k0_pay30 V (k0_pay9 (w 0) (w 1) (w 2) (w 3)) k0_pay15
      (k0_pay19 K (k0_pay7 n (iota Kind.tc S512x256 32 [1] iota_S512x256_d1_w32) k0_pay5 k0_pay6) Q)
      (k0_pay20 K (k0_pay7 n (iota Kind.tc S512x256 32 [1] iota_S512x256_d1_w32) k0_pay5 k0_pay6) Q (k0_pay9 (w 0) (w 1) (w 2) (w 3)))
      (k0_pay21 K (k0_pay7 n (iota Kind.tc S512x256 32 [1] iota_S512x256_d1_w32) k0_pay5 k0_pay6) Q (k0_pay9 (w 0) (w 1) (w 2) (w 3))))
    (k0_pay31 V (k0_pay7 n (iota Kind.tc S512x256 32 [1] iota_S512x256_d1_w32) k0_pay5 k0_pay6) (k0_pay10 (w 4) (w 5) (w 6) (w 7)) k0_pay15 (k0_pay16 K Q))

theorem block_at (n : BitVec 32) (w : Fin 16 → Elt Ideal .f32) (Q : FVec Ideal S128x1024 .bf16) (K V : FVec Ideal S256x256 .bf16)
    (g r : Fin 4) (q : Fin 128) (d : Fin 64) (e : Fin 1024) (he : (e : ℕ) = ((g : ℕ) * 4 + r) * 64 + d) :
    block n w Q K V (ix3 0 q e)
      = attend (fun k => Scalar.select (maskWord n q k) (dots K Q g r q k) ⊥) (w ⟨(g : ℕ) * 4 + r, by omega⟩)
          fun k => V (ix2 k ⟨(g : ℕ) * 64 + d, by omega⟩) := by
  obtain ⟨R, hR⟩ : ∃ R : Fin 512, (R : ℕ) = (r : ℕ) * 128 + q := ⟨⟨(r : ℕ) * 128 + q, by omega⟩, rfl⟩
  have hM := mask_at n R q (by omega)
  unfold block
  rw [stored _ _ _ _ _ _ _ g r q d e he R hR]
  generalize k0_pay7 n (iota Kind.tc S512x256 32 [1] iota_S512x256_d1_w32) k0_pay5 k0_pay6 = M at hM ⊢
  rw [ones]
  rcases g with ⟨g, hg⟩
  match g, hg with
  | 0, _ =>
    refine (group0 V _ K M Q R d).trans ?_
    rw [sink0 w r q R hR, show (fun k => k0_pay19 K M Q (ix2 R k)) = _ from funext fun k => (score0 K Q r q k R hR M).trans (by rw [hM k])]
    rfl
  | 1, _ =>
    refine (group1 V M _ _ R d).trans ?_
    rw [sink1 w r q R hR, show maskedRow M _ R = _ from funext fun k => show Scalar.select (M (ix2 R k)) (k0_pay16 K Q (ix2 R k)) ⊥ = _ from (by rw [hM k, score1 K Q r q k R hR])]
    rfl
  | 2, _ =>
    refine (group2 V M _ _ R d).trans ?_
    rw [sink2 w r q R hR, show maskedRow M _ R = _ from funext fun k => show Scalar.select (M (ix2 R k)) (k0_pay17 K Q (ix2 R k)) ⊥ = _ from (by rw [hM k, score2 K Q r q k R hR])]
    rfl
  | 3, _ =>
    refine (group3 V M _ _ R d).trans ?_
    rw [sink3 w r q R hR, show maskedRow M _ R = _ from funext fun k => show Scalar.select (M (ix2 R k)) (k0_pay18 K Q (ix2 R k)) ⊥ = _ from (by rw [hM k, score3 K Q r q k R hR])]
    rfl

end Cert.SwaIdeal.At

end
-- ==== Proof.SwaRefAt.lean ====
/- Hand-written: the attention reference, stage by stage, each stage read at an index. -/
module

public import proofs.«01_k».proof.Proof.Gen.SwaRefIdeal.Run
public import proofs.«01_k».proof.Proof.Softmax

@[expose] public section

set_option maxRecDepth 16384

noncomputable section

open Idealize.ShloMosaic Idealize.ShloMosaic.TcCoe Idealize.ShloMosaic.StableHlo Idealize.SL.Sem

namespace Cert.SwaRefIdeal.At

open Cert.SwaRefIdeal Cert.SwaRefIdeal.Gen

/-- Each block's keys (values) behind those of the block before it. -/
def band (x : FVec Ideal S16x2048x4x64 .f32) : FVec Ideal S16x16x256x4x64 .f32 :=
  concatenate S16x16x256x4x64 2 [⟨S16x16x128x4x64, (concatenate S16x16x128x4x64 1 [⟨S16x1x128x4x64, (broadcastInDim S16x1x128x4x64 ![] bcast_S_S16x1x128x4x64 (constant S_ .f32 0x00000000#32))⟩, ⟨S16x15x128x4x64, (extractStridedSlice S16x15x128x4x64 ![0, 0, 0, 0, 0] (shapeCast _ x shapeCasts_S16x2048x4x64_S16x16x128x4x64) slices_S16x16x128x4x64_S16x15x128x4x64_0_0_0_0_0)⟩] concatenates_S16x1x128x4x64_S16x15x128x4x64_S16x16x128x4x64_d1)⟩, ⟨S16x16x128x4x64, (shapeCast _ x shapeCasts_S16x2048x4x64_S16x16x128x4x64)⟩] concatenates_S16x16x128x4x64_S16x16x128x4x64_S16x16x256x4x64_d2

/-- Which keys a query attends. -/
def allowed : IVec S16x16x4x4x128x256 1 :=
  broadcastInDim S16x16x4x4x128x256 ![0, 1, 2, 3, 4, 5] bcast_S1x16x1x1x128x256_S16x16x4x4x128x256_0_1_2_3_4_5 (broadcastInDim S1x16x1x1x128x256 ![1, 4, 5] bcast_S16x128x256_S1x16x1x1x128x256_1_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .sle (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32)))) (broadcastInDim S16x1x256 ![0, 1, 2] bcast_S1x1x256_S16x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))

/-- The scaled scores, minus infinity where a key is not attended. -/
def scores (a0 : FVec Ideal S16x2048x16x64 .f32) (a1 : FVec Ideal S16x2048x4x64 .f32) : FVec Ideal S16x16x4x4x128x256 .f32 :=
  select allowed (mulf (transpose S16x16x4x4x128x256 [0, 1, 2, 5, 4, 3] (Host.dotGeneral dot_S16x16x256x4x64_S16x16x128x4x4x64_S16x16x4x256x128x4_4_5_2_24_013_013 none (band a1) (shapeCast _ a0 shapeCasts_S16x2048x16x64_S16x16x128x4x4x64)) transposes_S16x16x4x256x128x4_S16x16x4x4x128x256_0_1_2_5_4_3) (broadcastInDim S16x16x4x4x128x256 ![] bcast_S_S16x16x4x4x128x256 (constant S_ .f32 0x3E000000#32))) (broadcastInDim S16x16x4x4x128x256 ![] bcast_S_S16x16x4x4x128x256 (id (constant S_ .f32 0xFF800000#32)))

/-- The largest score of a row. -/
def highest (a0 : FVec Ideal S16x2048x16x64 .f32) (a1 : FVec Ideal S16x2048x4x64 .f32) : FVec Ideal S16x16x4x4x128 .f32 :=
  Host.reduce FloatOps.maximumf (scores a0 a1) (constant S_ .f32 0xFF800000#32) reducesTo_S16x16x4x4x128x256_S16x16x4x4x128_d5 h_S_

/-- The largest score of a row, the sink included. -/
def largest (a0 : FVec Ideal S16x2048x16x64 .f32) (a1 : FVec Ideal S16x2048x4x64 .f32) (a3 : FVec Ideal S16 .f32) : FVec Ideal S16x16x4x4x128x1 .f32 :=
  maximumf (broadcastInDim S16x16x4x4x128x1 ![0, 1, 2, 3, 4] bcast_S16x16x4x4x128_S16x16x4x4x128x1_0_1_2_3_4 (highest a0 a1)) (broadcastInDim S16x16x4x4x128x1 ![0, 1, 2, 3, 4, 5] bcast_S1x1x4x4x1x1_S16x16x4x4x128x1_0_1_2_3_4_5 (shapeCast _ a3 shapeCasts_S16_S1x1x4x4x1x1))

/-- The weights before their division. -/
def weights (a0 : FVec Ideal S16x2048x16x64 .f32) (a1 : FVec Ideal S16x2048x4x64 .f32) (a3 : FVec Ideal S16 .f32) : FVec Ideal S16x16x4x4x128x256 .f32 :=
  Host.exp (subf (scores a0 a1) (broadcastInDim S16x16x4x4x128x256 ![0, 1, 2, 3, 4, 5] bcast_S16x16x4x4x128x1_S16x16x4x4x128x256_0_1_2_3_4_5 (largest a0 a1 a3)))

/-- The sum of a row's weights. -/
def weightSum (a0 : FVec Ideal S16x2048x16x64 .f32) (a1 : FVec Ideal S16x2048x4x64 .f32) (a3 : FVec Ideal S16 .f32) : FVec Ideal S16x16x4x4x128 .f32 :=
  Host.reduceAdd (weights a0 a1 a3) (constant S_ .f32 0x00000000#32) reducesTo_S16x16x4x4x128x256_S16x16x4x4x128_d5 h_S_

/-- The denominators. -/
def total (a0 : FVec Ideal S16x2048x16x64 .f32) (a1 : FVec Ideal S16x2048x4x64 .f32) (a3 : FVec Ideal S16 .f32) : FVec Ideal S16x16x4x4x128x1 .f32 :=
  addf (broadcastInDim S16x16x4x4x128x1 ![0, 1, 2, 3, 4] bcast_S16x16x4x4x128_S16x16x4x4x128x1_0_1_2_3_4 (weightSum a0 a1 a3)) (Host.exp (subf (broadcastInDim S16x16x4x4x128x1 ![0, 1, 2, 3, 4, 5] bcast_S1x1x4x4x1x1_S16x16x4x4x128x1_0_1_2_3_4_5 (shapeCast _ a3 shapeCasts_S16_S1x1x4x4x1x1)) (largest a0 a1 a3)))

/-- The reference's attention over the prompt. -/
def res (a0 : FVec Ideal S16x2048x16x64 .f32) (a1 : FVec Ideal S16x2048x4x64 .f32) (a2 : FVec Ideal S16x2048x4x64 .f32) (a3 : FVec Ideal S16 .f32) : FVec Ideal S16x2048x1024 .bf16 :=
  truncf .bf16 (shapeCast _ (transpose S16x16x128x4x4x64 [0, 1, 5, 2, 4, 3] (Host.dotGeneral dot_S16x16x256x4x64_S16x16x4x4x128x256_S16x16x4x64x4x128_2_5_4_34_013_012 none (band a2) (Host.divf (weights a0 a1 a3) (broadcastInDim S16x16x4x4x128x256 ![0, 1, 2, 3, 4, 5] bcast_S16x16x4x4x128x1_S16x16x4x4x128x256_0_1_2_3_4_5 (total a0 a1 a3)))) transposes_S16x16x4x64x4x128_S16x16x128x4x4x64_0_1_5_2_4_3) shapeCasts_S16x16x128x4x4x64_S16x2048x1024) bitsLt_bf16_f32

theorem res_eq (m : (ℓ : Loc nD τ sig) → Buf (Elt Ideal) ℓ) (c : Dev nD) : Value.res_main_v66 m c
    = res (m ((c : Thread nD τ).loc main_arg0)) (m ((c : Thread nD τ).loc main_arg1)) (m ((c : Thread nD τ).loc main_arg2)) (m ((c : Thread nD τ).loc main_arg3)) := rfl

theorem ofBits_negInf : Ideal.ofBits .f32 0xFF800000#32 = ⊥ := by
  simp [Ideal.ofBits, Ideal.ieee]

/-- Key (value) `k` of block `n`'s band: the block before it, then the block itself. -/
def bandAt (x : FVec Ideal S16x2048x4x64 .f32) (b n : Fin 16) (k : Fin 256) (g : Fin 4) (d : Fin 64) : EReal :=
  if h : (k : ℕ) < 128 then
    if h' : (n : ℕ) < 1 then 0 else x (ix4 b ⟨((n : ℕ) - 1) * 128 + k, by omega⟩ g d)
  else x (ix4 b ⟨(n : ℕ) * 128 + ((k : ℕ) - 128), by omega⟩ g d)

/-- Whether query `q` of block `n` attends key `k` of its band. -/
def ok (n : Fin 16) (q : Fin 128) (k : Fin 256) : BitVec 1 :=
  IntOp.andi
    (IntOp.andi
      (IntOp.cmpi CmpIPredicate.sge (IntOp.subi (IntOp.addi (BitVec.ofNat 32 q) 128#32) (BitVec.ofNat 32 k)) 0#32)
      (IntOp.cmpi CmpIPredicate.sle (IntOp.subi (IntOp.addi (BitVec.ofNat 32 q) 128#32) (BitVec.ofNat 32 k)) 128#32))
    (IntOp.ori (IntOp.cmpi CmpIPredicate.sgt (BitVec.ofNat 32 n) 0#32) (IntOp.cmpi CmpIPredicate.sge (BitVec.ofNat 32 k) 128#32))

/-- A score of the reference. -/
def scoreAt (a0 : FVec Ideal S16x2048x16x64 .f32) (a1 : FVec Ideal S16x2048x4x64 .f32) (b n : Fin 16) (g r : Fin 4) (q : Fin 128) (k : Fin 256) : EReal :=
  Scalar.select (ok n q k)
    ((∑ x : Fin 64, bandAt a1 b n k g x * a0 (ix4 b ⟨(n : ℕ) * 128 + q, by omega⟩ ⟨(g : ℕ) * 4 + r, by omega⟩ x)) * Ideal.ofBits .f32 0x3E000000#32) ⊥

theorem band_at (x : FVec Ideal S16x2048x4x64 .f32) (b n : Fin 16) (k : Fin 256) (g : Fin 4) (d : Fin 64) :
    band x (ix5 b n k g d) = bandAt x b n k g d := by
  pointwise [band]
  rfl

theorem allowed_at (b n : Fin 16) (g r : Fin 4) (q : Fin 128) (k : Fin 256) :
    allowed (ix6 b n g r q k) = ok n q k := by
  pointwise [allowed]
  rfl

theorem scores_at (a0 : FVec Ideal S16x2048x16x64 .f32) (a1 : FVec Ideal S16x2048x4x64 .f32) (b n : Fin 16) (g r : Fin 4) (q : Fin 128) (k : Fin 256) :
    scores a0 a1 (ix6 b n g r q k) = scoreAt a0 a1 b n g r q k := by
  pointwise [scores, allowed_at, band_at, id_eq, ofBits_negInf]
  rfl

/-- The larger of a row's number and its sink. -/
theorem top_at (h : FVec Ideal S16x16x4x4x128 .f32) (a3 : FVec Ideal S16 .f32) (b n : Fin 16) (g r : Fin 4) (q : Fin 128) :
    maximumf (broadcastInDim S16x16x4x4x128x1 ![0, 1, 2, 3, 4] bcast_S16x16x4x4x128_S16x16x4x4x128x1_0_1_2_3_4 h) (broadcastInDim S16x16x4x4x128x1 ![0, 1, 2, 3, 4, 5] bcast_S1x1x4x4x1x1_S16x16x4x4x128x1_0_1_2_3_4_5 (shapeCast _ a3 shapeCasts_S16_S1x1x4x4x1x1)) (ix6 b n g r q 0)
      = max (h (ix5 b n g r q)) (a3 (ix1 ⟨(g : ℕ) * 4 + r, by omega⟩)) := by
  pointwise

/-- The sinks, laid out over the scores' rows. -/
theorem sink_at (a3 : FVec Ideal S16 .f32) (b n : Fin 16) (g r : Fin 4) (q : Fin 128) :
    broadcastInDim S16x16x4x4x128x1 ![0, 1, 2, 3, 4, 5] bcast_S1x1x4x4x1x1_S16x16x4x4x128x1_0_1_2_3_4_5 (shapeCast _ a3 shapeCasts_S16_S1x1x4x4x1x1) (ix6 b n g r q 0) = a3 (ix1 ⟨(g : ℕ) * 4 + r, by omega⟩) := by
  pointwise

/-- A row's number as a column. -/
theorem col_at (h : FVec Ideal S16x16x4x4x128 .f32) (b n : Fin 16) (g r : Fin 4) (q : Fin 128) :
    broadcastInDim S16x16x4x4x128x1 ![0, 1, 2, 3, 4] bcast_S16x16x4x4x128_S16x16x4x4x128x1_0_1_2_3_4 h (ix6 b n g r q 0) = h (ix5 b n g r q) := by
  pointwise

/-- A column over the row's keys. -/
theorem row_at (h : FVec Ideal S16x16x4x4x128x1 .f32) (b n : Fin 16) (g r : Fin 4) (q : Fin 128) (k : Fin 256) :
    broadcastInDim S16x16x4x4x128x256 ![0, 1, 2, 3, 4, 5] bcast_S16x16x4x4x128x1_S16x16x4x4x128x256_0_1_2_3_4_5 h (ix6 b n g r q k) = h (ix6 b n g r q 0) := by
  pointwise

theorem reduces : Shape.Reduces S16x16x4x4x128x256 [5] S16x16x4x4x128 := by decide

theorem lift (b n : Fin 16) (g r : Fin 4) (q : Fin 128) (k : Fin 256) :
    reduces.lift (ix5 b n g r q) k = (ix6 b n g r q k : S16x16x4x4x128x256.Idx) := by
  funext a
  fin_cases a <;> rfl

theorem highest_at (a0 : FVec Ideal S16x2048x16x64 .f32) (a1 : FVec Ideal S16x2048x4x64 .f32) (b n : Fin 16) (g r : Fin 4) (q : Fin 128) :
    highest a0 a1 (ix5 b n g r q) = Finset.univ.fold max ⊥ (scoreAt a0 a1 b n g r q) := by
  refine (Host.reduce_eq_fold_single _ _ _ _ reduces _ _).trans ?_
  have h : (scores a0 a1 ∘ reduces.lift (ix5 b n g r q)) = scoreAt a0 a1 b n g r q := by
    funext k
    exact (congrArg (scores a0 a1) (lift b n g r q k)).trans (scores_at a0 a1 b n g r q k)
  rw [h]
  exact congrArg (fun z => Finset.fold max z _ Finset.univ) ofBits_negInf

theorem largest_at (a0 : FVec Ideal S16x2048x16x64 .f32) (a1 : FVec Ideal S16x2048x4x64 .f32) (a3 : FVec Ideal S16 .f32) (b n : Fin 16) (g r : Fin 4) (q : Fin 128) :
    largest a0 a1 a3 (ix6 b n g r q 0) = Softmax.top (scoreAt a0 a1 b n g r q) (a3 (ix1 ⟨(g : ℕ) * 4 + r, by omega⟩)) := by
  unfold largest
  rw [top_at, highest_at, Softmax.top]

theorem weights_at (a0 : FVec Ideal S16x2048x16x64 .f32) (a1 : FVec Ideal S16x2048x4x64 .f32) (a3 : FVec Ideal S16 .f32) (b n : Fin 16) (g r : Fin 4) (q : Fin 128) (k : Fin 256) :
    weights a0 a1 a3 (ix6 b n g r q k) = Ideal.exp (scoreAt a0 a1 b n g r q k - Softmax.top (scoreAt a0 a1 b n g r q) (a3 (ix1 ⟨(g : ℕ) * 4 + r, by omega⟩))) := by
  unfold weights
  exact congrArg Ideal.exp (congrArg₂ (fun x y : EReal => x - y) (scores_at a0 a1 b n g r q k)
    ((row_at _ b n g r q k).trans (largest_at a0 a1 a3 b n g r q)))

theorem weightSum_at (a0 : FVec Ideal S16x2048x16x64 .f32) (a1 : FVec Ideal S16x2048x4x64 .f32) (a3 : FVec Ideal S16 .f32) (b n : Fin 16) (g r : Fin 4) (q : Fin 128) :
    weightSum a0 a1 a3 (ix5 b n g r q) = ∑ k : Fin 256, Ideal.exp (scoreAt a0 a1 b n g r q k - Softmax.top (scoreAt a0 a1 b n g r q) (a3 (ix1 ⟨(g : ℕ) * 4 + r, by omega⟩))) := by
  refine (Ideal.hostReduceAdd_single _ reduces _ _ _).trans ?_
  have h : ∀ k, weights a0 a1 a3 (reduces.lift (ix5 b n g r q) k) = _ := fun k =>
    (congrArg (weights a0 a1 a3) (lift b n g r q k)).trans (weights_at a0 a1 a3 b n g r q k)
  rw [Finset.sum_congr rfl fun k _ => h k]
  exact (congrArg (fun z => z + _) (Ideal.ofBits_zero_f32)).trans (zero_add _)

theorem total_at (a0 : FVec Ideal S16x2048x16x64 .f32) (a1 : FVec Ideal S16x2048x4x64 .f32) (a3 : FVec Ideal S16 .f32) (b n : Fin 16) (g r : Fin 4) (q : Fin 128) :
    total a0 a1 a3 (ix6 b n g r q 0) = ∑ k : Fin 256, Ideal.exp (scoreAt a0 a1 b n g r q k - Softmax.top (scoreAt a0 a1 b n g r q) (a3 (ix1 ⟨(g : ℕ) * 4 + r, by omega⟩)))
      + Ideal.exp (a3 (ix1 ⟨(g : ℕ) * 4 + r, by omega⟩) - Softmax.top (scoreAt a0 a1 b n g r q) (a3 (ix1 ⟨(g : ℕ) * 4 + r, by omega⟩))) := by
  unfold total
  exact congrArg₂ (fun x y : EReal => x + y) ((col_at _ b n g r q).trans (weightSum_at a0 a1 a3 b n g r q))
    (congrArg Ideal.exp (congrArg₂ (fun x y : EReal => x - y) (sink_at a3 b n g r q) (largest_at a0 a1 a3 b n g r q)))

theorem res_at (a0 : FVec Ideal S16x2048x16x64 .f32) (a1 a2 : FVec Ideal S16x2048x4x64 .f32) (a3 : FVec Ideal S16 .f32) (b n : Fin 16) (q : Fin 128) (g r : Fin 4) (d : Fin 64)
    (l : Fin 2048) (e : Fin 1024) (hl : (l : ℕ) = (n : ℕ) * 128 + q) (he : (e : ℕ) = ((g : ℕ) * 4 + r) * 64 + d) :
    res a0 a1 a2 a3 (ix3 b l e) = ∑ k : Fin 256, bandAt a2 b n k g d
      * Ideal.div (Ideal.exp (scoreAt a0 a1 b n g r q k - Softmax.top (scoreAt a0 a1 b n g r q) (a3 (ix1 ⟨(g : ℕ) * 4 + r, by omega⟩))))
        (∑ k : Fin 256, Ideal.exp (scoreAt a0 a1 b n g r q k - Softmax.top (scoreAt a0 a1 b n g r q) (a3 (ix1 ⟨(g : ℕ) * 4 + r, by omega⟩)))
          + Ideal.exp (a3 (ix1 ⟨(g : ℕ) * 4 + r, by omega⟩) - Softmax.top (scoreAt a0 a1 b n g r q) (a3 (ix1 ⟨(g : ℕ) * 4 + r, by omega⟩)))) := by
  have h1 : (⟨(l : ℕ) / 128, by omega⟩ : Fin 16) = n := Fin.ext (by show (l : ℕ) / 128 = n; omega)
  have h2 : (⟨(l : ℕ) % 128, by omega⟩ : Fin 128) = q := Fin.ext (by show (l : ℕ) % 128 = q; omega)
  have h3 : (⟨(e : ℕ) / 256, by omega⟩ : Fin 4) = g := Fin.ext (by show (e : ℕ) / 256 = g; omega)
  have h4 : (⟨(e : ℕ) / 64 % 4, by omega⟩ : Fin 4) = r := Fin.ext (by show (e : ℕ) / 64 % 4 = r; omega)
  have h5 : (⟨(e : ℕ) % 64, by omega⟩ : Fin 64) = d := Fin.ext (by show (e : ℕ) % 64 = d; omega)
  unfold res
  have hw (k : Fin 256) : Host.divf (weights a0 a1 a3) (broadcastInDim S16x16x4x4x128x256 ![0, 1, 2, 3, 4, 5] bcast_S16x16x4x4x128x1_S16x16x4x4x128x256_0_1_2_3_4_5 (total a0 a1 a3)) (ix6 b n g r q k)
      = Ideal.div _ _ := congrArg₂ Ideal.div (weights_at a0 a1 a3 b n g r q k) ((row_at _ b n g r q k).trans (total_at a0 a1 a3 b n g r q))
  generalize Host.divf (weights a0 a1 a3) (broadcastInDim S16x16x4x4x128x256 ![0, 1, 2, 3, 4, 5] bcast_S16x16x4x4x128x1_S16x16x4x4x128x256_0_1_2_3_4_5 (total a0 a1 a3)) = p at hw ⊢
  have hb (k : Fin 256) := band_at a2 b n k g d
  generalize band a2 = v at hb ⊢
  pointwise
  simp only [h1, h2, h3, h4, h5, hb, hw]

end Cert.SwaRefIdeal.At

end
-- ==== Proof.SwaValue.lean ====
/- Hand-written: the attention kernel's result is the reference's. -/
module

public import proofs.«01_k».proof.Proof.SwaAt
public import proofs.«01_k».proof.Proof.SwaRefAt

@[expose] public section

set_option maxRecDepth 16384

noncomputable section

open Idealize.ShloMosaic Idealize.ShloMosaic.TcCoe Idealize.SL.Sem

namespace Cert.SwaIdeal.SwaValue

open Cert.SwaIdeal Cert.SwaIdeal.Gen Cert.SwaIdeal.At Cert.SwaRefIdeal.At

/-- One eighth, the scale, in either format. -/
theorem scale_bf16 : Ideal.ofBits .bf16 0x3E00#16 = ((1 / 8 : ℝ) : EReal) := by
  simp [Ideal.ofBits, Ideal.ieee, -EReal.coe_mul]; norm_num

theorem scale_f32 : Ideal.ofBits .f32 0x3E000000#32 = ((1 / 8 : ℝ) : EReal) := by
  simp [Ideal.ofBits, Ideal.ieee, -EReal.coe_mul]; norm_num

theorem maskWord_eq (n : Fin 16) (q : Fin 128) (k : Fin 256) : maskWord (BitVec.ofNat 32 n) q k = ok n q k :=
  congrArg (IntOp.andi _) (BitVec.or_comm _ _)

/-- In the first block no key of the block before it is attended. -/
theorem ok_pos (n : Fin 16) (q : Fin 128) (k : Fin 256) (h : ok n q k = 1#1) (hk : (k : ℕ) < 128) : 0 < (n : ℕ) := by
  by_contra hn
  have hn0 : n = 0 := Fin.ext (by show (n : ℕ) = 0; omega)
  subst hn0
  have h2 := (IntOp.andi_eq_one.1 h).2
  have h3 : ∀ k : Fin 256, (k : ℕ) < 128 → ¬ IntOp.ori (IntOp.cmpi CmpIPredicate.sgt (BitVec.ofNat 32 (0 : Fin 16)) 0#32) (IntOp.cmpi CmpIPredicate.sge (BitVec.ofNat 32 k) 128#32) = 1#1 := by
    decide +kernel
  exact h3 k hk h2

theorem bit (x : BitVec 1) : x = 0#1 ∨ x = 1#1 := by revert x; decide

/-- One element of the attention: the kernel's quotient is the reference's sum. -/
theorem attention (a0 : FVec Ideal Cert.SwaRefIdeal.S16x2048x16x64 .f32) (a1 a2 : FVec Ideal Cert.SwaRefIdeal.S16x2048x4x64 .f32) (a3 : FVec Ideal Cert.SwaRefIdeal.S16 .f32)
    (h0 : ∀ i, a0 i ≠ ⊤ ∧ a0 i ≠ ⊥) (h1 : ∀ i, a1 i ≠ ⊤ ∧ a1 i ≠ ⊥) (h3 : ∀ i, a3 i ≠ ⊤ ∧ a3 i ≠ ⊥)
    (b n : Fin 16) (g r : Fin 4) (q : Fin 128) (d : Fin 64)
    (w : Fin 16 → Elt Ideal .f32) (Q : FVec Ideal S128x1024 .bf16) (K V : FVec Ideal S256x256 .bf16)
    (hw : w ⟨(g : ℕ) * 4 + r, by omega⟩ = a3 (ix1 ⟨(g : ℕ) * 4 + r, by omega⟩))
    (hQ : ∀ x : Fin 64, Q (ix2 q ⟨((g : ℕ) * 4 + r) * 64 + x, by omega⟩) = a0 (ix4 b ⟨(n : ℕ) * 128 + q, by omega⟩ ⟨(g : ℕ) * 4 + r, by omega⟩ x))
    (hK : ∀ (k : Fin 256) (x : Fin 64), ((k : ℕ) < 128 → 0 < (n : ℕ)) → K (ix2 k ⟨(g : ℕ) * 64 + x, by omega⟩) = bandAt a1 b n k g x)
    (hV : ∀ (k : Fin 256) (x : Fin 64), ((k : ℕ) < 128 → 0 < (n : ℕ)) → V (ix2 k ⟨(g : ℕ) * 64 + x, by omega⟩) = bandAt a2 b n k g x) :
    attend (fun k => Scalar.select (maskWord (BitVec.ofNat 32 n) q k) (dots K Q g r q k) ⊥) (w ⟨(g : ℕ) * 4 + r, by omega⟩)
        (fun k => V (ix2 k ⟨(g : ℕ) * 64 + d, by omega⟩))
      = ∑ k : Fin 256, bandAt a2 b n k g d
        * Ideal.div (Ideal.exp (scoreAt a0 a1 b n g r q k - Softmax.top (scoreAt a0 a1 b n g r q) (a3 (ix1 ⟨(g : ℕ) * 4 + r, by omega⟩))))
          (∑ k : Fin 256, Ideal.exp (scoreAt a0 a1 b n g r q k - Softmax.top (scoreAt a0 a1 b n g r q) (a3 (ix1 ⟨(g : ℕ) * 4 + r, by omega⟩)))
            + Ideal.exp (a3 (ix1 ⟨(g : ℕ) * 4 + r, by omega⟩) - Softmax.top (scoreAt a0 a1 b n g r q) (a3 (ix1 ⟨(g : ℕ) * 4 + r, by omega⟩)))) := by
  have hb : ∀ (k : Fin 256) (x : Fin 64), bandAt a1 b n k g x ≠ ⊤ ∧ bandAt a1 b n k g x ≠ ⊥ := fun k x => by
    unfold bandAt
    split_ifs
    · exact ⟨EReal.zero_ne_top, EReal.zero_ne_bot⟩
    · exact h1 _
    · exact h1 _
  have hs : (fun k => Scalar.select (maskWord (BitVec.ofNat 32 n) q k) (dots K Q g r q k) ⊥) = scoreAt a0 a1 b n g r q := by
    funext k
    rw [maskWord_eq]
    unfold scoreAt
    rcases bit (ok n q k) with h | h
    · rw [h]; rfl
    · have hk := ok_pos n q k h
      have hd : dots K Q g r q k = (∑ x : Fin 64, bandAt a1 b n k g x * a0 (ix4 b ⟨(n : ℕ) * 128 + q, by omega⟩ ⟨(g : ℕ) * 4 + r, by omega⟩ x)) * Ideal.ofBits .f32 0x3E000000#32 := by
        unfold dots
        rw [scale_bf16, scale_f32, Finset.sum_congr rfl fun x _ => by rw [hQ x, hK k x hk]]
        exact (Softmax.scaled_dot (1 / 8) _ _ (fun x => h0 _) (fun x => hb k x)).1
      rw [hd]
  have hst : ∀ k, scoreAt a0 a1 b n g r q k ≠ ⊤ := fun k => by
    unfold scoreAt
    rcases bit (ok n q k) with h | h
    · rw [h]; exact bot_ne_top
    · rw [h, scale_f32, ← (Softmax.scaled_dot (1 / 8) _ _ (fun x => h0 _) (fun x => hb k x)).1]
      exact (Softmax.scaled_dot (1 / 8) _ _ (fun x => h0 _) (fun x => hb k x)).2
  have hv : ∀ k, scoreAt a0 a1 b n g r q k = ⊥ ∨ V (ix2 k ⟨(g : ℕ) * 64 + d, by omega⟩) = bandAt a2 b n k g d := fun k => by
    rcases bit (ok n q k) with h | h
    · left; unfold scoreAt; rw [h]; rfl
    · right; exact hV k d (ok_pos n q k h)
  rw [hs, hw]
  unfold attend
  obtain ⟨σ, hσ⟩ : ∃ σ : ℝ, a3 (ix1 ⟨(g : ℕ) * 4 + r, by omega⟩) = σ := ⟨_, (EReal.coe_toReal (h3 _).1 (h3 _).2).symm⟩
  rw [hσ]
  exact Softmax.row _ hst σ _ _ hv

theorem conclude (a0 : FVec Ideal Cert.SwaRefIdeal.S16x2048x16x64 .f32) (a1 a2 : FVec Ideal Cert.SwaRefIdeal.S16x2048x4x64 .f32) (a3 : FVec Ideal Cert.SwaRefIdeal.S16 .f32)
    (h0 : ∀ i, a0 i ≠ ⊤ ∧ a0 i ≠ ⊥) (h1 : ∀ i, a1 i ≠ ⊤ ∧ a1 i ≠ ⊥) (h3 : ∀ i, a3 i ≠ ⊤ ∧ a3 i ≠ ⊥)
    (b n : Fin 16) (g r : Fin 4) (q : Fin 128) (d : Fin 64) (e : Fin 1024) (he : (e : ℕ) = ((g : ℕ) * 4 + r) * 64 + d) (l : Fin 2048) (hl : (l : ℕ) = (n : ℕ) * 128 + q)
    (w : Fin 16 → Elt Ideal .f32) (Q : FVec Ideal S128x1024 .bf16) (K V : FVec Ideal S256x256 .bf16)
    (hw : w ⟨(g : ℕ) * 4 + r, by omega⟩ = a3 (ix1 ⟨(g : ℕ) * 4 + r, by omega⟩))
    (hQ : ∀ x : Fin 64, Q (ix2 q ⟨((g : ℕ) * 4 + r) * 64 + x, by omega⟩) = a0 (ix4 b ⟨(n : ℕ) * 128 + q, by omega⟩ ⟨(g : ℕ) * 4 + r, by omega⟩ x))
    (hK : ∀ (k : Fin 256) (x : Fin 64), ((k : ℕ) < 128 → 0 < (n : ℕ)) → K (ix2 k ⟨(g : ℕ) * 64 + x, by omega⟩) = bandAt a1 b n k g x)
    (hV : ∀ (k : Fin 256) (x : Fin 64), ((k : ℕ) < 128 → 0 < (n : ℕ)) → V (ix2 k ⟨(g : ℕ) * 64 + x, by omega⟩) = bandAt a2 b n k g x) :
    block (BitVec.ofNat 32 n) w Q K V (ix3 0 q e) = Cert.SwaRefIdeal.At.res a0 a1 a2 a3 (ix3 b l e) := by
  rw [block_at _ _ _ _ _ g r q d e he, Cert.SwaRefIdeal.At.res_at _ _ _ _ b n q g r d l e hl he]
  exact attention a0 a1 a2 a3 h0 h1 h3 b n g r q d w Q K V hw hQ hK hV

variable (m : (ℓ : Loc nD τ sig) → Buf (Elt Ideal) ℓ)

theorem idx_val : ∀ t : Fin cfg0.N, win0_0.index t = ![0]
    ∧ win0_1.index t = ![t.val / 16, t.val % 16, 0]
    ∧ win0_2.index t = ![t.val / 16, t.val % 16 - 1, 0]
    ∧ win0_3.index t = ![t.val / 16, t.val % 16, 0]
    ∧ win0_4.index t = ![t.val / 16, t.val % 16 - 1, 0]
    ∧ win0_5.index t = ![t.val / 16, t.val % 16, 0]
    ∧ win0_6.index t = ![t.val / 16, t.val % 16, 0]
    ∧ (grid0.coords t 1).val = t.val % 16 ∧ t.val / 16 < 16 :=
  (by decide +kernel : ∀ t : Fin grid0.N, _)

theorem band2 (x y : FVec Ideal S1x128x256 .f32) (k e : Fin 256) :
    k0_pay2 (F := Ideal) x y (ix2 k e) = if h : (k : ℕ) < 128 then x (ix3 0 ⟨k, h⟩ e) else y (ix3 0 ⟨(k : ℕ) - 128, by omega⟩ e) := by
  pointwise [k0_pay2]

theorem band3 (x y : FVec Ideal S1x128x256 .f32) (k e : Fin 256) :
    k0_pay3 (F := Ideal) x y (ix2 k e) = if h : (k : ℕ) < 128 then x (ix3 0 ⟨k, h⟩ e) else y (ix3 0 ⟨(k : ℕ) - 128, by omega⟩ e) := by
  pointwise [k0_pay3]

theorem word (x : Vec Ideal S16 .f32) (o : ℕ) (inb) (h : 0 < (⟨1, ![1]⟩ : Shape).numel) (ho : o < 16) :
    View.ld (Val := Elt Ideal) (e' := .f32) x (Rect.unit (s := S16) ![o] ![1] inb) (Shape.Idx.first h) = x (ix1 ⟨o, ho⟩) := by
  refine congrArg x (funext fun a => Fin.ext ?_)
  fin_cases a
  rfl

theorem lt16 (t : Fin cfg0.N) : t.val / 16 < 16 := (idx_val t).2.2.2.2.2.2.2.2

theorem iblk0 (c : Dev nD) (t : Fin cfg0.N) (j : Fin 16) : iblk m c 0 t (ix1 j) = m ((c : Thread nD τ).loc main_arg3) (ix1 j) := by
  blk_simp [iblk]
  blk_ext [V, idx_val t]

theorem iblk1 (c : Dev nD) (t : Fin cfg0.N) (k : Fin 128) (e : Fin 1024) (b : Fin 16) (hb : (b : ℕ) = t.val / 16) (l : Fin 2048) (hl : (l : ℕ) = t.val % 16 * 128 + k)
    (h : Fin 16) (x : Fin 64) (he : (e : ℕ) = (h : ℕ) * 64 + x) :
    iblk m c 1 t (ix3 0 k e) = m ((c : Thread nD τ).loc main_arg0) (ix4 b l h x) := by
  blk_simp [iblk]
  entry_read
  pointwise
  blk_ext [idx_val t]

theorem iblk2 (c : Dev nD) (t : Fin cfg0.N) (k : Fin 128) (e : Fin 256) (b : Fin 16) (hb : (b : ℕ) = t.val / 16) (l : Fin 2048) (hl : (l : ℕ) = (t.val % 16 - 1) * 128 + k)
    (h : Fin 4) (x : Fin 64) (he : (e : ℕ) = (h : ℕ) * 64 + x) :
    iblk m c 2 t (ix3 0 k e) = m ((c : Thread nD τ).loc main_arg1) (ix4 b l h x) := by
  blk_simp [iblk]
  entry_read
  pointwise
  blk_ext [idx_val t]

theorem iblk3 (c : Dev nD) (t : Fin cfg0.N) (k : Fin 128) (e : Fin 256) (b : Fin 16) (hb : (b : ℕ) = t.val / 16) (l : Fin 2048) (hl : (l : ℕ) = t.val % 16 * 128 + k)
    (h : Fin 4) (x : Fin 64) (he : (e : ℕ) = (h : ℕ) * 64 + x) :
    iblk m c 3 t (ix3 0 k e) = m ((c : Thread nD τ).loc main_arg1) (ix4 b l h x) := by
  blk_simp [iblk]
  entry_read
  pointwise
  blk_ext [idx_val t]

theorem iblk4 (c : Dev nD) (t : Fin cfg0.N) (k : Fin 128) (e : Fin 256) (b : Fin 16) (hb : (b : ℕ) = t.val / 16) (l : Fin 2048) (hl : (l : ℕ) = (t.val % 16 - 1) * 128 + k)
    (h : Fin 4) (x : Fin 64) (he : (e : ℕ) = (h : ℕ) * 64 + x) :
    iblk m c 4 t (ix3 0 k e) = m ((c : Thread nD τ).loc main_arg2) (ix4 b l h x) := by
  blk_simp [iblk]
  entry_read
  pointwise
  blk_ext [idx_val t]

theorem iblk5 (c : Dev nD) (t : Fin cfg0.N) (k : Fin 128) (e : Fin 256) (b : Fin 16) (hb : (b : ℕ) = t.val / 16) (l : Fin 2048) (hl : (l : ℕ) = t.val % 16 * 128 + k)
    (h : Fin 4) (x : Fin 64) (he : (e : ℕ) = (h : ℕ) * 64 + x) :
    iblk m c 5 t (ix3 0 k e) = m ((c : Thread nD τ).loc main_arg2) (ix4 b l h x) := by
  blk_simp [iblk]
  entry_read
  pointwise
  blk_ext [idx_val t]

theorem point (c : Dev nD)
    (h0 : ∀ i, m ((c : Thread nD τ).loc main_arg0) i ≠ (⊤ : EReal) ∧ m ((c : Thread nD τ).loc main_arg0) i ≠ (⊥ : EReal))
    (h1 : ∀ i, m ((c : Thread nD τ).loc main_arg1) i ≠ (⊤ : EReal) ∧ m ((c : Thread nD τ).loc main_arg1) i ≠ (⊥ : EReal))
    (h3 : ∀ i, m ((c : Thread nD τ).loc main_arg3) i ≠ (⊤ : EReal) ∧ m ((c : Thread nD τ).loc main_arg3) i ≠ (⊥ : EReal))
    (t : Fin cfg0.N) (q : Fin 128) (e : Fin 1024) (b : Fin 16) (hb : (b : ℕ) = t.val / 16) (l : Fin 2048) (hl : (l : ℕ) = t.val % 16 * 128 + q) :
    block (BitVec.ofNat 32 (grid0.coords t 1)) (fun j => iblk m c 0 t (ix1 j)) (k0_pay8 (iblk m c 1 t)) (k0_pay2 (iblk m c 2 t) (iblk m c 3 t)) (k0_pay3 (iblk m c 4 t) (iblk m c 5 t)) (ix3 0 q e)
      = Cert.SwaRefIdeal.At.res (m ((c : Thread nD τ).loc main_arg0)) (m ((c : Thread nD τ).loc main_arg1)) (m ((c : Thread nD τ).loc main_arg2)) (m ((c : Thread nD τ).loc main_arg3)) (ix3 b l e) := by
  obtain ⟨n, hn⟩ : ∃ n : Fin 16, (n : ℕ) = t.val % 16 := ⟨⟨t.val % 16, by omega⟩, rfl⟩
  obtain ⟨g, hg⟩ : ∃ g : Fin 4, (g : ℕ) = (e : ℕ) / 256 := ⟨⟨(e : ℕ) / 256, by omega⟩, rfl⟩
  obtain ⟨r, hr⟩ : ∃ r : Fin 4, (r : ℕ) = (e : ℕ) / 64 % 4 := ⟨⟨(e : ℕ) / 64 % 4, by omega⟩, rfl⟩
  obtain ⟨d, hd⟩ : ∃ d : Fin 64, (d : ℕ) = (e : ℕ) % 64 := ⟨⟨(e : ℕ) % 64, by omega⟩, rfl⟩
  have he : (e : ℕ) = ((g : ℕ) * 4 + r) * 64 + d := by omega
  have hc : (grid0.coords t 1).val = n := (idx_val t).2.2.2.2.2.2.2.1.trans hn.symm
  have hw : iblk m c 0 t (ix1 ⟨(g : ℕ) * 4 + r, by omega⟩) = m ((c : Thread nD τ).loc main_arg3) (ix1 ⟨(g : ℕ) * 4 + r, by omega⟩) := iblk0 m c t ⟨(g : ℕ) * 4 + r, by omega⟩
  have hQ : ∀ x : Fin 64, k0_pay8 (iblk m c 1 t) (ix2 q ⟨((g : ℕ) * 4 + r) * 64 + x, by omega⟩)
      = m ((c : Thread nD τ).loc main_arg0) (ix4 b ⟨(n : ℕ) * 128 + q, by omega⟩ ⟨(g : ℕ) * 4 + r, by omega⟩ x) := fun x => by
    refine Eq.trans (b := iblk m c 1 t (ix3 0 q ⟨((g : ℕ) * 4 + r) * 64 + x, by omega⟩)) (by pointwise [k0_pay8]) ?_
    exact iblk1 m c t q _ b hb _ (by show (n : ℕ) * 128 + q = t.val % 16 * 128 + q; rw [hn]) _ x rfl
  have hK : ∀ (k : Fin 256) (x : Fin 64), ((k : ℕ) < 128 → 0 < (n : ℕ)) → k0_pay2 (iblk m c 2 t) (iblk m c 3 t) (ix2 k ⟨(g : ℕ) * 64 + x, by omega⟩)
      = bandAt (m ((c : Thread nD τ).loc main_arg1)) b n k g x := fun k x hk => by
    rw [band2]
    unfold bandAt
    split_ifs with h₁ h₂
    · exact absurd (hk h₁) (by omega)
    · exact iblk2 m c t _ _ b hb _ (by show ((n : ℕ) - 1) * 128 + k = (t.val % 16 - 1) * 128 + k; rw [hn]) g x rfl
    · exact iblk3 m c t _ _ b hb _ (by show (n : ℕ) * 128 + ((k : ℕ) - 128) = t.val % 16 * 128 + ((k : ℕ) - 128); rw [hn]) g x rfl
  have hV : ∀ (k : Fin 256) (x : Fin 64), ((k : ℕ) < 128 → 0 < (n : ℕ)) → k0_pay3 (iblk m c 4 t) (iblk m c 5 t) (ix2 k ⟨(g : ℕ) * 64 + x, by omega⟩)
      = bandAt (m ((c : Thread nD τ).loc main_arg2)) b n k g x := fun k x hk => by
    rw [band3]
    unfold bandAt
    split_ifs with h₁ h₂
    · exact absurd (hk h₁) (by omega)
    · exact iblk4 m c t _ _ b hb _ (by show ((n : ℕ) - 1) * 128 + k = (t.val % 16 - 1) * 128 + k; rw [hn]) g x rfl
    · exact iblk5 m c t _ _ b hb _ (by show (n : ℕ) * 128 + ((k : ℕ) - 128) = t.val % 16 * 128 + ((k : ℕ) - 128); rw [hn]) g x rfl
  rw [hc]
  exact conclude (m ((c : Thread nD τ).loc main_arg0)) (m ((c : Thread nD τ).loc main_arg1)) (m ((c : Thread nD τ).loc main_arg2)) (m ((c : Thread nD τ).loc main_arg3)) h0 h1 h3 b n g r q d e he l (by rw [hl, hn]) (fun j => iblk m c 0 t (ix1 j)) (k0_pay8 (iblk m c 1 t)) (k0_pay2 (iblk m c 2 t) (iblk m c 3 t)) (k0_pay3 (iblk m c 4 t) (iblk m c 5 t)) hw hQ hK hV

set_option maxHeartbeats 1000000 in
theorem final (c : Dev nD)
    (h0 : ∀ i, m ((c : Thread nD τ).loc main_arg0) i ≠ (⊤ : EReal) ∧ m ((c : Thread nD τ).loc main_arg0) i ≠ (⊥ : EReal))
    (h1 : ∀ i, m ((c : Thread nD τ).loc main_arg1) i ≠ (⊤ : EReal) ∧ m ((c : Thread nD τ).loc main_arg1) i ≠ (⊥ : EReal))
    (h3 : ∀ i, m ((c : Thread nD τ).loc main_arg3) i ≠ (⊤ : EReal) ∧ m ((c : Thread nD τ).loc main_arg3) i ≠ (⊥ : EReal))
    : (dats m 0 c).arrAt 6 (cfgs 0).N = Cert.SwaRefIdeal.At.res (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]
  unfold outsAt0
  frame_out
  rw [word (iblk m c 0 t) 0 _ _ (by decide), word (iblk m c 0 t) 1 _ _ (by decide), word (iblk m c 0 t) 2 _ _ (by decide), word (iblk m c 0 t) 3 _ _ (by decide), word (iblk m c 0 t) 4 _ _ (by decide), word (iblk m c 0 t) 5 _ _ (by decide), word (iblk m c 0 t) 6 _ _ (by decide), word (iblk m c 0 t) 7 _ _ (by decide), word (iblk m c 0 t) 8 _ _ (by decide), word (iblk m c 0 t) 9 _ _ (by decide), word (iblk m c 0 t) 10 _ _ (by decide), word (iblk m c 0 t) 11 _ _ (by decide), word (iblk m c 0 t) 12 _ _ (by decide), word (iblk m c 0 t) 13 _ _ (by decide), word (iblk m c 0 t) 14 _ _ (by decide), word (iblk m c 0 t) 15 _ _ (by decide)]
  refine Eq.trans ?_ ((point m c h0 h1 h3 t (y 1) (y 2) ⟨t.val / 16, lt16 t⟩ rfl ⟨t.val % 16 * 128 + (y 1).val, by have h1 : (y 1).val < 128 := (y 1).isLt; have h2 := lt16 t; show _ < 2048; omega⟩ rfl).trans ?_)
  · refine Eq.trans (b := block (BitVec.ofNat 32 (grid0.coords t 1)) (fun j => iblk m c 0 t (ix1 j)) (k0_pay8 (iblk m c 1 t)) (k0_pay2 (iblk m c 2 t) (iblk m c 3 t)) (k0_pay3 (iblk m c 4 t) (iblk m c 5 t)) y) ?_ ?_
    · unfold block
      rfl
    · refine congrArg (block _ _ _ _ _) ?_
      funext a
      refine Fin.ext ?_
      fin_cases a
      · have h1 : (y 0).val < 1 := (y 0).isLt
        show (y 0).val = 0
        omega
      · rfl
      · rfl
  · blk_ext [idx_val t]

end Cert.SwaIdeal.SwaValue

end
-- ==== Proof.SwaProof.lean ====
/- Hand-written: what the finiteness precondition says of one array, element by element. -/
module

public import Idealize.ShloMosaic.Lib.ReduceAll
public import Idealize.ShloMosaic.PureOps.Ideal
public import Idealize.ShloMosaic.Init
public import proofs.«01_k».proof.Defs
public import proofs.«01_k».proof.Proof.SwaValue
public import proofs.«01_k».proof.Proof.Gen.Pre_finite_scores
public import proofs.«01_k».proof.Proof.Gen.SwaIdeal.Value
public import proofs.«01_k».proof.Proof.Gen.SwaRefIdeal.Run

@[expose] public section

set_option maxRecDepth 16384

noncomputable section

open Idealize.ShloMosaic Idealize.ShloMosaic.TcCoe Idealize.SL.Sem

namespace Cert.SwaProof

/-- An extended real whose absolute value is below +∞ is a real. -/
theorem finite_of_abs {x : EReal} (h : Ideal.cmp .olt (max x (-x)) (⊤ : EReal) = 1#1) : x ≠ ⊤ ∧ x ≠ ⊥ := by
  constructor <;> rintro rfl <;> simp [Ideal.cmp] at h

/-- The precondition read back: every element of the queries, of the keys and of the sinks is a real. -/
theorem finite (q : Vec Ideal Cert.Pre_finite_scores.S16x2048x16x64 .f32) (k v : Vec Ideal Cert.Pre_finite_scores.S16x2048x4x64 .f32)
    (s : Vec Ideal Cert.Pre_finite_scores.S16 .f32)
    (h : Cert.Pre_finite_scores.fn (F := Ideal) q k v s = fun _ => 1#1) :
    (∀ i, q i ≠ (⊤ : EReal) ∧ q i ≠ (⊥ : EReal)) ∧ (∀ i, k i ≠ (⊤ : EReal) ∧ k i ≠ (⊥ : EReal))
      ∧ (∀ i, s i ≠ (⊤ : EReal) ∧ s i ≠ (⊥ : EReal)) := by
  have top : Ideal.ofBits .f32 0x7F800000#32 = (⊤ : EReal) := by simp [Ideal.ofBits, Ideal.ieee]
  have h0 := congrFun h (fun a => a.elim0)
  obtain ⟨h1, hs⟩ := IntOp.andi_eq_one.1 h0
  obtain ⟨hq, hk⟩ := IntOp.andi_eq_one.1 h1
  refine ⟨fun i => finite_of_abs ?_, fun i => finite_of_abs ?_, fun i => finite_of_abs ?_⟩
  · have e : Ideal.cmp .olt (max (q i) (-q i)) (Ideal.ofBits .f32 0x7F800000#32) = 1#1 := Host.reduce_andi_all _ _ _ _ _ hq i
    rwa [top] at e
  · have e : Ideal.cmp .olt (max (k i) (-k i)) (Ideal.ofBits .f32 0x7F800000#32) = 1#1 := Host.reduce_andi_all _ _ _ _ _ hk i
    rwa [top] at e
  · have e : Ideal.cmp .olt (max (s i) (-s i)) (Ideal.ofBits .f32 0x7F800000#32) = 1#1 := Host.reduce_andi_all _ _ _ _ _ hs i
    rwa [top] at e

theorem algebraic : Cert.algebraic_SwaIdeal_SwaRefIdeal_pre_finite_scores := by
  intro m g m' g' hpre hm
  refine ⟨fun c => Cert.SwaRefIdeal.At.res (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)), ?_, ?_⟩
  · refine (θ_run _ _ _).mono (fun r hr c => ?_) (Cert.SwaIdeal.Value.run_blocks m g)
    obtain ⟨f0, f1, f3⟩ := finite _ _ _ _ (hpre c)
    exact ⟨(hr c).1.trans (Cert.SwaIdeal.SwaValue.final m c f0 f1 f3), (hr c).2⟩
  · refine (θ_run _ _ _).mono (fun r hr c => ?_) (Cert.SwaRefIdeal.Value.run m' g')
    obtain ⟨e0, e1, e2, e3⟩ := hm c
    exact ⟨(hr c).1.trans (by rw [Cert.SwaRefIdeal.At.res_eq, e0, e1, e2, e3]), (hr c).2⟩

end Cert.SwaProof

end
-- ==== Proof.FfnRefAt.lean ====
/- Hand-written: the feed-forward reference, stage by stage, each stage read at an index. -/
module

public import proofs.«01_k».proof.Proof.Gen.FfnRefIdeal.Run
public import Idealize.ShloMosaic.Lib.Pointwise

@[expose] public section

set_option maxRecDepth 16384

noncomputable section

open Idealize.ShloMosaic Idealize.ShloMosaic.TcCoe Idealize.ShloMosaic.StableHlo Idealize.SL.Sem

namespace Cert.FfnRefIdeal.At

open Cert.FfnRefIdeal Cert.FfnRefIdeal.Gen

/-- The residual stream after the mixer. -/
def mid (a0 a1 a2 : FVec Ideal S32768x1024 .f32) (a3 : FVec Ideal S1x2048x1024 .f32) : FVec Ideal S32768x1024 .f32 :=
  (addf a0 (Host.dotGeneral dot_S32768x2048_S2048x1024_S32768x1024_1_0_0_1_n_n none (concatenate S32768x2048 1 [⟨S32768x1024, a1⟩, ⟨S32768x1024, a2⟩] concatenates_S32768x1024_S32768x1024_S32768x2048_d1) (shapeCast _ a3 shapeCasts_S1x2048x1024_S2048x1024)))

/-- The normed stream. -/
def hid (x : FVec Ideal S32768x1024 .f32) (a4 : FVec Ideal S2x1024 .f32) : FVec Ideal S32768x1024 .f32 :=
  (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ (extractStridedSlice S1x1024 ![0, 0] a4 slices_S2x1024_S1x1024_0_0) shapeCasts_S1x1024_S1024))))

/-- The gated inner activations. -/
def act (h : FVec Ideal S32768x1024 .f32) (a5 a6 : FVec Ideal S1x1024x2816 .f32) : FVec Ideal S32768x2816 .f32 :=
  (mulf (mulf (Host.dotGeneral dot_S32768x1024_S1024x2816_S32768x2816_1_0_0_1_n_n none h (shapeCast _ a5 shapeCasts_S1x1024x2816_S1024x2816)) (Host.divf (broadcastInDim S32768x2816 ![] bcast_S_S32768x2816 (constant S_ .f32 0x3F800000#32)) (addf (broadcastInDim S32768x2816 ![] bcast_S_S32768x2816 (constant S_ .f32 0x3F800000#32)) (Host.exp (Host.negf (Host.dotGeneral dot_S32768x1024_S1024x2816_S32768x2816_1_0_0_1_n_n none h (shapeCast _ a5 shapeCasts_S1x1024x2816_S1024x2816))))))) (Host.dotGeneral dot_S32768x1024_S1024x2816_S32768x2816_1_0_0_1_n_n none h (shapeCast _ a6 shapeCasts_S1x1024x2816_S1024x2816)))

/-- The reference's result. -/
def res (a0 a1 a2 : FVec Ideal S32768x1024 .f32) (a3 : FVec Ideal S1x2048x1024 .f32) (a4 : FVec Ideal S2x1024 .f32) (a5 a6 : FVec Ideal S1x1024x2816 .f32) (a7 : FVec Ideal S1x2816x1024 .f32) : FVec Ideal S32768x1024 .f32 :=
  (addf (mid a0 a1 a2 a3) (Host.dotGeneral dot_S32768x2816_S2816x1024_S32768x1024_1_0_0_1_n_n none (act (hid (mid a0 a1 a2 a3) a4) a5 a6) (shapeCast _ a7 shapeCasts_S1x2816x1024_S2816x1024)))

theorem res_eq (m : (ℓ : Loc nD τ sig) → Buf (Elt Ideal) ℓ) (c : Dev nD) : Value.res_main_v27 m c
    = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

/-- The silu of the gate times the other factor, of one row of the normed stream and one column of either weight. -/
def gated (h g u : Fin 1024 → EReal) : EReal :=
  (∑ x, h x * g x) * Ideal.div 1 (1 + Ideal.exp (-∑ x, h x * g x)) * ∑ x, h x * u x

/-- One element of the normed stream, of its row and its weight. -/
def normed (x : Fin 1024 → EReal) (w : EReal) (e : Fin 1024) : EReal :=
  x e * Ideal.rsqrt (Ideal.div (∑ k, x k * x k) (Ideal.ofBits .f32 0x44800000#32) + Ideal.ofBits .f32 0x358637BD#32) * w

theorem mid_at (a0 a1 a2 : FVec Ideal S32768x1024 .f32) (a3 : FVec Ideal S1x2048x1024 .f32) (r : Fin 32768) (e : Fin 1024) :
    mid a0 a1 a2 a3 (ix2 r e) = a0 (ix2 r e) + (∑ x : Fin 1024, a1 (ix2 r x) * a3 (ix3 0 ⟨x, by omega⟩ e)
      + ∑ x : Fin 1024, a2 (ix2 r x) * a3 (ix3 0 ⟨1024 + (x : ℕ), by omega⟩ e)) := by
  pointwise [mid]

theorem hid_at (x : FVec Ideal S32768x1024 .f32) (a4 : FVec Ideal S2x1024 .f32) (r : Fin 32768) (e : Fin 1024) :
    hid x a4 (ix2 r e) = normed (fun k => x (ix2 r k)) (a4 (ix2 0 e)) e := by
  pointwise [hid]
  rfl

theorem act_at (h : FVec Ideal S32768x1024 .f32) (a5 a6 : FVec Ideal S1x1024x2816 .f32) (r : Fin 32768) (f : Fin 2816) :
    act h a5 a6 (ix2 r f) = gated (fun k => h (ix2 r k)) (fun k => a5 (ix3 0 k f)) (fun k => a6 (ix3 0 k f)) := by
  pointwise [act]
  rfl

theorem sum_at (x : FVec Ideal S32768x1024 .f32) (a : FVec Ideal S32768x2816 .f32) (a7 : FVec Ideal S1x2816x1024 .f32) (r : Fin 32768) (e : Fin 1024) :
    addf x (Host.dotGeneral dot_S32768x2816_S2816x1024_S32768x1024_1_0_0_1_n_n none a (shapeCast _ a7 shapeCasts_S1x2816x1024_S2816x1024)) (ix2 r e)
      = x (ix2 r e) + ∑ f : Fin 2816, a (ix2 r f) * a7 (ix3 0 f e) := by
  pointwise

/-- A row of the result, from a row of the residual stream. -/
def row (x w : Fin 1024 → EReal) (g u : Fin 2816 → Fin 1024 → EReal) (d : Fin 2816 → EReal) (e : Fin 1024) : EReal :=
  x e + ∑ f : Fin 2816, gated (fun k => normed x (w k) k) (g f) (u f) * d f

theorem res_at (a0 a1 a2 : FVec Ideal S32768x1024 .f32) (a3 : FVec Ideal S1x2048x1024 .f32) (a4 : FVec Ideal S2x1024 .f32) (a5 a6 : FVec Ideal S1x1024x2816 .f32) (a7 : FVec Ideal S1x2816x1024 .f32) (r : Fin 32768) (e : Fin 1024) :
    res a0 a1 a2 a3 a4 a5 a6 a7 (ix2 r e)
      = row (fun k => a0 (ix2 r k) + (∑ x : Fin 1024, a1 (ix2 r x) * a3 (ix3 0 ⟨x, by omega⟩ k)
          + ∑ x : Fin 1024, a2 (ix2 r x) * a3 (ix3 0 ⟨1024 + (x : ℕ), by omega⟩ k))) (fun k => a4 (ix2 0 k))
        (fun f k => a5 (ix3 0 k f)) (fun f k => a6 (ix3 0 k f)) (fun f => a7 (ix3 0 f e)) e := by
  unfold res row
  rw [sum_at]
  simp only [act_at, hid_at, mid_at]

end Cert.FfnRefIdeal.At

end
-- ==== Proof.FfnValue.lean ====
/- Hand-written: the feed-forward kernel at an index, and its result is the reference's. -/
module

public import proofs.«01_k».proof.Proof.Gen.FfnIdeal.Value
public import proofs.«01_k».proof.Proof.FfnRefAt
public import Idealize.ShloMosaic.Lib.Pointwise
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem

namespace Cert.FfnIdeal.FfnValue

open Cert.FfnIdeal Cert.FfnIdeal.Gen Cert.FfnRefIdeal.At

/-- The inner activations of a tile of rows: what the scratch holds once every column tile is stored. -/
def inner (h : FVec Ideal S512x1024 .bf16) (g u : FVec Ideal S1024x2816 .bf16) (j : S512x2816.Idx) : EReal :=
  gated (fun k => h (ix2 (j 0) k)) (fun k => g (ix2 k (j 1))) (fun k => u (ix2 k (j 1)))

theorem tile2560 (h : FVec Ideal S512x1024 .bf16) (g u : FVec Ideal S1024x256 .bf16) (x : S512x256.Idx) :
    k0_pay1 (F := Ideal) h (k0_pay25 (F := Ideal) g) u x = gated (fun k => h (ix2 (x 0) k)) (fun k => g (ix2 k (x 1))) (fun k => u (ix2 k (x 1))) := by
  pointwise [k0_pay1, k0_pay25, zero_sub]
  rfl

theorem tile2304 (h : FVec Ideal S512x1024 .bf16) (g u : FVec Ideal S1024x256 .bf16) (x : S512x256.Idx) :
    k0_pay24 (F := Ideal) h g u x = gated (fun k => h (ix2 (x 0) k)) (fun k => g (ix2 k (x 1))) (fun k => u (ix2 k (x 1))) := by
  pointwise [k0_pay24, zero_sub]
  rfl

theorem tile2048 (h : FVec Ideal S512x1024 .bf16) (g u : FVec Ideal S1024x256 .bf16) (x : S512x256.Idx) :
    k0_pay23 (F := Ideal) h (k0_pay22 (F := Ideal) h g) u x = gated (fun k => h (ix2 (x 0) k)) (fun k => g (ix2 k (x 1))) (fun k => u (ix2 k (x 1))) := by
  pointwise [k0_pay23, k0_pay22, zero_sub]
  rfl

theorem tile1792 (h : FVec Ideal S512x1024 .bf16) (g u : FVec Ideal S1024x256 .bf16) (x : S512x256.Idx) :
    k0_pay21 (F := Ideal) h g u x = gated (fun k => h (ix2 (x 0) k)) (fun k => g (ix2 k (x 1))) (fun k => u (ix2 k (x 1))) := by
  pointwise [k0_pay21, zero_sub]
  rfl

theorem tile1536 (h : FVec Ideal S512x1024 .bf16) (g u : FVec Ideal S1024x256 .bf16) (x : S512x256.Idx) :
    k0_pay20 (F := Ideal) h (k0_pay18 (F := Ideal) h g) (k0_pay19 (F := Ideal)) u x = gated (fun k => h (ix2 (x 0) k)) (fun k => g (ix2 k (x 1))) (fun k => u (ix2 k (x 1))) := by
  pointwise [k0_pay20, k0_pay18, k0_pay19, zero_sub]
  rfl

theorem tile1280 (h : FVec Ideal S512x1024 .bf16) (g u : FVec Ideal S1024x256 .bf16) (x : S512x256.Idx) :
    k0_pay17 (F := Ideal) h g u x = gated (fun k => h (ix2 (x 0) k)) (fun k => g (ix2 k (x 1))) (fun k => u (ix2 k (x 1))) := by
  pointwise [k0_pay17, zero_sub]
  rfl

theorem tile1024 (h : FVec Ideal S512x1024 .bf16) (g u : FVec Ideal S1024x256 .bf16) (x : S512x256.Idx) :
    k0_pay16 (F := Ideal) h (k0_pay14 (F := Ideal) h g) (k0_pay15 (F := Ideal) h g) u x = gated (fun k => h (ix2 (x 0) k)) (fun k => g (ix2 k (x 1))) (fun k => u (ix2 k (x 1))) := by
  pointwise [k0_pay16, k0_pay14, k0_pay15, zero_sub]
  rfl

theorem tile768 (h : FVec Ideal S512x1024 .bf16) (g u : FVec Ideal S1024x256 .bf16) (x : S512x256.Idx) :
    k0_pay13 (F := Ideal) h g u x = gated (fun k => h (ix2 (x 0) k)) (fun k => g (ix2 k (x 1))) (fun k => u (ix2 k (x 1))) := by
  pointwise [k0_pay13, zero_sub]
  rfl

theorem tile512 (h : FVec Ideal S512x1024 .bf16) (g u : FVec Ideal S1024x256 .bf16) (x : S512x256.Idx) :
    k0_pay12 (F := Ideal) h (k0_pay9 (F := Ideal) h g) (k0_pay10 (F := Ideal) h g) (k0_pay11 (F := Ideal)) u x = gated (fun k => h (ix2 (x 0) k)) (fun k => g (ix2 k (x 1))) (fun k => u (ix2 k (x 1))) := by
  pointwise [k0_pay12, k0_pay9, k0_pay10, k0_pay11, zero_sub]
  rfl

theorem tile256 (h : FVec Ideal S512x1024 .bf16) (g u : FVec Ideal S1024x256 .bf16) (x : S512x256.Idx) :
    k0_pay8 (F := Ideal) h g u x = gated (fun k => h (ix2 (x 0) k)) (fun k => g (ix2 k (x 1))) (fun k => u (ix2 k (x 1))) := by
  pointwise [k0_pay8, zero_sub]
  rfl

theorem tile0 (x0 : FVec Ideal S512x1024 .f32) (x1 : FVec Ideal S512x1024 .bf16) (x3 : FVec Ideal S1024x1024 .bf16) (x2 : FVec Ideal S512x1024 .bf16) (x4 : FVec Ideal S1024x1024 .bf16) (x5 : FVec Ideal S1x1024 .f32) (g u : FVec Ideal S1024x256 .bf16) (x : S512x256.Idx) :
    k0_pay7 (F := Ideal) (k0_pay4 x0 x1 x3 x2 x4 x5) (k0_pay5 x0 x1 x3 x2 x4 x5 g) (k0_pay6 x0 x1 x3 x2 x4 x5 g) (FloatOps.ofBits .f32 0x3F800000#32) u x
      = gated (fun k => k0_pay4 (F := Ideal) x0 x1 x3 x2 x4 x5 (ix2 (x 0) k)) (fun k => g (ix2 k (x 1))) (fun k => u (ix2 k (x 1))) := by
  pointwise [k0_pay7, k0_pay5, k0_pay6, zero_sub]
  rfl

/-- A column tile of the scratch, read where it is stored. -/
theorem tile_at (h : FVec Ideal S512x1024 .bf16) (g u : FVec Ideal S1024x2816 .bf16) (o : ℕ) (inb) (x : S512x256.Idx) (j : S512x2816.Idx)
    (h0 : (j 0 : ℕ) = x 0) (h1 : (j 1 : ℕ) = o + x 1) :
    gated (fun k => h (ix2 (x 0) k))
        (fun k => View.ld (Val := Elt Ideal) (e' := .bf16) g (Rect.unit (s := S1024x2816) ![0, o] ![1024, 256] inb) (ix2 k (x 1)))
        (fun k => View.ld (Val := Elt Ideal) (e' := .bf16) u (Rect.unit (s := S1024x2816) ![0, o] ![1024, 256] inb) (ix2 k (x 1)))
      = inner h g u j := by
  have e0 : (x 0 : Fin 512) = j 0 := Fin.ext h0.symm
  have hl : ∀ (w : FVec Ideal S1024x2816 .bf16) (k : Fin 1024), View.ld (Val := Elt Ideal) (e' := .bf16) w (Rect.unit (s := S1024x2816) ![0, o] ![1024, 256] inb) (ix2 k (x 1)) = w (ix2 k (j 1)) := fun w k => by
    refine View.ld_unit_apply_of _ _ _ _ _ _ fun a => ?_
    fin_cases a
    · show (k : ℕ) = 0 + k
      omega
    · exact h1
  unfold inner
  rw [show (fun k => h (ix2 (x 0) k)) = fun k => h (ix2 (j 0) k) from by rw [e0]]
  exact congrArg₂ _ (funext fun k => hl g k) (funext fun k => hl u k)

theorem mid3 (x0 : FVec Ideal S512x1024 .f32) (x1 : FVec Ideal S512x1024 .bf16) (x3 : FVec Ideal S1024x1024 .bf16) (x2 : FVec Ideal S512x1024 .bf16) (x4 : FVec Ideal S1024x1024 .bf16) (q : Fin 512) (e : Fin 1024) :
    k0_pay3 (F := Ideal) x0 x1 x3 x2 x4 (ix2 q e)
      = x0 (ix2 q e) + (∑ k : Fin 1024, x1 (ix2 q k) * x3 (ix2 k e) + ∑ k : Fin 1024, x2 (ix2 q k) * x4 (ix2 k e)) := by
  pointwise [k0_pay3]
  exact add_assoc _ _ _

theorem hid4 (x0 : FVec Ideal S512x1024 .f32) (x1 : FVec Ideal S512x1024 .bf16) (x3 : FVec Ideal S1024x1024 .bf16) (x2 : FVec Ideal S512x1024 .bf16) (x4 : FVec Ideal S1024x1024 .bf16) (x5 : FVec Ideal S1x1024 .f32) (q : Fin 512) (e : Fin 1024) :
    k0_pay4 (F := Ideal) x0 x1 x3 x2 x4 x5 (ix2 q e) = normed (fun k => k0_pay3 (F := Ideal) x0 x1 x3 x2 x4 (ix2 q k)) (x5 (ix2 0 e)) e := by
  unfold k0_pay4
  generalize k0_pay3 (F := Ideal) x0 x1 x3 x2 x4 = z
  pointwise
  rfl

theorem out2 (z : FVec Ideal S512x1024 .f32) (s : FVec Ideal S512x2816 .bf16) (w : FVec Ideal S2816x1024 .bf16) (q : Fin 512) (e : Fin 1024) :
    k0_pay2 (F := Ideal) z s w (ix2 q e) = z (ix2 q e) + ∑ f : Fin 2816, s (ix2 q f) * w (ix2 f e) := by
  pointwise [k0_pay2]

/-- A block of the result. -/
def tile (x0 : FVec Ideal S512x1024 .f32) (x1 x2 : FVec Ideal S512x1024 .bf16) (x3 x4 : FVec Ideal S1024x1024 .bf16) (x5 : FVec Ideal S1x1024 .f32)
    (x6 x7 : FVec Ideal S1024x2816 .bf16) (x8 : FVec Ideal S2816x1024 .bf16) : FVec Ideal S512x1024 .f32 :=
  k0_pay2 (F := Ideal) (k0_pay3 (F := Ideal) x0 x1 x3 x2 x4) (inner (k0_pay4 (F := Ideal) x0 x1 x3 x2 x4 x5) x6 x7) x8

theorem tile_row (x0 : FVec Ideal S512x1024 .f32) (x1 x2 : FVec Ideal S512x1024 .bf16) (x3 x4 : FVec Ideal S1024x1024 .bf16) (x5 : FVec Ideal S1x1024 .f32)
    (x6 x7 : FVec Ideal S1024x2816 .bf16) (x8 : FVec Ideal S2816x1024 .bf16) (q : Fin 512) (e : Fin 1024) :
    tile x0 x1 x2 x3 x4 x5 x6 x7 x8 (ix2 q e)
      = row (fun k => x0 (ix2 q k) + (∑ x : Fin 1024, x1 (ix2 q x) * x3 (ix2 x k) + ∑ x : Fin 1024, x2 (ix2 q x) * x4 (ix2 x k)))
        (fun k => x5 (ix2 0 k)) (fun f k => x6 (ix2 k f)) (fun f k => x7 (ix2 k f)) (fun f => x8 (ix2 f e)) e := by
  unfold tile row
  rw [out2]
  have hi : ∀ (h : FVec Ideal S512x1024 .bf16) (f : Fin 2816), inner h x6 x7 (ix2 q f) = gated (fun k => h (ix2 q k)) (fun k => x6 (ix2 k f)) (fun k => x7 (ix2 k f)) := fun _ _ => rfl
  simp only [hi, hid4, mid3]

theorem conclude (x x' w w' : Fin 1024 → EReal) (g g' u u' : Fin 2816 → Fin 1024 → EReal) (d d' : Fin 2816 → EReal) (e : Fin 1024)
    (hx : ∀ k, x k = x' k) (hw : ∀ k, w k = w' k) (hg : ∀ f k, g f k = g' f k) (hu : ∀ f k, u f k = u' f k) (hd : ∀ f, d f = d' f) :
    row x w g u d e = row x' w' g' u' d' e := by
  rw [funext hx, funext hw, funext fun f => funext (hg f), funext fun f => funext (hu f), funext hd]

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0] :=
  (by decide +kernel : ∀ t : Fin grid0.N, _)

theorem iblk0 (c : Dev nD) (t : Fin cfg0.N) (q : Fin 512) (e : Fin 1024) (r : Fin 32768) (hr : (r : ℕ) = t.val * 512 + q) :
    iblk m c 0 t (ix2 q e) = m ((c : Thread nD τ).loc main_arg0) (ix2 r e) := by
  blk_simp [iblk]
  blk_ext [V, idx_val t]

theorem iblk1 (c : Dev nD) (t : Fin cfg0.N) (q : Fin 512) (e : Fin 1024) (r : Fin 32768) (hr : (r : ℕ) = t.val * 512 + q) :
    iblk m c 1 t (ix2 q e) = m ((c : Thread nD τ).loc main_arg1) (ix2 r e) := by
  blk_simp [iblk]
  entry_read
  pointwise
  blk_ext [idx_val t]

theorem iblk2 (c : Dev nD) (t : Fin cfg0.N) (q : Fin 512) (e : Fin 1024) (r : Fin 32768) (hr : (r : ℕ) = t.val * 512 + q) :
    iblk m c 2 t (ix2 q e) = m ((c : Thread nD τ).loc main_arg2) (ix2 r e) := by
  blk_simp [iblk]
  entry_read
  pointwise
  blk_ext [idx_val t]

theorem iblk3 (c : Dev nD) (t : Fin cfg0.N) (k e : Fin 1024) :
    iblk m c 3 t (ix2 k e) = m ((c : Thread nD τ).loc main_arg3) (ix3 0 ⟨k, by omega⟩ e) := by
  blk_simp [iblk]
  entry_read
  pointwise
  blk_ext [idx_val t]

theorem iblk4 (c : Dev nD) (t : Fin cfg0.N) (k e : Fin 1024) :
    iblk m c 4 t (ix2 k e) = m ((c : Thread nD τ).loc main_arg3) (ix3 0 ⟨1024 + (k : ℕ), by omega⟩ e) := by
  blk_simp [iblk]
  entry_read
  pointwise
  blk_ext [idx_val t]

theorem iblk5 (c : Dev nD) (t : Fin cfg0.N) (e : Fin 1024) :
    iblk m c 5 t (ix2 0 e) = m ((c : Thread nD τ).loc main_arg4) (ix2 0 e) := by
  blk_simp [iblk]
  entry_read
  pointwise
  blk_ext [idx_val t]

theorem iblk6 (c : Dev nD) (t : Fin cfg0.N) (k : Fin 1024) (f : Fin 2816) :
    iblk m c 6 t (ix2 k f) = m ((c : Thread nD τ).loc main_arg5) (ix3 0 k f) := by
  blk_simp [iblk]
  entry_read
  pointwise
  blk_ext [idx_val t]

theorem iblk7 (c : Dev nD) (t : Fin cfg0.N) (k : Fin 1024) (f : Fin 2816) :
    iblk m c 7 t (ix2 k f) = m ((c : Thread nD τ).loc main_arg6) (ix3 0 k f) := by
  blk_simp [iblk]
  entry_read
  pointwise
  blk_ext [idx_val t]

theorem iblk8 (c : Dev nD) (t : Fin cfg0.N) (f : Fin 2816) (e : Fin 1024) :
    iblk m c 8 t (ix2 f e) = m ((c : Thread nD τ).loc main_arg7) (ix3 0 f e) := by
  blk_simp [iblk]
  entry_read
  pointwise
  blk_ext [idx_val t]

theorem point (c : Dev nD) (t : Fin cfg0.N) (q : Fin 512) (e : Fin 1024) (r : Fin 32768) (hr : (r : ℕ) = t.val * 512 + q) :
    tile (iblk m c 0 t) (iblk m c 1 t) (iblk m c 2 t) (iblk m c 3 t) (iblk m c 4 t) (iblk m c 5 t) (iblk m c 6 t) (iblk m c 7 t) (iblk m c 8 t) (ix2 q e)
      = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r e) := by
  refine (tile_row (iblk m c 0 t) (iblk m c 1 t) (iblk m c 2 t) (iblk m c 3 t) (iblk m c 4 t) (iblk m c 5 t) (iblk m c 6 t) (iblk m c 7 t) (iblk m c 8 t) q e).trans ?_
  refine Eq.trans ?_ (res_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r e).symm
  refine conclude _ _ _ _ _ _ _ _ _ _ e ?_ ?_ ?_ ?_ ?_
  · intro k
    exact congrArg₂ (fun a b : EReal => a + b) (iblk0 m c t q k r hr)
      (congrArg₂ (fun a b : EReal => a + b)
        (Finset.sum_congr rfl fun x _ => congrArg₂ (fun a b : EReal => a * b) (iblk1 m c t q x r hr) (iblk3 m c t x k))
        (Finset.sum_congr rfl fun x _ => congrArg₂ (fun a b : EReal => a * b) (iblk2 m c t q x r hr) (iblk4 m c t x k)))
  · exact fun k => iblk5 m c t k
  · exact fun f k => iblk6 m c t k f
  · exact fun f k => iblk7 m c t k f
  · exact fun f => iblk8 m c t f e

set_option maxHeartbeats 1000000 in
theorem final (c : Dev nD)
    : (dats m 0 c).arrAt 9 (cfgs 0).N = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  blk_simp; rw [after0_9]
  unfold outsAt0
  frame_out
  refine Eq.trans (b := tile (iblk m c 0 t) (iblk m c 1 t) (iblk m c 2 t) (iblk m c 3 t) (iblk m c 4 t) (iblk m c 5 t) (iblk m c 6 t) (iblk m c 7 t) (iblk m c 8 t) y) ?_ ?_
  · unfold tile
    refine congrFun (congrArg (fun z => k0_pay2 (F := Ideal) _ z _) (funext fun j => ?_)) y
    rw [View.readCov_eq_canon']
    beta_reduce
    refine Eq.trans (congrArg (View.canon _) (?_ : _ = j)) ?_
    · funext a
      refine Fin.ext ?_
      fin_cases a <;> simp [LoadRect.idx, Rect.unit]
    canon_tiles x h
    · exact (tile2560 _ _ _ x).trans (tile_at _ _ _ 2560 _ x j h0 h1)
    · exact (tile2304 _ _ _ x).trans (tile_at _ _ _ 2304 _ x j h0 h1)
    · exact (tile2048 _ _ _ x).trans (tile_at _ _ _ 2048 _ x j h0 h1)
    · exact (tile1792 _ _ _ x).trans (tile_at _ _ _ 1792 _ x j h0 h1)
    · exact (tile1536 _ _ _ x).trans (tile_at _ _ _ 1536 _ x j h0 h1)
    · exact (tile1280 _ _ _ x).trans (tile_at _ _ _ 1280 _ x j h0 h1)
    · exact (tile1024 _ _ _ x).trans (tile_at _ _ _ 1024 _ x j h0 h1)
    · exact (tile768 _ _ _ x).trans (tile_at _ _ _ 768 _ x j h0 h1)
    · exact (tile512 _ _ _ x).trans (tile_at _ _ _ 512 _ x j h0 h1)
    · exact (tile256 _ _ _ x).trans (tile_at _ _ _ 256 _ x j h0 h1)
    · exact (tile0 _ _ _ _ _ _ _ _ x).trans (tile_at _ _ _ 0 _ x j h0 (h1.trans (Nat.zero_add _).symm))
  · have h1 : (y 1).val < 1024 := (y 1).isLt
    have h0 : (y 0).val < 512 := (y 0).isLt
    have ht : t.val < 64 := t.isLt
    have ey : y = (ix2 (⟨(y 0).val, h0⟩ : Fin 512) (⟨(y 1).val, h1⟩ : Fin 1024) : S512x1024.Idx) := by
      funext a; refine Fin.ext ?_; fin_cases a <;> rfl
    refine (congrArg (tile (iblk m c 0 t) (iblk m c 1 t) (iblk m c 2 t) (iblk m c 3 t) (iblk m c 4 t) (iblk m c 5 t) (iblk m c 6 t) (iblk m c 7 t) (iblk m c 8 t)) ey).trans ?_
    refine (point m c t _ _ ⟨t.val * 512 + (y 0).val, by omega⟩ rfl).trans ?_
    blk_ext [idx_val t]

theorem algebraic : Cert.algebraic_FfnIdeal_FfnRefIdeal := by
  intro m g m' g' _ hm
  refine ⟨fun c => Cert.FfnRefIdeal.At.res (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)), ?_, ?_⟩
  · exact (θ_run _ _ _).mono (fun r hr c => ⟨(hr c).1.trans (final m c), (hr c).2⟩) (Cert.FfnIdeal.Value.run_blocks m g)
  · refine (θ_run _ _ _).mono (fun r hr c => ?_) (Cert.FfnRefIdeal.Value.run m' g')
    obtain ⟨e0, e1, e2, e3, e4, e5, e6, e7⟩ := hm c
    exact ⟨(hr c).1.trans (by rw [Cert.FfnRefIdeal.At.res_eq, e0, e1, e2, e3, e4, e5, e6, e7]), (hr c).2⟩

end Cert.FfnIdeal.FfnValue

end
-- ==== Proof.MoeKit.lean ====
/- The MoE expert call's frame, what its two runs share: the arrays as the region finds them, the prefetched tables,
   the windows' blocks, and where the output is written back. Everything is stated for any admissible tables. -/
module

public import proofs.«01_k».proof.Proof.Gen.MoeIdeal.Launch
public import proofs.«01_k».proof.Proof.Gen.MoeIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.MoeIdeal.MoeRun

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the host operations before the region writes is found as launched. -/
theorem V_kept (c : Dev nD) (b : Ref sig .tc) (h1 : b ≠ main_v0) (h2 : b ≠ main_v1) (h3 : b ≠ main_v2)
    (h4 : b ≠ main_v3) (h5 : b ≠ main_v4) (h6 : b ≠ main_v5) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by assumption)))
theorem V_main_arg0 (c : Dev nD) : V m c main_arg0 = m ((c : Thread nD τ).loc main_arg0) :=
  V_kept m c _ (by decide) (by decide) (by decide) (by decide) (by decide) (by decide)
theorem V_main_arg1 (c : Dev nD) : V m c main_arg1 = m ((c : Thread nD τ).loc main_arg1) :=
  V_kept m c _ (by decide) (by decide) (by decide) (by decide) (by decide) (by decide)
theorem V_main_arg2 (c : Dev nD) : V m c main_arg2 = m ((c : Thread nD τ).loc main_arg2) :=
  V_kept m c _ (by decide) (by decide) (by decide) (by decide) (by decide) (by decide)
theorem V_main_arg3 (c : Dev nD) : V m c main_arg3 = m ((c : Thread nD τ).loc main_arg3) :=
  V_kept m c _ (by decide) (by decide) (by decide) (by decide) (by decide) (by decide)
theorem V_main_arg4 (c : Dev nD) : V m c main_arg4 = m ((c : Thread nD τ).loc main_arg4) :=
  V_kept m c _ (by decide) (by decide) (by decide) (by decide) (by decide) (by decide)
theorem V_main_arg5 (c : Dev nD) : V m c main_arg5 = m ((c : Thread nD τ).loc main_arg5) :=
  V_kept m c _ (by decide) (by decide) (by decide) (by decide) (by decide) (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). It follows from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S136 .i32 := Memref.whole main_arg0
abbrev htbM0_0 : tbM0_0.IsWhole := Memref.isWhole_whole _
abbrev tbM0_1 : Memref sig .tc .smem S136 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x2816 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x2816 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2816x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S512x2816 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The schedule -/

/-- Window 4 (result 0 (%6)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-- The word of the second table that the body reads at coordinates `i`: how many rows of the tile are real. -/
abbrev rowsAt (T : (Memref.whole main_arg1 : Memref sig .tc .smem S136 .i32).view.ty.Contents (Elt F)) (i : grid0.Coords) : Elt F .i32 :=
  View.readAt (Elt F) tbM0_1.view (Rect.unit (s := S136) (k0_off1 i) S1.size (k0_off1_inb i)).toLoadRect T
    (Shape.Idx.first (numel1_S1.symm ▸ Nat.one_pos))

/-- Exactly one of the body's two branches is taken at a word `w`. -/
def OneBranch (w : Elt F .i32) : Prop :=
  (k0_cond1 w = 1#1 ∧ ¬ k0_cond2 w = 1#1) ∨ (¬ k0_cond1 w = 1#1 ∧ k0_cond2 w = 1#1)

end Cert.MoeIdeal.MoeRun

end
-- ==== Proof.MoeRunA.lean ====
/- The MoE expert call's body, run once where the tile has real rows. -/
module

public import proofs.«01_k».proof.Proof.MoeKit

@[expose] public section

set_option maxRecDepth 16384

noncomputable section

namespace Cert.MoeIdeal.MoeRun

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's triple where the tile has real rows: on whole staging memrefs — the inputs' at their contents, the output's and the
    scratch at anything — the body runs to the continuation holding the inputs' as they were, the output's with its
    pieces written, the scratch at some contents. The pieces are the witness the run finds. -/
noncomputable def kernelRun0_A (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (h1 : k0_cond1 (rowsAt xt1 i) = 1#1) (h2 : ¬ k0_cond2 (rowsAt xt1 i) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8) K } := by
  refine ⟨?_, fun E K => ?run⟩
  case run =>
    simp only [cc0_moe_ffn_eq_skeleton]; unfold cc0_moe_ffn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
    obtain rfl := harg3.eq_unread hf0; obtain rfl := harg4.eq_unread hf1; obtain rfl := harg5.eq_unread hf2; obtain rfl := harg6.eq_unread hf3
    sl_exec! (disch := first | (guard_target = k0_cond1 _ = _; exact h1) | (guard_target = ¬(k0_cond2 _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HT0]; · iexact HT0
    iexact HT1

end Cert.MoeIdeal.MoeRun

end
-- ==== Proof.MoeRunB.lean ====
/- The MoE expert call's body, run once where the tile has none. -/
module

public import proofs.«01_k».proof.Proof.MoeKit

@[expose] public section

set_option maxRecDepth 16384

noncomputable section

namespace Cert.MoeIdeal.MoeRun

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's triple where the tile has none: on whole staging memrefs — the inputs' at their contents, the output's and the
    scratch at anything — the body runs to the continuation holding the inputs' as they were, the output's with its
    pieces written, the scratch at some contents. The pieces are the witness the run finds. -/
noncomputable def kernelRun0_B (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (h1 : ¬ k0_cond1 (rowsAt xt1 i) = 1#1) (h2 : k0_cond2 (rowsAt xt1 i) = 1#1) :
    { L4 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ d, owns (c : Thread nD τ) arg8 fullShare d) ∗ tbPt0 c tbM0_0 xt0 ∗ tbPt0 c tbM0_1 xt1) -∗ K ⟨⟩))
          ⊢ wp frame (wpE (defs₀ (F := F)) Variants.none c none) E (cc0_moe_ffn i tbM0_0 htbM0_0 tbM0_1 htbM0_1 arg3 harg3 arg4 harg4 arg5 harg5 arg6 harg6 arg7 harg7 arg8 harg8) K } := by
  refine ⟨?_, fun E K => ?run⟩
  case run =>
    simp only [cc0_moe_ffn_eq_skeleton]; unfold cc0_moe_ffn_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, Hk⟩
    obtain rfl := harg3.eq_unread hf0; obtain rfl := harg4.eq_unread hf1; obtain rfl := harg5.eq_unread hf2; obtain rfl := harg6.eq_unread hf3
    sl_exec! (disch := first | (guard_target = ¬(k0_cond1 _ = _); exact h1) | (guard_target = k0_cond2 _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]
    · iexists _, _; isplitr; swap; · iexact HS0
      ipureintro; rfl
    isplitl [HT0]; · iexact HT0
    iexact HT1

end Cert.MoeIdeal.MoeRun

end
-- ==== Proof.MoeFrame.lean ====
/- The MoE expert call's frame: the pipeline's proof data over the two runs, the body obligation, the launch, and
   that the arguments end unchanged. For any tables at which the pipeline is admissible and every tile's word takes
   exactly one branch of the body. -/
module

public import proofs.«01_k».proof.Proof.MoeRunA
public import proofs.«01_k».proof.Proof.MoeRunB
public import Idealize.ShloMosaic.Lib.Claim

@[expose] public section

set_option maxRecDepth 16384

noncomputable section

namespace Cert.MoeIdeal.MoeRun

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A view of the output's block, over which what a run leaves is read back. -/
abbrev VO0_4 : View sig .tc .vmem S512x1024 .f32 := (Memref.whole cc0_stg4_0 : Memref sig .tc .vmem S512x1024 .f32).view

theorem cover0_A (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (h1 : k0_cond1 (rowsAt xt1 i) = 1#1) (h2 : ¬ k0_cond2 (rowsAt xt1 i) = 1#1) (y : S512x1024.Idx) :
    ∃ pc ∈ (kernelRun0_A c i arg3 harg3 arg4 harg4 arg5 harg5 arg6 harg6 arg7 harg7 arg8 harg8 x0 x1 x2 x3 xt0 xt1 h1 h2).1, y ∈ pc.1.set :=
  View.cover_of_tiledL (kernelRun0_A c i arg3 harg3 arg4 harg4 arg5 harg5 arg6 harg6 arg7 harg7 arg8 harg8 x0 x1 x2 x3 xt0 xt1 h1 h2).1 S512x1024.size (by sl_kernel_rfl) y

/-- What the run leaves in the output's staging buffer: its pieces read back over junk. -/
def out0_A (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (h1 : k0_cond1 (rowsAt xt1 i) = 1#1) (h2 : ¬ k0_cond2 (rowsAt xt1 i) = 1#1) : Vec F S512x1024 .f32 :=
  VO0_4.read (Elt F) (VO0_4.writes (Elt F) VO0_4.junk (kernelRun0_A c i arg3 harg3 arg4 harg4 arg5 harg5 arg6 harg6 arg7 harg7 arg8 harg8 x0 x1 x2 x3 xt0 xt1 h1 h2).1)

theorem cover0_B (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (h1 : ¬ k0_cond1 (rowsAt xt1 i) = 1#1) (h2 : k0_cond2 (rowsAt xt1 i) = 1#1) (y : S512x1024.Idx) :
    ∃ pc ∈ (kernelRun0_B c i arg3 harg3 arg4 harg4 arg5 harg5 arg6 harg6 arg7 harg7 arg8 harg8 x0 x1 x2 x3 xt0 xt1 h1 h2).1, y ∈ pc.1.set :=
  View.cover_of_tiledL (kernelRun0_B c i arg3 harg3 arg4 harg4 arg5 harg5 arg6 harg6 arg7 harg7 arg8 harg8 x0 x1 x2 x3 xt0 xt1 h1 h2).1 S512x1024.size (by sl_kernel_rfl) y

/-- What the run leaves in the output's staging buffer: its pieces read back over junk. -/
def out0_B (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec F S512x1024 .f32) (x1 : Vec F S1x1024x2816 .bf16) (x2 : Vec F S1x1024x2816 .bf16) (x3 : Vec F S1x2816x1024 .bf16) (xt0 : TbBuf0 (F := F) c tbM0_0) (xt1 : TbBuf0 (F := F) c tbM0_1)
    (h1 : ¬ k0_cond1 (rowsAt xt1 i) = 1#1) (h2 : k0_cond2 (rowsAt xt1 i) = 1#1) : Vec F S512x1024 .f32 :=
  VO0_4.read (Elt F) (VO0_4.writes (Elt F) VO0_4.junk (kernelRun0_B c i arg3 harg3 arg4 harg4 arg5 harg5 arg6 harg6 arg7 harg7 arg8 harg8 x0 x1 x2 x3 xt0 xt1 h1 h2).1)

/-- The launch memory's tables are a plan the call can run: the pipeline is admissible at them, and each tile's word
    takes exactly one branch of the body. -/
structure Plan : Prop where
  ok : Ok m
  one : ∀ i : grid0.Coords, OneBranch (rowsAt (tbl m 1) i)

theorem OneBranch.pos {w : Elt F .i32} (h : OneBranch w) (h1 : k0_cond1 w = 1#1) : ¬ k0_cond2 w = 1#1 :=
  h.elim (fun h => h.2) (fun h => absurd h1 h.1)

theorem OneBranch.neg {w : Elt F .i32} (h : OneBranch w) (h1 : ¬ k0_cond1 w = 1#1) : k0_cond2 w = 1#1 :=
  h.elim (fun h => absurd h.1 h1) (fun h => h.2)

/-- What the output's staging buffer holds after the body at point `t`. -/
def outsAt0 (hP : Plan m) (c : Dev nD) (t : Fin (cfgM m hP.ok).N) : Vec F S512x1024 .f32 :=
  if h : k0_cond1 (rowsAt (tbl m 1) (grid0.coords t)) = 1#1 then
    out0_A c (grid0.coords t) (ms0_0 m hP.ok t) (hs0_0 m hP.ok t) (ms0_1 m hP.ok t) (hs0_1 m hP.ok t) (ms0_2 m hP.ok t) (hs0_2 m hP.ok t) (ms0_3 m hP.ok t) (hs0_3 m hP.ok t) (ms0_4 m hP.ok t) (hs0_4 m hP.ok t) scM0_0 (Memref.isWhole_whole _) (iblk m hP.ok c 0 t) (iblk m hP.ok c 1 t) (iblk m hP.ok c 2 t) (iblk m hP.ok c 3 t) (tbl m 0) (tbl m 1) h ((hP.one _).pos h)
  else
    out0_B c (grid0.coords t) (ms0_0 m hP.ok t) (hs0_0 m hP.ok t) (ms0_1 m hP.ok t) (hs0_1 m hP.ok t) (ms0_2 m hP.ok t) (hs0_2 m hP.ok t) (ms0_3 m hP.ok t) (hs0_3 m hP.ok t) (ms0_4 m hP.ok t) (hs0_4 m hP.ok t) scM0_0 (Memref.isWhole_whole _) (iblk m hP.ok c 0 t) (iblk m hP.ok c 1 t) (iblk m hP.ok c 2 t) (iblk m hP.ok c 3 t) (tbl m 0) (tbl m 1) h ((hP.one _).neg h)

/-- The proof data of the one pipeline on core `c`: the arrays as the region finds them (`V`); after the body at
    point `t` each input's buffer at its block and the output's at `outsAt0`; the invariant the class's
    and the tables' halves (`ΦT`); nothing owed;
    full shares. -/
def dats (hP : Plan m) (_ : Fin 1) (c : Dev nD) : Dat τ (Elt F) Unit ℕ (UR sig nD τ) ℕ (cfgM m hP.ok) c where
  A w := V m c (Pipeline.arrRef spec0 w)
  after w t := match w with
    | ⟨0, _⟩ => iblk m hP.ok c 0 t
    | ⟨1, _⟩ => iblk m hP.ok c 1 t
    | ⟨2, _⟩ => iblk m hP.ok c 2 t
    | ⟨3, _⟩ => iblk m hP.ok c 3 t
    | ⟨4, _⟩ => outsAt0 m hP c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hP : Plan m) (c : Dev nD) (w : Fin (cfgM m hP.ok).W) : (dats m hP 0 c).A w = V m c (Pipeline.arrRef spec0 w) := by
  dsimp only [dats]

/-- What the body leaves, window by window (the proof data's `match` reduced by `dsimp`). -/
theorem after0_0 (hP : Plan m) (c : Dev nD) (t : Fin (cfgM m hP.ok).N) : (dats m hP 0 c).after 0 t = iblk m hP.ok c 0 t := by dsimp only [dats]; try rfl
theorem after0_1 (hP : Plan m) (c : Dev nD) (t : Fin (cfgM m hP.ok).N) : (dats m hP 0 c).after 1 t = iblk m hP.ok c 1 t := by dsimp only [dats]; try rfl
theorem after0_2 (hP : Plan m) (c : Dev nD) (t : Fin (cfgM m hP.ok).N) : (dats m hP 0 c).after 2 t = iblk m hP.ok c 2 t := by dsimp only [dats]; try rfl
theorem after0_4 (hP : Plan m) (c : Dev nD) (t : Fin (cfgM m hP.ok).N) : (dats m hP 0 c).after 4 t = outsAt0 m hP c t := by dsimp only [dats]; try rfl
theorem after0_3 (hP : Plan m) (c : Dev nD) (t : Fin (cfgM m hP.ok).N) : (dats m hP 0 c).after 3 t = iblk m hP.ok c 3 t := by dsimp only [dats]; try rfl

/-- Each input's current staging buffer holds its block at every point, fetched there or not (`beforeK_W_of`). -/
theorem before0_0 (hP : Plan m) (c : Dev nD) (t : Fin (cfgM m hP.ok).N) (d) : (dats m hP 0 c).before 0 t d = iblk m hP.ok c 0 t :=
  before0_0_of m hP.ok (dats m hP 0 c) (A_eq m hP c 0) (after0_0 m hP c) t d
theorem before0_1 (hP : Plan m) (c : Dev nD) (t : Fin (cfgM m hP.ok).N) (d) : (dats m hP 0 c).before 1 t d = iblk m hP.ok c 1 t :=
  before0_1_of m hP.ok (dats m hP 0 c) (A_eq m hP c 1) (after0_1 m hP c) t d
theorem before0_2 (hP : Plan m) (c : Dev nD) (t : Fin (cfgM m hP.ok).N) (d) : (dats m hP 0 c).before 2 t d = iblk m hP.ok c 2 t :=
  before0_2_of m hP.ok (dats m hP 0 c) (A_eq m hP c 2) (after0_2 m hP c) t d
theorem before0_3 (hP : Plan m) (c : Dev nD) (t : Fin (cfgM m hP.ok).N) (d) : (dats m hP 0 c).before 3 t d = iblk m hP.ok c 3 t :=
  before0_3_of m hP.ok (dats m hP 0 c) (A_eq m hP c 3) (after0_3 m hP c) t d

/-! ## The body obligation, at a generic point -/

/-- What the body is called with at point `t`, -/
def bodyPre (hP : Plan m) (c : Dev nD) (t : Fin (cfgM m hP.ok).N) : sProp 𝕄 :=
  iprop((dats m hP 0 c).Φ t.castSucc ∗ (dats m hP 0 c).owesAt () t.castSucc
    ∗ (∃ d, owns (c : Thread nD τ) (ms0_0 m hP.ok t) fullShare ((dats m hP 0 c).before 0 t d))
    ∗ (∃ d, owns (c : Thread nD τ) (ms0_1 m hP.ok t) fullShare ((dats m hP 0 c).before 1 t d))
    ∗ (∃ d, owns (c : Thread nD τ) (ms0_2 m hP.ok t) fullShare ((dats m hP 0 c).before 2 t d))
    ∗ (∃ d, owns (c : Thread nD τ) (ms0_3 m hP.ok t) fullShare ((dats m hP 0 c).before 3 t d))
    ∗ (∃ d, owns (c : Thread nD τ) (ms0_4 m hP.ok t) fullShare ((dats m hP 0 c).before 4 t d)))

/-- and what it returns. -/
def bodyPost (hP : Plan m) (c : Dev nD) (t : Fin (cfgM m hP.ok).N) : sProp 𝕄 :=
  iprop((dats m hP 0 c).Φ t.succ ∗ (dats m hP 0 c).owesAt () t.succ
    ∗ owns (c : Thread nD τ) (ms0_0 m hP.ok t) fullShare ((dats m hP 0 c).after 0 t)
    ∗ owns (c : Thread nD τ) (ms0_1 m hP.ok t) fullShare ((dats m hP 0 c).after 1 t)
    ∗ owns (c : Thread nD τ) (ms0_2 m hP.ok t) fullShare ((dats m hP 0 c).after 2 t)
    ∗ owns (c : Thread nD τ) (ms0_3 m hP.ok t) fullShare ((dats m hP 0 c).after 3 t)
    ∗ owns (c : Thread nD τ) (ms0_4 m hP.ok t) fullShare ((dats m hP 0 c).after 4 t))

/-- The body at any point: the inputs' memrefs hold their blocks (`before0_W`); so the
    run applies; the invariant hands the body its scratch buffers at some contents (and the generator register) and takes them back at some contents (`PhiA_eq`); the core owes nothing throughout. -/
theorem sound_body (hP : Plan m) (c : Dev nD) (t : Fin (cfgM m hP.ok).N) :
    bodyPre m hP c t ⊢ wp frame (wpE (defs₀ (F := F)) Variants.none c none) Set.univ (bodyAt0 (adm m hP.ok) t) (fun _ => bodyPost m hP c t) := by
  unfold bodyPre bodyPost bodyAt0
  simp only [before0_0, before0_1, before0_2, before0_3]
  rw [show (dats m hP 0 c).Φ t.succ = (dats m hP 0 c).Φ t.castSucc from rfl,
    show (dats m hP 0 c).owesAt () t.succ = (dats m hP 0 c).owesAt () t.castSucc from rfl,
    after0_0, after0_1, after0_2, after0_3, after0_4]
  rw [show (dats m hP 0 c).Φ t.castSucc = iprop(Pipeline.ΦA spec0 c ∗ Pipeline.ΦT pre0 (tbl m) c) from rfl, PhiT0_eq, PhiA0_eq]
  by_cases h : k0_cond1 (rowsAt (tbl m 1) (grid0.coords t)) = 1#1
  · rw [show outsAt0 m hP c t = out0_A c (grid0.coords t) (ms0_0 m hP.ok t) (hs0_0 m hP.ok t) (ms0_1 m hP.ok t) (hs0_1 m hP.ok t) (ms0_2 m hP.ok t) (hs0_2 m hP.ok t) (ms0_3 m hP.ok t) (hs0_3 m hP.ok t) (ms0_4 m hP.ok t) (hs0_4 m hP.ok t) scM0_0 (Memref.isWhole_whole _) (iblk m hP.ok c 0 t) (iblk m hP.ok c 1 t) (iblk m hP.ok c 2 t) (iblk m hP.ok c 3 t) (tbl m 0) (tbl m 1) h ((hP.one _).pos h) from dif_pos h]
    unfold out0_A
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (iblk m hP.ok c 0 t) (iblk m hP.ok c 1 t) (iblk m hP.ok c 2 t) (iblk m hP.ok c 3 t) (tbl m 0) (tbl m 1) h ((hP.one _).pos h)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, ⟨%e4, H4⟩, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A c _ _ _ _ _ _ _ _ _ _ _ _ _ _ _ _ _ _ _ h ((hP.one _).pos h))
  · rw [show outsAt0 m hP c t = out0_B c (grid0.coords t) (ms0_0 m hP.ok t) (hs0_0 m hP.ok t) (ms0_1 m hP.ok t) (hs0_1 m hP.ok t) (ms0_2 m hP.ok t) (hs0_2 m hP.ok t) (ms0_3 m hP.ok t) (hs0_3 m hP.ok t) (ms0_4 m hP.ok t) (hs0_4 m hP.ok t) scM0_0 (Memref.isWhole_whole _) (iblk m hP.ok c 0 t) (iblk m hP.ok c 1 t) (iblk m hP.ok c 2 t) (iblk m hP.ok c 3 t) (tbl m 0) (tbl m 1) h ((hP.one _).neg h) from dif_neg h]
    unfold out0_B
    iintro ⟨⟨⟨HS0, Hg⟩, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (iblk m hP.ok c 0 t) (iblk m hP.ok c 1 t) (iblk m hP.ok c 2 t) (iblk m hP.ok c 3 t) (tbl m 0) (tbl m 1) h ((hP.one _).neg h)).2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    iintro ⟨H0, H1, H2, H3, ⟨%e4, H4⟩, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B c _ _ _ _ _ _ _ _ _ _ _ _ _ _ _ _ _ _ _ h ((hP.one _).neg h))

/-- The body table's row at point `t`'s slots is the body as `bodyAt0` spells it. -/
theorem defs₀_row (hP : Plan m) (t : Fin (cfgM m hP.ok).N) :
    defs₀ (F := F) .tc (cfgM m hP.ok).body ((cfgM m hP.ok).bodyArgs t ((cfgM m hP.ok).slots t)) = bodyAt0 (adm m hP.ok) t := by
  unfold defs₀; rw [Defs.onTc_tc]

/-- The output is written back at every point, so the obligation asks it at what the body leaves. -/
theorem leaves4 (hP : Plan m) (c : Dev nD) (t : Fin (cfgM m hP.ok).N) :
    owns (c : Thread nD τ) (ms0_4 m hP.ok t) fullShare ((dats m hP 0 c).after 4 t) ⊢ ((dats m hP 0 c).leavesExact 4 t : sProp 𝕄) := by
  unfold Dat.leavesExact
  cases (cfgM m hP.ok).idle 4 ((cfgM m hP.ok).grid.coords t)
  · exact .rfl
  · rw [flush0_4]; exact .rfl

/-- The library's body obligation, at every point. -/
theorem body_obligation (hP : Plan m) (c : Dev nD) : BodyObligation (dats (F := F) m hP 0 c) (defs₀ (F := F)) Variants.none () Set.univ := fun t => by
  rw [bigSep_W0, bigSep_W0, defs₀_row m hP]
  exact triple_restated (sound_body m hP c t) rfl .rfl fun _ =>
    sep_mono .rfl (sep_mono .rfl (sep_mono .rfl (sep_mono .rfl (sep_mono .rfl (sep_mono .rfl (leaves4 m hP c t))))))

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hP : Plan m) : θ_run defs (onTc (τ := τ) (main (F := F))) (s₀ m ρ) (fun r => (Pipeline.FramePost (Pipeline.pin pcfgs fun _ => adm m hP.ok) (dats m hP) 0 (V m)) r ∧ r.2.sem = fun _ => 0) :=
  Pipeline.θ_run_frameP (Q' := _) pcfgs (fun _ => adm m hP.ok) (dats m hP) (0 : Fin 1) launch0 defs₀ Variants.none m ρ main
    (hbody := fun c => (body_obligation m hP c).loose) (hshare := fun c => (dats m hP 0 c).share_full fun _ => rfl)
    (howed := fun _ _ => rfl) (V := V m) (hmain := hmain m Variants.none) (hA := A_eq m hP) (hpf := V_pre m) (hΦ := fun _ _ => rfl)

/-- The run: every array of the pipeline ends at what the proof data compute, every other unscoped buffer as the region found it. -/
theorem run_main (hP : Plan m) : θ_run defs (onTc (τ := τ) (main (F := F))) (s₀ m ρ) (Pipeline.FramePost (Pipeline.pin pcfgs fun _ => adm m hP.ok) (dats m hP) 0 (V m)) :=
  (θ_run defs _ _).mono (fun _ h => h.1) (run_main_quiescent m ρ hP)

/-- An argument no window stages ends as launched. -/
theorem kept_rest (hP : Plan m) (r : PUnit × MemSt nD τ sig (Elt F)) (h : Pipeline.FramePost (Pipeline.pin pcfgs fun _ => adm m hP.ok) (dats m hP) 0 (V m) r)
    (c : Dev nD) (b : Ref sig .tc) (hb : b ∈ Pipeline.restRefs sig spec0) (hV : V m c b = m ((c : Thread nD τ).loc b)) :
    r.2.mem ((c.tc : Thread nD τ).loc b) = m ((c.tc : Thread nD τ).loc b) :=
  ((h c).2 b hb).trans hV

/-- The arguments end unchanged. -/
theorem kept (hP : Plan m) (r : PUnit × MemSt nD τ sig (Elt F)) (h : Pipeline.FramePost (Pipeline.pin pcfgs fun _ => adm m hP.ok) (dats m hP) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨kept_rest m hP r h c main_arg0 (by decide) (V_main_arg0 m c),
   kept_rest m hP r h c main_arg1 (by decide) (V_main_arg1 m c),
   ((h c).1 0).trans (((dats m hP 0 c).arrAt_in 0 rfl _).trans ((A_eq m hP c 0).trans (V_main_arg2 m c))),
   kept_rest m hP r h c main_arg3 (by decide) (V_main_arg3 m c),
   kept_rest m hP r h c main_arg4 (by decide) (V_main_arg4 m c),
   kept_rest m hP r h c main_arg5 (by decide) (V_main_arg5 m c)⟩

/-- THE FRAME, under `Plan m`. -/
theorem frame (hP : Plan m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨kept m hP r h.1, h.2⟩) (run_main_quiescent m ρ hP)

/-- THE RUN WITH THE RESULT NAMED: the result array is what the proof data compute, the arguments unchanged. -/
theorem run_blocks (hP : Plan m) : θ_run defs (onTc (τ := τ) (main (F := F))) ⟨m, fun _ => 0, ρ⟩ (fun r => ∀ c : Dev nD,
      r.2.mem ((c : Thread nD τ).loc main_v6) = (dats m hP 0 c).arrAt 4 (cfgM m hP.ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1 4, kept m hP r h c⟩) (run_main m ρ hP)

end Cert.MoeIdeal.MoeRun

end
-- ==== Proof.MoePlan.lean ====
/- Hand-written: what the plan's precondition says of its two tables, and that it makes the call's pipeline
   admissible and each tile's word take exactly one branch. -/
module

public import Idealize.ShloMosaic.Lib.ReduceAll
public import Idealize.ShloMosaic.PureOps.Ideal
public import proofs.«01_k».proof.Defs
public import proofs.«01_k».proof.Proof.MoeFrame
public import proofs.«01_k».proof.Proof.Gen.Pre_plan_ranges
public import proofs.«01_k».proof.Proof.Gen.MoeIdeal
public import proofs.«01_k».proof.Proof.Gen.Moe

@[expose] public section

set_option maxRecDepth 16384

noncomputable section

open Idealize.ShloMosaic Idealize.ShloMosaic.TcCoe Idealize.SL.Sem
open Cert.MoeIdeal Cert.MoeIdeal.Gen

namespace Cert.MoeIdeal.MoeRun

variable {F : FTy → Type} [FloatOps F]

theorem word_lt {x : BitVec 32} (h0 : BitVec.sle 0#32 x = true) (h8 : BitVec.slt x 8#32 = true) : x.toNat < 8 := by
  simp only [BitVec.sle, BitVec.slt, decide_eq_true_eq, BitVec.toInt_eq_toNat_cond, BitVec.toNat_ofNat] at h0 h8
  split_ifs at h0 h8 <;> omega

/-- The precondition read back: every tile's expert is one of the eight, and no tile's row count is negative. -/
theorem ranges (a0 a1 : IVec Cert.Pre_plan_ranges.S136 32) (a2 : FVec F Cert.Pre_plan_ranges.S69632x1024 .f32)
    (a3 a4 : FVec F Cert.Pre_plan_ranges.S1x8x1024x2816 .f32) (a5 : FVec F Cert.Pre_plan_ranges.S1x8x2816x1024 .f32)
    (h : Cert.Pre_plan_ranges.fn (F := F) a0 a1 a2 a3 a4 a5 = fun _ => 1#1) :
    (∀ i, (a0 i).toNat < 8) ∧ (∀ i, BitVec.sle 0#32 (a1 i) = true) := by
  have h0 := congrFun h (fun a => a.elim0)
  obtain ⟨h1, hn⟩ := IntOp.andi_eq_one.1 h0
  obtain ⟨hg, hl⟩ := IntOp.andi_eq_one.1 h1
  have one : ∀ b : Bool, BitVec.ofBool b = 1#1 → b = true := by decide
  refine ⟨fun i => word_lt ?_ ?_, fun i => ?_⟩
  · exact one _ (Host.reduce_andi_all _ _ _ _ _ hg i)
  · exact one _ (Host.reduce_andi_all _ _ _ _ _ hl i)
  · exact one _ (Host.reduce_andi_all _ _ _ _ _ hn i)

/-- The tile a grid point works on, as a table index. -/
def tileIx (i : grid0.Coords) : S136.Idx := fun a => ⟨(i 0).val, by have := (i 0).isLt; fin_cases a; exact this⟩

theorem off_val (i : grid0.Coords) (a : Fin 1) : k0_off1 i a = (i 0).val := by
  have h : (i 0).val < 136 := (i 0).isLt
  fin_cases a
  simp [k0_off1, Scalar.indexCast]
  omega

theorem rowsAt_eq (T : S136.Idx → BitVec 32) (i : grid0.Coords) : rowsAt (F := F) T i = T (tileIx i) := by
  refine congrArg T (funext fun a => Fin.ext ?_)
  fin_cases a
  exact (off_val i 0).trans rfl

theorem expert_eq (pf : pre0.Contents (Elt F)) (i : grid0.Coords) (a : Fin 3) :
    cc0_transform_1 k0_off1_inb numel1_S1 pf i a = ![BitVec.toNat (w := 32) (pf 0 (tileIx i)), 0, 0] a := by
  have e : pf.at 0 (Rect.unit (s := S136) (k0_off1 i) S1.size (k0_off1_inb i)) numel1_S1 = pf 0 (tileIx i) := by
    refine congrArg (pf 0) (funext fun a => Fin.ext ?_)
    fin_cases a
    exact (off_val i 0).trans rfl
  show ![BitVec.toNat (w := 32) (pf.at 0 (Rect.unit (s := S136) (k0_off1 i) S1.size (k0_off1_inb i)) numel1_S1), 0, 0] a = _
  rw [e]

/-- The body's first branch is taken at a positive word. -/
theorem cond1_eq (w : BitVec 32) : k0_cond1 w = BitVec.ofBool (BitVec.slt 0#32 w) := by
  unfold k0_cond1; simp only [Scalar.cmpi, Scalar.extui]
  show BitVec.ofBool (BitVec.setWidth 32 (BitVec.ofBool (BitVec.slt 0#32 w)) != 0#32) = _
  cases BitVec.slt 0#32 w <;> decide

theorem oneBranch {w : BitVec 32} (h : BitVec.sle 0#32 w = true) : OneBranch (F := F) w := by
  have c2 : k0_cond2 w = BitVec.ofBool (w == 0#32) := by
    unfold k0_cond2; simp only [Scalar.cmpi, Scalar.extui]
    show BitVec.ofBool (BitVec.setWidth 32 (BitVec.ofBool (w == 0#32)) != 0#32) = _
    cases (w == 0#32) <;> decide
  unfold OneBranch
  rw [cond1_eq, c2]
  by_cases hw : w = 0#32
  · subst hw; exact .inr (by decide)
  · refine .inl ⟨?_, ?_⟩
    · have : BitVec.slt 0#32 w = true := by
        simp only [BitVec.sle, BitVec.slt, decide_eq_true_eq] at h ⊢
        have h0 : BitVec.toInt 0#32 ≠ w.toInt := fun e => hw (BitVec.eq_of_toInt_eq e).symm
        omega
      rw [this]; rfl
    · rw [show (w == 0#32) = false from by simpa using hw]; decide

/-- Tables in range are admissible: every expert's block is inside its array. -/
theorem ok_of_lt (pf : pre0.Contents (Elt F)) (h : ∀ i : S136.Idx, BitVec.toNat (w := 32) (pf 0 i) < 8) : ok0 pf := by
  have e1 := expert_eq pf
  refine ⟨fun i => ⟨fun a => ?_, .inr (Affine.block_words_dvd (s := S8x1024x2816) (p := EltTy.packing .bf16) (by decide) (by decide))⟩,
    fun i => ⟨fun a => ?_, .inr (Affine.block_words_dvd (s := S8x1024x2816) (p := EltTy.packing .bf16) (by decide) (by decide))⟩,
    fun i => ⟨fun a => ?_, .inr (Affine.block_words_dvd (s := S8x2816x1024) (p := EltTy.packing .bf16) (by decide) (by decide))⟩⟩
  · rw [e1]; have := h (tileIx i); fin_cases a <;> simp <;> omega
  · rw [show cc0_transform_2 k0_off1_inb numel1_S1 pf i a = _ from e1 i a]; have := h (tileIx i); fin_cases a <;> simp <;> omega
  · rw [show cc0_transform_3 k0_off1_inb numel1_S1 pf i a = _ from e1 i a]; have := h (tileIx i); fin_cases a <;> simp <;> omega

/-- The precondition makes the launch memory's tables a plan. -/
theorem plan (m : (ℓ : Loc nD τ sig) → Buf (Elt F) ℓ)
    (h : Cert.Pre_plan_ranges.fn (F := F) (m ((0 : Dev nD).tc.loc main_arg0)) (m ((0 : Dev nD).tc.loc main_arg1)) (m ((0 : Dev nD).tc.loc main_arg2))
      (m ((0 : Dev nD).tc.loc main_arg3)) (m ((0 : Dev nD).tc.loc main_arg4)) (m ((0 : Dev nD).tc.loc main_arg5)) = fun _ => 1#1) : Plan m := by
  obtain ⟨h0, h1⟩ := ranges _ _ _ _ _ _ h
  have t0 : tbl m 0 = m ((0 : Dev nD).tc.loc main_arg0) := V_main_arg0 m 0
  have t1 : tbl m 1 = m ((0 : Dev nD).tc.loc main_arg1) := V_main_arg1 m 0
  refine ⟨ok_of_lt _ fun i => ?_, fun i => ?_⟩
  · rw [t0]; exact h0 i
  · rw [rowsAt_eq (tbl m 1), t1]; exact oneBranch (h1 _)

end Cert.MoeIdeal.MoeRun

namespace Cert.MoeProof

theorem frame_ideal : Cert.quiescent_MoeIdeal := fun m g h => Cert.MoeIdeal.MoeRun.frame m g (Cert.MoeIdeal.MoeRun.plan m (h 0))

end Cert.MoeProof
-- ==== Proof.MoeBits.lean ====
/- Hand-written: the expert call and its idealization are one program text, so the call's frame is the one run's. -/
module
public import proofs.«01_k».proof.Proof.Gen.Moe
public import proofs.«01_k».proof.Proof.MoePlan
@[expose] public section
open Idealize.ShloMosaic Idealize.ShloMosaic.TcCoe Idealize.SL.Sem
noncomputable section
variable {F : FTy → Type} [FloatOps F]
set_option maxRecDepth 16384
namespace Cert.MoeProof
theorem body_same : Cert.Moe.cc0_moe_ffn (F:=F) = Cert.MoeIdeal.cc0_moe_ffn (F:=F) := rfl
theorem defs₀_same : Cert.Moe.defs₀ (F:=F) = Cert.MoeIdeal.defs₀ (F:=F) := by
  unfold Cert.Moe.defs₀ Cert.MoeIdeal.defs₀
  refine congrArg (Defs.onTc (nD := Cert.MoeIdeal.nD) (τ := Cert.MoeIdeal.τ) (sig := Cert.MoeIdeal.sig) (Val := Elt F) (Λ := Cert.MoeIdeal.Λ₀)) ?_
  funext l x
  match l, x with
  | ⟨0, h⟩, (t, s) => exact congrFun (congrFun (congrFun (congrFun (congrFun (congrFun (congrFun (congrFun (congrFun (congrFun (congrFun (congrFun (congrFun (congrFun (congrFun (congrFun (congrFun body_same _) _) _) _) _) _) _) _) _) _) _) _) _) _) _) _) _
  | ⟨_ + 1, h⟩, _ => exact absurd h (Nat.not_lt.2 (Nat.le_add_left _ _))
theorem main_same : Cert.Moe.main (F:=F) = Cert.MoeIdeal.main (F:=F) := rfl
theorem pcfgs_same : Cert.Moe.pcfgs (F:=F) = Cert.MoeIdeal.pcfgs (F:=F) := rfl
theorem defs_same : Cert.Moe.defs (F:=F) = Cert.MoeIdeal.defs (F:=F) := by
  unfold Cert.Moe.defs; rw [defs₀_same]; rfl
/-- The call's frame: the run of the one text, at words. -/
theorem frame_bits : Cert.quiescent_Moe := fun m g h => by
  have key := Cert.MoeIdeal.MoeRun.frame (F := Bits) m g (Cert.MoeIdeal.MoeRun.plan (F := Bits) m (h 0))
  rw [← defs_same, ← main_same] at key
  exact key
end Cert.MoeProof

end
-- ==== Proof.MoeRefAt.lean ====
/- Hand-written: the expert reference, stage by stage, each stage read at an index, and which expert a row's sum keeps. -/
module

public import proofs.«01_k».proof.Proof.Gen.MoeRefIdeal.Run
public import proofs.«01_k».proof.Proof.FfnRefAt
public import Idealize.ShloMosaic.Lib.Pointwise

@[expose] public section

set_option maxRecDepth 16384

noncomputable section

open Idealize.ShloMosaic Idealize.ShloMosaic.TcCoe Idealize.ShloMosaic.StableHlo Idealize.SL.Sem

namespace Cert.MoeRefIdeal.At

open Cert.MoeRefIdeal Cert.MoeRefIdeal.Gen
open Cert.FfnRefIdeal.At (gated)

/-- The combine weights: one where the row's tile is the expert's and has rows, else zero. -/
def sel (a0 a1 : IVec S136 32) : FVec Ideal S69632x8 .f32 :=
  shapeCast _ (broadcastInDim S136x512x8 ![0, 2] bcast_S136x8_S136x512x8_0_2 (mulf (uitofp .f32 (cmpi .eq (broadcastInDim S136x8 ![0, 1] bcast_S136x1_S136x8_0_1 (broadcastInDim S136x1 ![0] bcast_S136_S136x1_0 a0)) (broadcastInDim S136x8 ![0, 1] bcast_S1x8_S136x8_0_1 (iotaInDim S1x8 32 1)))) (broadcastInDim S136x8 ![0, 1] bcast_S136x1_S136x8_0_1 (broadcastInDim S136x1 ![0] bcast_S136_S136x1_0 (uitofp .f32 (cmpi .sgt a1 (broadcastInDim S136 ![] bcast_S_S136 (constantI S_ 32 0#32)))))))) shapeCasts_S136x512x8_S69632x8

/-- The gated inner activations of one expert. -/
def act (x : FVec Ideal S69632x1024 .f32) (g u : FVec Ideal S1024x2816 .f32) : FVec Ideal S69632x2816 .f32 :=
  mulf (mulf (Host.dotGeneral dot_S69632x1024_S1024x2816_S69632x2816_1_0_0_1_n_n none x g) (Host.divf (broadcastInDim S69632x2816 ![] bcast_S_S69632x2816 (constant S_ .f32 0x3F800000#32)) (addf (broadcastInDim S69632x2816 ![] bcast_S_S69632x2816 (constant S_ .f32 0x3F800000#32)) (Host.exp (Host.negf (Host.dotGeneral dot_S69632x1024_S1024x2816_S69632x2816_1_0_0_1_n_n none x g)))))) (Host.dotGeneral dot_S69632x1024_S1024x2816_S69632x2816_1_0_0_1_n_n none x u)

/-- One expert's share: its output times its column of the combine weights. -/
def share (s : FVec Ideal S69632x8 .f32) (x : FVec Ideal S69632x1024 .f32) (a3 a4 : FVec Ideal S1x8x1024x2816 .f32) (a5 : FVec Ideal S1x8x2816x1024 .f32) (n : ℕ)
    (hs : S69632x8.Slices ![0, n] S69632x1) (hg : S1x8x1024x2816.Slices ![0, n, 0, 0] S1x1x1024x2816) (hd : S1x8x2816x1024.Slices ![0, n, 0, 0] S1x1x2816x1024) : FVec Ideal S69632x1024 .f32 :=
  mulf (broadcastInDim S69632x1024 ![0, 1] bcast_S69632x1_S69632x1024_0_1 (extractStridedSlice S69632x1 ![0, n] s hs)) (Host.dotGeneral dot_S69632x2816_S2816x1024_S69632x1024_1_0_0_1_n_n none (act x (shapeCast _ (extractStridedSlice S1x1x1024x2816 ![0, n, 0, 0] a3 hg) shapeCasts_S1x1x1024x2816_S1024x2816) (shapeCast _ (extractStridedSlice S1x1x1024x2816 ![0, n, 0, 0] a4 hg) shapeCasts_S1x1x1024x2816_S1024x2816)) (shapeCast _ (extractStridedSlice S1x1x2816x1024 ![0, n, 0, 0] a5 hd) shapeCasts_S1x1x2816x1024_S2816x1024))

/-- The reference's result: the experts' shares, added up in their order. -/
def res (a0 a1 : IVec S136 32) (a2 : FVec Ideal S69632x1024 .f32) (a3 a4 : FVec Ideal S1x8x1024x2816 .f32) (a5 : FVec Ideal S1x8x2816x1024 .f32) : FVec Ideal S69632x1024 .f32 :=
  addf (addf (addf (addf (addf (addf (addf (addf (broadcastInDim S69632x1024 ![] bcast_S_S69632x1024 (constant S_ .f32 0x00000000#32)) (share (sel a0 a1) a2 a3 a4 a5 0 slices_S69632x8_S69632x1_0_0 slices_S1x8x1024x2816_S1x1x1024x2816_0_0_0_0 slices_S1x8x2816x1024_S1x1x2816x1024_0_0_0_0)) (share (sel a0 a1) a2 a3 a4 a5 1 slices_S69632x8_S69632x1_0_1 slices_S1x8x1024x2816_S1x1x1024x2816_0_1_0_0 slices_S1x8x2816x1024_S1x1x2816x1024_0_1_0_0)) (share (sel a0 a1) a2 a3 a4 a5 2 slices_S69632x8_S69632x1_0_2 slices_S1x8x1024x2816_S1x1x1024x2816_0_2_0_0 slices_S1x8x2816x1024_S1x1x2816x1024_0_2_0_0)) (share (sel a0 a1) a2 a3 a4 a5 3 slices_S69632x8_S69632x1_0_3 slices_S1x8x1024x2816_S1x1x1024x2816_0_3_0_0 slices_S1x8x2816x1024_S1x1x2816x1024_0_3_0_0)) (share (sel a0 a1) a2 a3 a4 a5 4 slices_S69632x8_S69632x1_0_4 slices_S1x8x1024x2816_S1x1x1024x2816_0_4_0_0 slices_S1x8x2816x1024_S1x1x2816x1024_0_4_0_0)) (share (sel a0 a1) a2 a3 a4 a5 5 slices_S69632x8_S69632x1_0_5 slices_S1x8x1024x2816_S1x1x1024x2816_0_5_0_0 slices_S1x8x2816x1024_S1x1x2816x1024_0_5_0_0)) (share (sel a0 a1) a2 a3 a4 a5 6 slices_S69632x8_S69632x1_0_6 slices_S1x8x1024x2816_S1x1x1024x2816_0_6_0_0 slices_S1x8x2816x1024_S1x1x2816x1024_0_6_0_0)) (share (sel a0 a1) a2 a3 a4 a5 7 slices_S69632x8_S69632x1_0_7 slices_S1x8x1024x2816_S1x1x1024x2816_0_7_0_0 slices_S1x8x2816x1024_S1x1x2816x1024_0_7_0_0)

theorem res_eq (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h c).1.trans rfl, (h c).2⟩) (Value.run m ρ)

/-- One expert's output at a row and a column. -/
def expert (x : Fin 1024 → EReal) (g u : Fin 2816 → Fin 1024 → EReal) (d : Fin 2816 → EReal) : EReal :=
  ∑ f : Fin 2816, gated x (g f) (u f) * d f

theorem act_at (x : FVec Ideal S69632x1024 .f32) (g u : FVec Ideal S1024x2816 .f32) (r : Fin 69632) (f : Fin 2816) :
    act x g u (ix2 r f) = gated (fun k => x (ix2 r k)) (fun k => g (ix2 k f)) (fun k => u (ix2 k f)) := by
  pointwise [act]
  rfl

theorem down_at (s : FVec Ideal S69632x1 .f32) (a : FVec Ideal S69632x2816 .f32) (w : FVec Ideal S2816x1024 .f32) (r : Fin 69632) (e : Fin 1024) :
    mulf (broadcastInDim S69632x1024 ![0, 1] bcast_S69632x1_S69632x1024_0_1 s) (Host.dotGeneral dot_S69632x2816_S2816x1024_S69632x1024_1_0_0_1_n_n none a w) (ix2 r e)
      = s (ix2 r 0) * ∑ f : Fin 2816, a (ix2 r f) * w (ix2 f e) := by
  pointwise

theorem up_cut (a : FVec Ideal S1x8x1024x2816 .f32) (n : ℕ) (hn : n < 8) (h : S1x8x1024x2816.Slices ![0, n, 0, 0] S1x1x1024x2816) (k : Fin 1024) (f : Fin 2816) :
    shapeCast _ (extractStridedSlice S1x1x1024x2816 ![0, n, 0, 0] a h) shapeCasts_S1x1x1024x2816_S1024x2816 (ix2 k f) = a (ix4 0 ⟨n, hn⟩ k f) := by
  interval_cases n <;> pointwise

theorem down_cut (a : FVec Ideal S1x8x2816x1024 .f32) (n : ℕ) (hn : n < 8) (h : S1x8x2816x1024.Slices ![0, n, 0, 0] S1x1x2816x1024) (f : Fin 2816) (e : Fin 1024) :
    shapeCast _ (extractStridedSlice S1x1x2816x1024 ![0, n, 0, 0] a h) shapeCasts_S1x1x2816x1024_S2816x1024 (ix2 f e) = a (ix4 0 ⟨n, hn⟩ f e) := by
  interval_cases n <;> pointwise

theorem sel_cut (s : FVec Ideal S69632x8 .f32) (n : ℕ) (hn : n < 8) (h : S69632x8.Slices ![0, n] S69632x1) (r : Fin 69632) :
    extractStridedSlice S69632x1 ![0, n] s h (ix2 r 0) = s (ix2 r ⟨n, hn⟩) := by
  interval_cases n <;> pointwise

theorem share_at (s : FVec Ideal S69632x8 .f32) (x : FVec Ideal S69632x1024 .f32) (a3 a4 : FVec Ideal S1x8x1024x2816 .f32) (a5 : FVec Ideal S1x8x2816x1024 .f32) (n : ℕ) (hn : n < 8)
    (hs : S69632x8.Slices ![0, n] S69632x1) (hg : S1x8x1024x2816.Slices ![0, n, 0, 0] S1x1x1024x2816) (hd : S1x8x2816x1024.Slices ![0, n, 0, 0] S1x1x2816x1024) (r : Fin 69632) (e : Fin 1024) :
    share s x a3 a4 a5 n hs hg hd (ix2 r e) = s (ix2 r ⟨n, hn⟩) * expert (fun k => x (ix2 r k)) (fun f k => a3 (ix4 0 ⟨n, hn⟩ k f)) (fun f k => a4 (ix4 0 ⟨n, hn⟩ k f)) (fun f => a5 (ix4 0 ⟨n, hn⟩ f e)) := by
  unfold share expert
  rw [down_at, sel_cut s n hn]
  simp only [act_at, up_cut _ n hn, down_cut _ n hn]

/-- The word of a truth value, as a number. -/
def flag (b : Bool) : EReal := if b then 1 else 0

theorem sel_at (a0 a1 : IVec S136 32) (r : Fin 69632) (n : Fin 8) (t : Fin 136) (q : Fin 512) (hr : (r : ℕ) = t * 512 + q) :
    sel a0 a1 (ix2 r n) = flag (a0 (ix1 t) == BitVec.ofNat 32 n) * flag (BitVec.slt 0#32 (a1 (ix1 t))) := by
  have hb : (t : ℕ) * 512 + q < 69632 := hr ▸ r.isLt
  rw [show r = ⟨t * 512 + q, hb⟩ from Fin.ext hr]
  have hf : ∀ b : Bool, (FloatOps.uitofp .f32 (BitVec.ofBool b) : Ideal .f32) = flag b := fun b => by
    show (((BitVec.ofBool b).toNat : ℝ) : EReal) = flag b
    cases b <;> simp [flag]
  pointwise [sel]
  exact congrArg₂ (fun x y : EReal => x * y) (hf _) (hf _)

/-- Of eight shares, each over its own flag, a word below eight keeps its own. -/
theorem pick (w : BitVec 32) (b : Bool) (E : Fin 8 → EReal) (p : Fin 8) (hp : w.toNat = p) :
    (((((((0 + flag (w == BitVec.ofNat 32 0) * flag b * E 0) + flag (w == BitVec.ofNat 32 1) * flag b * E 1) + flag (w == BitVec.ofNat 32 2) * flag b * E 2) + flag (w == BitVec.ofNat 32 3) * flag b * E 3) + flag (w == BitVec.ofNat 32 4) * flag b * E 4) + flag (w == BitVec.ofNat 32 5) * flag b * E 5) + flag (w == BitVec.ofNat 32 6) * flag b * E 6) + flag (w == BitVec.ofNat 32 7) * flag b * E 7 = if b then E p else 0 := by
  obtain rfl : w = BitVec.ofNat 32 p := BitVec.eq_of_toNat_eq (by rw [hp, BitVec.toNat_ofNat]; omega)
  have on : ∀ c : Bool, c = true → ∀ x : EReal, flag c * flag b * x = if b then x else 0 := fun c h x => by
    subst h; cases b <;> simp [flag]
  have off : ∀ c : Bool, c = false → ∀ x : EReal, flag c * flag b * x = 0 := fun c h x => by
    subst h; simp [flag]
  fin_cases p
  · rw [on _ (by decide) (E 0), off _ (by decide) (E 1), off _ (by decide) (E 2), off _ (by decide) (E 3), off _ (by decide) (E 4), off _ (by decide) (E 5), off _ (by decide) (E 6), off _ (by decide) (E 7)]; simp
  · rw [off _ (by decide) (E 0), on _ (by decide) (E 1), off _ (by decide) (E 2), off _ (by decide) (E 3), off _ (by decide) (E 4), off _ (by decide) (E 5), off _ (by decide) (E 6), off _ (by decide) (E 7)]; simp
  · rw [off _ (by decide) (E 0), off _ (by decide) (E 1), on _ (by decide) (E 2), off _ (by decide) (E 3), off _ (by decide) (E 4), off _ (by decide) (E 5), off _ (by decide) (E 6), off _ (by decide) (E 7)]; simp
  · rw [off _ (by decide) (E 0), off _ (by decide) (E 1), off _ (by decide) (E 2), on _ (by decide) (E 3), off _ (by decide) (E 4), off _ (by decide) (E 5), off _ (by decide) (E 6), off _ (by decide) (E 7)]; simp
  · rw [off _ (by decide) (E 0), off _ (by decide) (E 1), off _ (by decide) (E 2), off _ (by decide) (E 3), on _ (by decide) (E 4), off _ (by decide) (E 5), off _ (by decide) (E 6), off _ (by decide) (E 7)]; simp
  · rw [off _ (by decide) (E 0), off _ (by decide) (E 1), off _ (by decide) (E 2), off _ (by decide) (E 3), off _ (by decide) (E 4), on _ (by decide) (E 5), off _ (by decide) (E 6), off _ (by decide) (E 7)]; simp
  · rw [off _ (by decide) (E 0), off _ (by decide) (E 1), off _ (by decide) (E 2), off _ (by decide) (E 3), off _ (by decide) (E 4), off _ (by decide) (E 5), on _ (by decide) (E 6), off _ (by decide) (E 7)]; simp
  · rw [off _ (by decide) (E 0), off _ (by decide) (E 1), off _ (by decide) (E 2), off _ (by decide) (E 3), off _ (by decide) (E 4), off _ (by decide) (E 5), off _ (by decide) (E 6), on _ (by decide) (E 7)]; simp

theorem sum_at (a0 a1 : IVec S136 32) (a2 : FVec Ideal S69632x1024 .f32) (a3 a4 : FVec Ideal S1x8x1024x2816 .f32) (a5 : FVec Ideal S1x8x2816x1024 .f32) (i : S69632x1024.Idx) :
    res a0 a1 a2 a3 a4 a5 i = (((((((Ideal.ofBits .f32 0x00000000#32 + share (sel a0 a1) a2 a3 a4 a5 0 slices_S69632x8_S69632x1_0_0 slices_S1x8x1024x2816_S1x1x1024x2816_0_0_0_0 slices_S1x8x2816x1024_S1x1x2816x1024_0_0_0_0 i) + share (sel a0 a1) a2 a3 a4 a5 1 slices_S69632x8_S69632x1_0_1 slices_S1x8x1024x2816_S1x1x1024x2816_0_1_0_0 slices_S1x8x2816x1024_S1x1x2816x1024_0_1_0_0 i) + share (sel a0 a1) a2 a3 a4 a5 2 slices_S69632x8_S69632x1_0_2 slices_S1x8x1024x2816_S1x1x1024x2816_0_2_0_0 slices_S1x8x2816x1024_S1x1x2816x1024_0_2_0_0 i) + share (sel a0 a1) a2 a3 a4 a5 3 slices_S69632x8_S69632x1_0_3 slices_S1x8x1024x2816_S1x1x1024x2816_0_3_0_0 slices_S1x8x2816x1024_S1x1x2816x1024_0_3_0_0 i) + share (sel a0 a1) a2 a3 a4 a5 4 slices_S69632x8_S69632x1_0_4 slices_S1x8x1024x2816_S1x1x1024x2816_0_4_0_0 slices_S1x8x2816x1024_S1x1x2816x1024_0_4_0_0 i) + share (sel a0 a1) a2 a3 a4 a5 5 slices_S69632x8_S69632x1_0_5 slices_S1x8x1024x2816_S1x1x1024x2816_0_5_0_0 slices_S1x8x2816x1024_S1x1x2816x1024_0_5_0_0 i) + share (sel a0 a1) a2 a3 a4 a5 6 slices_S69632x8_S69632x1_0_6 slices_S1x8x1024x2816_S1x1x1024x2816_0_6_0_0 slices_S1x8x2816x1024_S1x1x2816x1024_0_6_0_0 i) + share (sel a0 a1) a2 a3 a4 a5 7 slices_S69632x8_S69632x1_0_7 slices_S1x8x1024x2816_S1x1x1024x2816_0_7_0_0 slices_S1x8x2816x1024_S1x1x2816x1024_0_7_0_0 i := rfl

/-- Of the shares at a row, only the row's own expert's is kept. -/
theorem res_at (a0 a1 : IVec S136 32) (a2 : FVec Ideal S69632x1024 .f32) (a3 a4 : FVec Ideal S1x8x1024x2816 .f32) (a5 : FVec Ideal S1x8x2816x1024 .f32)
    (r : Fin 69632) (e : Fin 1024) (t : Fin 136) (q : Fin 512) (hr : (r : ℕ) = t * 512 + q) (p : Fin 8) (hp : (a0 (ix1 t)).toNat = p) :
    res a0 a1 a2 a3 a4 a5 (ix2 r e) = if BitVec.slt 0#32 (a1 (ix1 t)) then
      expert (fun k => a2 (ix2 r k)) (fun f k => a3 (ix4 0 p k f)) (fun f k => a4 (ix4 0 p k f)) (fun f => a5 (ix4 0 p f e)) else 0 := by
  refine Eq.trans ?_ (pick (a0 (ix1 t)) (BitVec.slt 0#32 (a1 (ix1 t))) (fun p => expert (fun k => a2 (ix2 r k)) (fun f k => a3 (ix4 0 p k f)) (fun f k => a4 (ix4 0 p k f)) (fun f => a5 (ix4 0 p f e))) p hp)
  have z : Ideal.ofBits .f32 0x00000000#32 = 0 := by simp [Ideal.ofBits, Ideal.ieee, -EReal.coe_mul]
  have hn : ∀ (n : ℕ) (hn : n < 8) hs hg hd, share (sel a0 a1) a2 a3 a4 a5 n hs hg hd (ix2 r e)
      = flag (a0 (ix1 t) == BitVec.ofNat 32 n) * flag (BitVec.slt 0#32 (a1 (ix1 t))) * expert (fun k => a2 (ix2 r k)) (fun f k => a3 (ix4 0 ⟨n, hn⟩ k f)) (fun f k => a4 (ix4 0 ⟨n, hn⟩ k f)) (fun f => a5 (ix4 0 ⟨n, hn⟩ f e)) := fun n hn hs hg hd => by
    rw [share_at _ _ _ _ _ n hn, sel_at a0 a1 r ⟨n, hn⟩ t q hr]
  rw [sum_at, z, hn 0 (by decide), hn 1 (by decide), hn 2 (by decide), hn 3 (by decide), hn 4 (by decide), hn 5 (by decide), hn 6 (by decide), hn 7 (by decide)]
  rfl

end Cert.MoeRefIdeal.At

end
-- ==== Proof.MoeValue.lean ====
/- Hand-written: the expert kernel at an index, and its result is the reference's. -/
module

public import proofs.«01_k».proof.Proof.MoePlan
public import proofs.«01_k».proof.Proof.MoeRefAt
public import proofs.«01_k».proof.Proof.FfnValue
public import Idealize.ShloMosaic.Lib.VecWindow

@[expose] public section

set_option maxRecDepth 16384

noncomputable section

open Idealize.ShloMosaic Idealize.ShloMosaic.TcCoe Idealize.SL.Sem

namespace Cert.MoeIdeal.MoeRun

open Cert.MoeIdeal Cert.MoeIdeal.Gen
open Cert.FfnRefIdeal.At (gated)
open Cert.MoeRefIdeal.At (expert res)
open Cert.FfnIdeal.FfnValue (inner tile_at)

theorem tile2560 (h : FVec Ideal S512x1024 .bf16) (g u : FVec Ideal S1024x256 .bf16) (x : S512x256.Idx) :
    k0_pay1 (F := Ideal) h g u x = gated (fun k => h (ix2 (x 0) k)) (fun k => g (ix2 k (x 1))) (fun k => u (ix2 k (x 1))) := by
  pointwise [k0_pay1, zero_sub]
  rfl

theorem tile2304 (h : FVec Ideal S512x1024 .bf16) (g u : FVec Ideal S1024x256 .bf16) (x : S512x256.Idx) :
    k0_pay22 (F := Ideal) h g u x = gated (fun k => h (ix2 (x 0) k)) (fun k => g (ix2 k (x 1))) (fun k => u (ix2 k (x 1))) := by
  pointwise [k0_pay22, zero_sub]
  rfl

theorem tile2048 (h : FVec Ideal S512x1024 .bf16) (g u : FVec Ideal S1024x256 .bf16) (x : S512x256.Idx) :
    k0_pay21 (F := Ideal) h (k0_pay20 (F := Ideal) h g) u x = gated (fun k => h (ix2 (x 0) k)) (fun k => g (ix2 k (x 1))) (fun k => u (ix2 k (x 1))) := by
  pointwise [k0_pay21, k0_pay20, zero_sub]
  rfl

theorem tile1792 (h : FVec Ideal S512x1024 .bf16) (g u : FVec Ideal S1024x256 .bf16) (x : S512x256.Idx) :
    k0_pay19 (F := Ideal) h (k0_pay18 (F := Ideal) g) u x = gated (fun k => h (ix2 (x 0) k)) (fun k => g (ix2 k (x 1))) (fun k => u (ix2 k (x 1))) := by
  pointwise [k0_pay19, k0_pay18, zero_sub]
  rfl

theorem tile1536 (h : FVec Ideal S512x1024 .bf16) (g u : FVec Ideal S1024x256 .bf16) (x : S512x256.Idx) :
    k0_pay17 (F := Ideal) h g u x = gated (fun k => h (ix2 (x 0) k)) (fun k => g (ix2 k (x 1))) (fun k => u (ix2 k (x 1))) := by
  pointwise [k0_pay17, zero_sub]
  rfl

theorem tile1280 (h : FVec Ideal S512x1024 .bf16) (g u : FVec Ideal S1024x256 .bf16) (x : S512x256.Idx) :
    k0_pay16 (F := Ideal) h (k0_pay14 (F := Ideal) h g) (k0_pay15 (F := Ideal) u) x = gated (fun k => h (ix2 (x 0) k)) (fun k => g (ix2 k (x 1))) (fun k => u (ix2 k (x 1))) := by
  pointwise [k0_pay16, k0_pay14, k0_pay15, zero_sub]
  rfl

theorem tile1024 (h : FVec Ideal S512x1024 .bf16) (g u : FVec Ideal S1024x256 .bf16) (x : S512x256.Idx) :
    k0_pay13 (F := Ideal) h (k0_pay12 (F := Ideal) h g) (FloatOps.ofBits .f32 0x00000000#32) u x = gated (fun k => h (ix2 (x 0) k)) (fun k => g (ix2 k (x 1))) (fun k => u (ix2 k (x 1))) := by
  pointwise [k0_pay13, k0_pay12, zero_sub]
  rfl

theorem tile768 (h : FVec Ideal S512x1024 .bf16) (g u : FVec Ideal S1024x256 .bf16) (x : S512x256.Idx) :
    k0_pay11 (F := Ideal) h g u x = gated (fun k => h (ix2 (x 0) k)) (fun k => g (ix2 k (x 1))) (fun k => u (ix2 k (x 1))) := by
  pointwise [k0_pay11, zero_sub]
  rfl

theorem tile512 (h : FVec Ideal S512x1024 .bf16) (g u : FVec Ideal S1024x256 .bf16) (x : S512x256.Idx) :
    k0_pay10 (F := Ideal) (k0_pay9 (F := Ideal) h g u) x = gated (fun k => h (ix2 (x 0) k)) (fun k => g (ix2 k (x 1))) (fun k => u (ix2 k (x 1))) := by
  pointwise [k0_pay10, k0_pay9, zero_sub]
  rfl

theorem tile256 (h : FVec Ideal S512x1024 .f32) (g u : FVec Ideal S1024x256 .bf16) (x : S512x256.Idx) :
    k0_pay8 (F := Ideal) (k0_pay4 (F := Ideal) h) (k0_pay6 (F := Ideal) h g) (k0_pay7 (F := Ideal) h g) u x = gated (fun k => h (ix2 (x 0) k)) (fun k => g (ix2 k (x 1))) (fun k => u (ix2 k (x 1))) := by
  pointwise [k0_pay8, k0_pay6, k0_pay7, k0_pay4, zero_sub]
  rfl

theorem tile0 (h : FVec Ideal S512x1024 .f32) (g u : FVec Ideal S1024x256 .bf16) (x : S512x256.Idx) :
    k0_pay5 (F := Ideal) h g u x = gated (fun k => h (ix2 (x 0) k)) (fun k => g (ix2 k (x 1))) (fun k => u (ix2 k (x 1))) := by
  pointwise [k0_pay5, k0_pay4, zero_sub]
  rfl

/-- One expert's weight block as a matrix. -/
def mat (x : FVec Ideal S1x1024x2816 .bf16) : FVec Ideal S1024x2816 .bf16 := fun j => x (ix3 0 (j 0) (j 1))

/-- A weight block read through its whole slice with the leading axis dropped is that matrix. -/
theorem weight_read (M : Memref sig .tc .vmem S1x1024x2816 .bf16) (hM : M.IsWhole) (x : FVec Ideal S1x1024x2816 .bf16) (hn) :
    View.read (Elt Ideal) ((M.view.slice (Rect.unit (s := S1x1024x2816) ![0, 0, 0] ![1, 1024, 2816] inb_S1x1024x2816_S1x1024x2816_0_0_0)).reshape S1024x2816 hn) (hM.unread x) = mat x := by
  refine (Idealize.ShloMosaic.Memref.read_squeeze_full (Val := Elt Ideal) M inb_S1x1024x2816_S1x1024x2816_0_0_0 squeezes_S1x1024x2816_S1024x2816 (hM.unread x)).trans ?_
  rw [hM.read_unread]
  funext y
  refine congrArg x (Shape.reshapeEquiv_eq_of_rowMajor _ ?_)
  rw [Shape.rowMajor_val_three, Shape.rowMajor_val_two]
  show (0 * 1024 + (y 0 : ℕ)) * 2816 + (y 1 : ℕ) = (y 0 : ℕ) * 2816 + (y 1 : ℕ)
  omega

theorem down_at (s : FVec Ideal S512x2816 .bf16) (w : FVec Ideal S1x2816x1024 .bf16) (q : Fin 512) (e : Fin 1024) :
    k0_pay2 (F := Ideal) s w (ix2 q e) = ∑ f : Fin 2816, s (ix2 q f) * w (ix3 0 f e) := by
  pointwise [k0_pay2]

theorem none_at (y : S512x1024.Idx) : k0_pay3 (F := Ideal) y = 0 := by
  pointwise [k0_pay3]

/-- A tile with no rows is left at zeros. -/
theorem out_B (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1x1024x2816 .bf16) (x2 : Vec Ideal S1x1024x2816 .bf16) (x3 : Vec Ideal S1x2816x1024 .bf16) (xt0 : TbBuf0 (F := Ideal) c tbM0_0) (xt1 : TbBuf0 (F := Ideal) c tbM0_1)
    (h1 : ¬ k0_cond1 (rowsAt xt1 i) = 1#1) (h2 : k0_cond2 (rowsAt xt1 i) = 1#1) (y : S512x1024.Idx) :
    out0_B c i arg3 harg3 arg4 harg4 arg5 harg5 arg6 harg6 arg7 harg7 arg8 harg8 x0 x1 x2 x3 xt0 xt1 h1 h2 y = 0 := by
  unfold out0_B
  frame_out
  exact none_at y

set_option maxHeartbeats 1000000 in
/-- A tile with rows is left at the product of its gated activations and the expert's third weight. -/
theorem out_A (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1x1024x2816 .bf16) (x2 : Vec Ideal S1x1024x2816 .bf16) (x3 : Vec Ideal S1x2816x1024 .bf16) (xt0 : TbBuf0 (F := Ideal) c tbM0_0) (xt1 : TbBuf0 (F := Ideal) c tbM0_1)
    (h1 : k0_cond1 (rowsAt xt1 i) = 1#1) (h2 : ¬ k0_cond2 (rowsAt xt1 i) = 1#1) (y : S512x1024.Idx) :
    out0_A c i arg3 harg3 arg4 harg4 arg5 harg5 arg6 harg6 arg7 harg7 arg8 harg8 x0 x1 x2 x3 xt0 xt1 h1 h2 y = k0_pay2 (F := Ideal) (inner x0 (mat x1) (mat x2)) x3 y := by
  unfold out0_A
  frame_out
  simp only [weight_read]
  refine congrFun (congrArg (fun z => k0_pay2 (F := Ideal) z _) (funext fun j => ?_)) y
  rw [View.readCov_eq_canon']
  beta_reduce
  refine Eq.trans (congrArg (View.canon _) (?_ : _ = j)) ?_
  · funext a
    refine Fin.ext ?_
    fin_cases a <;> simp [LoadRect.idx, Rect.unit]
  canon_tiles x b
  · exact (tile2560 _ _ _ x).trans (tile_at _ _ _ 2560 _ x j b0 b1)
  · exact (tile2304 _ _ _ x).trans (tile_at _ _ _ 2304 _ x j b0 b1)
  · exact (tile2048 _ _ _ x).trans (tile_at _ _ _ 2048 _ x j b0 b1)
  · exact (tile1792 _ _ _ x).trans (tile_at _ _ _ 1792 _ x j b0 b1)
  · exact (tile1536 _ _ _ x).trans (tile_at _ _ _ 1536 _ x j b0 b1)
  · exact (tile1280 _ _ _ x).trans (tile_at _ _ _ 1280 _ x j b0 b1)
  · exact (tile1024 _ _ _ x).trans (tile_at _ _ _ 1024 _ x j b0 b1)
  · exact (tile768 _ _ _ x).trans (tile_at _ _ _ 768 _ x j b0 b1)
  · exact (tile512 _ _ _ x).trans (tile_at _ _ _ 512 _ x j b0 b1)
  · exact (tile256 _ _ _ x).trans (tile_at _ _ _ 256 _ x j b0 b1)
  · exact (tile0 _ _ _ x).trans (tile_at _ _ _ 0 _ x j b0 (b1.trans (Nat.zero_add _).symm))

theorem out_A_at (c : Dev nD) (i : grid0.Coords) (arg3 : Memref sig .tc .vmem S512x1024 .f32) (harg3 : arg3.IsWhole) (arg4 : Memref sig .tc .vmem S1x1024x2816 .bf16) (harg4 : arg4.IsWhole) (arg5 : Memref sig .tc .vmem S1x1024x2816 .bf16) (harg5 : arg5.IsWhole) (arg6 : Memref sig .tc .vmem S1x2816x1024 .bf16) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .f32) (x1 : Vec Ideal S1x1024x2816 .bf16) (x2 : Vec Ideal S1x1024x2816 .bf16) (x3 : Vec Ideal S1x2816x1024 .bf16) (xt0 : TbBuf0 (F := Ideal) c tbM0_0) (xt1 : TbBuf0 (F := Ideal) c tbM0_1)
    (h1 : k0_cond1 (rowsAt xt1 i) = 1#1) (h2 : ¬ k0_cond2 (rowsAt xt1 i) = 1#1) (q : Fin 512) (e : Fin 1024) :
    out0_A c i arg3 harg3 arg4 harg4 arg5 harg5 arg6 harg6 arg7 harg7 arg8 harg8 x0 x1 x2 x3 xt0 xt1 h1 h2 (ix2 q e)
      = expert (fun k => x0 (ix2 q k)) (fun f k => x1 (ix3 0 k f)) (fun f k => x2 (ix3 0 k f)) (fun f => x3 (ix3 0 f e)) :=
  (out_A c i arg3 harg3 arg4 harg4 arg5 harg5 arg6 harg6 arg7 harg7 arg8 harg8 x0 x1 x2 x3 xt0 xt1 h1 h2 _).trans (down_at _ _ q e)

theorem expert_congr (x x' : Fin 1024 → EReal) (g g' u u' : Fin 2816 → Fin 1024 → EReal) (d d' : Fin 2816 → EReal)
    (hx : ∀ k, x k = x' k) (hg : ∀ f k, g f k = g' f k) (hu : ∀ f k, u f k = u' f k) (hd : ∀ f, d f = d' f) :
    expert x g u d = expert x' g' u' d' := by
  rw [funext hx, funext fun f => funext (hg f), funext fun f => funext (hu f), funext hd]

variable (m : (ℓ : Loc nD τ sig) → Buf (Elt Ideal) ℓ)

theorem tile_ix : ∀ t : Fin grid0.N, cc0_transform_0 (grid0.coords t) = ![t.val, 0] ∧ cc0_transform_4 (grid0.coords t) = ![t.val, 0] := by
  decide +kernel

theorem tile_at_point : ∀ t : Fin grid0.N, (grid0.coords t 0).val = t.val := by
  decide +kernel

theorem place0 (hO : Ok m) (t : Fin (cfgM m hO).N) (y : S512x1024.Idx) (j : S69632x1024.Idx) (h0 : (j 0 : ℕ) = t.val * 512 + y 0) (h1 : (j 1 : ℕ) = y 1) :
    (((cfgM m hO).win 0).blk t).view.emb y = j := by
  funext a
  refine Fin.ext ((Pipeline.Window.rect_emb_val ((cfgM m hO).win 0) t y a).trans ?_)
  have e : ((cfgM m hO).win 0).index t a = ![t.val, 0] a := congrFun (tile_ix t).1 a
  rw [e]
  fin_cases a
  · exact h0.symm
  · exact (Nat.zero_add _).trans h1.symm

theorem place4 (hO : Ok m) (t : Fin (cfgM m hO).N) (y : S512x1024.Idx) (j : S69632x1024.Idx) (h0 : (j 0 : ℕ) = t.val * 512 + y 0) (h1 : (j 1 : ℕ) = y 1) :
    (((cfgM m hO).win 4).blk t).view.emb y = j := by
  funext a
  refine Fin.ext ((Pipeline.Window.rect_emb_val ((cfgM m hO).win 4) t y a).trans ?_)
  have e : ((cfgM m hO).win 4).index t a = ![t.val, 0] a := congrFun (tile_ix t).2 a
  rw [e]
  fin_cases a
  · exact h0.symm
  · exact (Nat.zero_add _).trans h1.symm

theorem place1 (hO : Ok m) (t : Fin (cfgM m hO).N) (y : S1x1024x2816.Idx) (j : S8x1024x2816.Idx) (h0 : (j 0 : ℕ) = BitVec.toNat (w := 32) (tbl m 0 (tileIx (grid0.coords t)))) (h1 : (j 1 : ℕ) = y 1) (h2 : (j 2 : ℕ) = y 2) :
    (((cfgM m hO).win 1).blk t).view.emb y = j := by
  funext a
  refine Fin.ext ((Pipeline.Window.rect_emb_val ((cfgM m hO).win 1) t y a).trans ?_)
  have e : ((cfgM m hO).win 1).index t a = ![BitVec.toNat (w := 32) (tbl m 0 (tileIx (grid0.coords t))), 0, 0] a := expert_eq (tbl m) (grid0.coords t) a
  rw [e]
  have hy : (y 0 : ℕ) = 0 := Nat.lt_one_iff.1 (y 0).isLt
  fin_cases a
  · refine Eq.trans ?_ h0.symm
    show _ * 1 + (y 0 : ℕ) = _
    rw [hy, Nat.mul_one, Nat.add_zero]; rfl
  · exact (congrArg (· + (y 1 : ℕ)) (Nat.zero_mul _)).trans ((Nat.zero_add _).trans h1.symm)
  · exact (congrArg (· + (y 2 : ℕ)) (Nat.zero_mul _)).trans ((Nat.zero_add _).trans h2.symm)

theorem place2 (hO : Ok m) (t : Fin (cfgM m hO).N) (y : S1x1024x2816.Idx) (j : S8x1024x2816.Idx) (h0 : (j 0 : ℕ) = BitVec.toNat (w := 32) (tbl m 0 (tileIx (grid0.coords t)))) (h1 : (j 1 : ℕ) = y 1) (h2 : (j 2 : ℕ) = y 2) :
    (((cfgM m hO).win 2).blk t).view.emb y = j := by
  funext a
  refine Fin.ext ((Pipeline.Window.rect_emb_val ((cfgM m hO).win 2) t y a).trans ?_)
  have e : ((cfgM m hO).win 2).index t a = ![BitVec.toNat (w := 32) (tbl m 0 (tileIx (grid0.coords t))), 0, 0] a := expert_eq (tbl m) (grid0.coords t) a
  rw [e]
  have hy : (y 0 : ℕ) = 0 := Nat.lt_one_iff.1 (y 0).isLt
  fin_cases a
  · refine Eq.trans ?_ h0.symm
    show _ * 1 + (y 0 : ℕ) = _
    rw [hy, Nat.mul_one, Nat.add_zero]; rfl
  · exact (congrArg (· + (y 1 : ℕ)) (Nat.zero_mul _)).trans ((Nat.zero_add _).trans h1.symm)
  · exact (congrArg (· + (y 2 : ℕ)) (Nat.zero_mul _)).trans ((Nat.zero_add _).trans h2.symm)

theorem place3 (hO : Ok m) (t : Fin (cfgM m hO).N) (y : S1x2816x1024.Idx) (j : S8x2816x1024.Idx) (h0 : (j 0 : ℕ) = BitVec.toNat (w := 32) (tbl m 0 (tileIx (grid0.coords t)))) (h1 : (j 1 : ℕ) = y 1) (h2 : (j 2 : ℕ) = y 2) :
    (((cfgM m hO).win 3).blk t).view.emb y = j := by
  funext a
  refine Fin.ext ((Pipeline.Window.rect_emb_val ((cfgM m hO).win 3) t y a).trans ?_)
  have e : ((cfgM m hO).win 3).index t a = ![BitVec.toNat (w := 32) (tbl m 0 (tileIx (grid0.coords t))), 0, 0] a := expert_eq (tbl m) (grid0.coords t) a
  rw [e]
  have hy : (y 0 : ℕ) = 0 := Nat.lt_one_iff.1 (y 0).isLt
  fin_cases a
  · refine Eq.trans ?_ h0.symm
    show _ * 1 + (y 0 : ℕ) = _
    rw [hy, Nat.mul_one, Nat.add_zero]; rfl
  · exact (congrArg (· + (y 1 : ℕ)) (Nat.zero_mul _)).trans ((Nat.zero_add _).trans h1.symm)
  · exact (congrArg (· + (y 2 : ℕ)) (Nat.zero_mul _)).trans ((Nat.zero_add _).trans h2.symm)

theorem V_gate (c : Dev nD) (p : Fin 8) (k : Fin 1024) (f : Fin 2816) : V m c main_v1 (ix3 p k f) = m ((c : Thread nD τ).loc main_arg3) (ix4 0 p k f) := by
  entry_read
  pointwise

theorem V_up (c : Dev nD) (p : Fin 8) (k : Fin 1024) (f : Fin 2816) : V m c main_v3 (ix3 p k f) = m ((c : Thread nD τ).loc main_arg4) (ix4 0 p k f) := by
  entry_read
  pointwise

theorem V_down (c : Dev nD) (p : Fin 8) (f : Fin 2816) (e : Fin 1024) : V m c main_v5 (ix3 p f e) = m ((c : Thread nD τ).loc main_arg5) (ix4 0 p f e) := by
  entry_read
  pointwise

theorem blk0 (hO : Ok m) (c : Dev nD) (t : Fin (cfgM m hO).N) (q : Fin 512) (e : Fin 1024) (r : Fin 69632) (hr : (r : ℕ) = t.val * 512 + q) :
    iblk m hO c 0 t (ix2 q e) = m ((c : Thread nD τ).loc main_arg2) (ix2 r e) :=
  (congrArg (V m c main_arg2) (place0 m hO t (ix2 q e) (ix2 r e) hr rfl)).trans (congrFun (V_main_arg2 m c) _)

theorem blk1 (hO : Ok m) (c : Dev nD) (t : Fin (cfgM m hO).N) (k : Fin 1024) (f : Fin 2816) (p : Fin 8) (hp : BitVec.toNat (w := 32) (tbl m 0 (tileIx (grid0.coords t))) = p) :
    iblk m hO c 1 t (ix3 0 k f) = m ((c : Thread nD τ).loc main_arg3) (ix4 0 p k f) :=
  (congrArg (V m c main_v1) (place1 m hO t (ix3 0 k f) (ix3 p k f) hp.symm rfl rfl)).trans (V_gate m c p k f)

theorem blk2 (hO : Ok m) (c : Dev nD) (t : Fin (cfgM m hO).N) (k : Fin 1024) (f : Fin 2816) (p : Fin 8) (hp : BitVec.toNat (w := 32) (tbl m 0 (tileIx (grid0.coords t))) = p) :
    iblk m hO c 2 t (ix3 0 k f) = m ((c : Thread nD τ).loc main_arg4) (ix4 0 p k f) :=
  (congrArg (V m c main_v3) (place2 m hO t (ix3 0 k f) (ix3 p k f) hp.symm rfl rfl)).trans (V_up m c p k f)

theorem blk3 (hO : Ok m) (c : Dev nD) (t : Fin (cfgM m hO).N) (f : Fin 2816) (e : Fin 1024) (p : Fin 8) (hp : BitVec.toNat (w := 32) (tbl m 0 (tileIx (grid0.coords t))) = p) :
    iblk m hO c 3 t (ix3 0 f e) = m ((c : Thread nD τ).loc main_arg5) (ix4 0 p f e) :=
  (congrArg (V m c main_v5) (place3 m hO t (ix3 0 f e) (ix3 p f e) hp.symm rfl rfl)).trans (V_down m c p f e)

/-- What a tile is left at, at an index, is the reference's result there. -/
theorem point (hP : Plan m) (c : Dev nD) (hx : ∀ i : S136.Idx, BitVec.toNat (w := 32) (m ((c : Thread nD τ).loc main_arg0) i) < 8)
    (t : Fin (cfgM m hP.ok).N) (q : Fin 512) (e : Fin 1024) (r : Fin 69632) (hr : (r : ℕ) = t.val * 512 + q) :
    outsAt0 m hP c t (ix2 q e) = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r e) := by
  obtain rfl : c = 0 := Subsingleton.elim _ _
  have ht : t.val < 136 := t.isLt
  have ei : tileIx (grid0.coords t) = ix1 (⟨t.val, ht⟩ : Fin 136) := by
    funext a
    refine Fin.ext ?_
    fin_cases a
    exact tile_at_point t
  have t0 : tbl m 0 = m (((0 : Dev nD) : Thread nD τ).loc main_arg0) := V_main_arg0 m 0
  have t1 : tbl m 1 = m (((0 : Dev nD) : Thread nD τ).loc main_arg1) := V_main_arg1 m 0
  have hw : rowsAt (F := Ideal) (tbl m 1) (grid0.coords t) = m (((0 : Dev nD) : Thread nD τ).loc main_arg1) (ix1 (⟨t.val, ht⟩ : Fin 136)) := by
    rw [rowsAt_eq (tbl m 1), t1, ei]
  have hp : BitVec.toNat (w := 32) (tbl m 0 (tileIx (grid0.coords t))) = ((⟨_, hx (ix1 ⟨t.val, ht⟩)⟩ : Fin 8) : ℕ) := by
    rw [t0, ei]
  have hc := cond1_eq (rowsAt (F := Ideal) (tbl m 1) (grid0.coords t))
  refine Eq.trans ?_ (Cert.MoeRefIdeal.At.res_at _ _ _ _ _ _ r e ⟨t.val, ht⟩ q hr ⟨_, hx (ix1 ⟨t.val, ht⟩)⟩ rfl).symm
  unfold outsAt0
  by_cases h : k0_cond1 (rowsAt (tbl m 1) (grid0.coords t)) = 1#1
  · have hs : BitVec.slt 0#32 (m (((0 : Dev nD) : Thread nD τ).loc main_arg1) (ix1 (⟨t.val, ht⟩ : Fin 136))) = true := by
      rw [← hw]
      exact (by decide : ∀ b : Bool, BitVec.ofBool b = 1#1 → b = true) _ (hc.symm.trans h)
    rw [dif_pos h, if_pos hs]
    refine (out_A_at 0 (grid0.coords t) _ _ _ _ _ _ _ _ _ _ _ _ _ _ _ _ _ _ h _ q e).trans ?_
    refine expert_congr _ _ _ _ _ _ _ _ ?_ ?_ ?_ ?_
    · exact fun k => blk0 m hP.ok 0 t q k r hr
    · exact fun f k => blk1 m hP.ok 0 t k f _ hp
    · exact fun f k => blk2 m hP.ok 0 t k f _ hp
    · exact fun f => blk3 m hP.ok 0 t f e _ hp
  · have hs : ¬ BitVec.slt 0#32 (m (((0 : Dev nD) : Thread nD τ).loc main_arg1) (ix1 (⟨t.val, ht⟩ : Fin 136))) = true := by
      rw [← hw]
      exact fun hb => h (hc.trans (by rw [hb]; rfl))
    rw [dif_neg h, if_neg hs]
    exact out_B 0 (grid0.coords t) _ _ _ _ _ _ _ _ _ _ _ _ _ _ _ _ _ _ h _ _

/-- The written-back tiles cover the result. -/
theorem covers (hO : Ok m) : ((cfgM m hO).win 4).Covers := by
  refine ⟨fun a => ?_, fun β => ?_⟩
  · fin_cases a
    · exact (by decide : 0 < 512)
    · exact (by decide : 0 < 1024)
  · have h0 : (β (0 : Fin 2) : ℕ) < 136 := lt_of_lt_of_eq (β (0 : Fin 2)).isLt (by show (69632 + 512 - 1) / 512 = 136; norm_num)
    have h1 : (β (1 : Fin 2) : ℕ) < 1 := lt_of_lt_of_eq (β (1 : Fin 2)).isLt (by show (1024 + 1024 - 1) / 1024 = 1; norm_num)
    refine ⟨⟨β (0 : Fin 2), h0⟩, flush0_4 (adm m hO) _, fun a => ⟨?_, .inl rfl⟩⟩
    refine (congrFun (tile_ix ⟨β (0 : Fin 2), h0⟩).2 a).trans ?_
    fin_cases a
    · rfl
    · exact (Nat.lt_one_iff.1 h1).symm

/-- What a tile is left at is the reference's result where the tile is written back. -/
theorem tile_done (hP : Plan m) (c : Dev nD) (hx : ∀ i : S136.Idx, BitVec.toNat (w := 32) (m ((c : Thread nD τ).loc main_arg0) i) < 8)
    (t : Fin (cfgM m hP.ok).N) (y : S512x1024.Idx) :
    (dats m hP 0 c).after 4 t y = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ((((cfgM m hP.ok).win 4).blk t).view.emb y) := by
  have h1 : (y 1 : ℕ) < 1024 := (y 1).isLt
  have h0 : (y 0 : ℕ) < 512 := (y 0).isLt
  have ht : t.val < 136 := t.isLt
  have ey : y = (ix2 (⟨(y 0 : ℕ), h0⟩ : Fin 512) (⟨(y 1 : ℕ), h1⟩ : Fin 1024) : S512x1024.Idx) := by
    funext a; refine Fin.ext ?_; fin_cases a <;> rfl
  rw [after0_4]
  refine (congrArg (outsAt0 m hP c t) ey).trans ?_
  refine (point m hP c hx t _ _ ⟨t.val * 512 + (y 0 : ℕ), by omega⟩ rfl).trans ?_
  exact congrArg (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (place4 m hP.ok t y _ rfl rfl).symm

/-- The result array after the run. -/
theorem final (hP : Plan m) (c : Dev nD) (hx : ∀ i : S136.Idx, BitVec.toNat (w := 32) (m ((c : Thread nD τ).loc main_arg0) i) < 8) :
    (dats m hP 0 c).arrAt 4 (cfgM m hP.ok).N = res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m hP 0 c).arrAt_eq_of_covers 4 _ (covers m hP.ok) fun t hf y => tile_done m hP c hx t y

theorem algebraic : Cert.algebraic_MoeIdeal_MoeRefIdeal := by
  intro m g m' g' hpre hm
  have hP : Plan m := plan m (hpre 0)
  refine ⟨fun c => res (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)), ?_, ?_⟩
  · refine (θ_run _ _ _).mono (fun r hr c => ⟨(hr c).1.trans (final m hP c ?_), (hr c).2⟩) (run_blocks m g hP)
    exact (ranges _ _ _ _ _ _ (hpre c)).1
  · refine (θ_run _ _ _).mono (fun r hr c => ?_) (Cert.MoeRefIdeal.At.res_eq m' g')
    obtain ⟨e0, e1, e2, e3, e4, e5⟩ := hm c
    exact ⟨(hr c).1.trans (by rw [e0, e1, e2, e3, e4, e5]), (hr c).2⟩

end Cert.MoeIdeal.MoeRun

end
-- ==== Proof.InpRefAt.lean ====
/- Hand-written: the input projections' reference, stage by stage, each stage read at an index. -/
module

public import proofs.«01_k».proof.Proof.Gen.InpRefIdeal.Run
public import proofs.«01_k».proof.Proof.FfnRefAt
public import Idealize.ShloMosaic.Lib.Pointwise

@[expose] public section

set_option maxRecDepth 16384

noncomputable section

open Idealize.ShloMosaic Idealize.ShloMosaic.TcCoe Idealize.ShloMosaic.StableHlo Idealize.SL.Sem

namespace Cert.InpRefIdeal.At

open Cert.InpRefIdeal Cert.InpRefIdeal.Gen
open Cert.FfnRefIdeal.At (normed)

/-- The normed activations. -/
def hid (a0 : FVec Ideal S16x2048x1024 .f32) (a1 : FVec Ideal S2x1024 .f32) : FVec Ideal S16x2048x1024 .f32 :=
  (mulf (mulf a0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf a0 a0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ (extractStridedSlice S1x1024 ![0, 0] a1 slices_S2x1024_S1x1024_0_0) shapeCasts_S1x1024_S1024))))

/-- All the projections, side by side. -/
def proj (a0 : FVec Ideal S16x2048x1024 .f32) (a1 : FVec Ideal S2x1024 .f32) (a2 : FVec Ideal S1x1024x4112 .f32) : FVec Ideal S16x2048x4112 .f32 :=
  (Host.dotGeneral dot_S16x2048x1024_S1024x4112_S16x2048x4112_2_0_01_1_n_n none (hid a0 a1) (shapeCast _ a2 shapeCasts_S1x1024x4112_S1024x4112))

/-- The gates of the state-space heads. -/
def zOut (p : FVec Ideal S16x2048x4112 .f32) : FVec Ideal S32768x1024 .bf16 :=
  truncf .bf16 (shapeCast _ (extractStridedSlice S16x2048x1024 ![0, 0, 0] p slices_S16x2048x4112_S16x2048x1024_0_0_0) shapeCasts_S16x2048x1024_S32768x1024) bitsLt_bf16_f32

/-- The inputs of the convolution. -/
def xbcOut (p : FVec Ideal S16x2048x4112 .f32) : FVec Ideal S32768x1536 .f32 :=
  shapeCast _ (extractStridedSlice S16x2048x1536 ![0, 0, 1024] p slices_S16x2048x4112_S16x2048x1536_0_0_1024) shapeCasts_S16x2048x1536_S32768x1536

/-- The raw step sizes, with zeros in the lanes past the heads. -/
def dtOut (p : FVec Ideal S16x2048x4112 .f32) : FVec Ideal S32768x128 .f32 :=
  shapeCast _ (pad S16x2048x128 ![0, 0, 0] ![0, 0, 112] ![0, 0, 0] (extractStridedSlice S16x2048x16 ![0, 0, 2560] p slices_S16x2048x4112_S16x2048x16_0_0_2560) (sitofp .f32 (constantI S_ 32 0#32)) pads_S16x2048x16_S16x2048x128_000_000_01120 h_S_) shapeCasts_S16x2048x128_S32768x128

/-- The normed queries. -/
def qOut (p : FVec Ideal S16x2048x4112 .f32) (a3 : FVec Ideal S1x64 .f32) : FVec Ideal S32768x1024 .bf16 :=
  truncf .bf16 (shapeCast _ (mulf (mulf (shapeCast _ (extractStridedSlice S16x2048x1024 ![0, 0, 2576] p slices_S16x2048x4112_S16x2048x1024_0_0_2576) shapeCasts_S16x2048x1024_S16x2048x16x64) (broadcastInDim S16x2048x16x64 ![0, 1, 2, 3] bcast_S16x2048x16x1_S16x2048x16x64_0_1_2_3 (Host.rsqrt (addf (Host.divf (broadcastInDim S16x2048x16x1 ![0, 1, 2] bcast_S16x2048x16_S16x2048x16x1_0_1_2 (Host.reduceAdd (mulf (shapeCast _ (extractStridedSlice S16x2048x1024 ![0, 0, 2576] p slices_S16x2048x4112_S16x2048x1024_0_0_2576) shapeCasts_S16x2048x1024_S16x2048x16x64) (shapeCast _ (extractStridedSlice S16x2048x1024 ![0, 0, 2576] p slices_S16x2048x4112_S16x2048x1024_0_0_2576) shapeCasts_S16x2048x1024_S16x2048x16x64)) (constant S_ .f32 0x00000000#32) reducesTo_S16x2048x16x64_S16x2048x16_d3 h_S_)) (broadcastInDim S16x2048x16x1 ![] bcast_S_S16x2048x16x1 (constant S_ .f32 0x42800000#32))) (broadcastInDim S16x2048x16x1 ![] bcast_S_S16x2048x16x1 (constant S_ .f32 0x358637BD#32)))))) (broadcastInDim S16x2048x16x64 ![0, 1, 2, 3] bcast_S1x1x1x64_S16x2048x16x64_0_1_2_3 (broadcastInDim S1x1x1x64 ![3] bcast_S64_S1x1x1x64_3 (shapeCast _ a3 shapeCasts_S1x64_S64)))) shapeCasts_S16x2048x16x64_S32768x1024) bitsLt_bf16_f32

/-- The normed keys. -/
def kOut (p : FVec Ideal S16x2048x4112 .f32) (a4 : FVec Ideal S1x64 .f32) : FVec Ideal S32768x256 .f32 :=
  shapeCast _ (mulf (mulf (shapeCast _ (extractStridedSlice S16x2048x256 ![0, 0, 3600] p slices_S16x2048x4112_S16x2048x256_0_0_3600) shapeCasts_S16x2048x256_S16x2048x4x64) (broadcastInDim S16x2048x4x64 ![0, 1, 2, 3] bcast_S16x2048x4x1_S16x2048x4x64_0_1_2_3 (Host.rsqrt (addf (Host.divf (broadcastInDim S16x2048x4x1 ![0, 1, 2] bcast_S16x2048x4_S16x2048x4x1_0_1_2 (Host.reduceAdd (mulf (shapeCast _ (extractStridedSlice S16x2048x256 ![0, 0, 3600] p slices_S16x2048x4112_S16x2048x256_0_0_3600) shapeCasts_S16x2048x256_S16x2048x4x64) (shapeCast _ (extractStridedSlice S16x2048x256 ![0, 0, 3600] p slices_S16x2048x4112_S16x2048x256_0_0_3600) shapeCasts_S16x2048x256_S16x2048x4x64)) (constant S_ .f32 0x00000000#32) reducesTo_S16x2048x4x64_S16x2048x4_d3 h_S_)) (broadcastInDim S16x2048x4x1 ![] bcast_S_S16x2048x4x1 (constant S_ .f32 0x42800000#32))) (broadcastInDim S16x2048x4x1 ![] bcast_S_S16x2048x4x1 (constant S_ .f32 0x358637BD#32)))))) (broadcastInDim S16x2048x4x64 ![0, 1, 2, 3] bcast_S1x1x1x64_S16x2048x4x64_0_1_2_3 (broadcastInDim S1x1x1x64 ![3] bcast_S64_S1x1x1x64_3 (shapeCast _ a4 shapeCasts_S1x64_S64)))) shapeCasts_S16x2048x4x64_S32768x256

/-- The values. -/
def vOut (p : FVec Ideal S16x2048x4112 .f32) : FVec Ideal S32768x256 .f32 :=
  shapeCast _ (extractStridedSlice S16x2048x256 ![0, 0, 3856] p slices_S16x2048x4112_S16x2048x256_0_0_3856) shapeCasts_S16x2048x256_S32768x256

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v55) = zOut (proj (m ((c : Thread nD τ).loc main_arg0)) (m ((c : Thread nD τ).loc main_arg1)) (m ((c : Thread nD τ).loc main_arg2)))
      ∧ r.2.mem ((c : Thread nD τ).loc main_v56) = xbcOut (proj (m ((c : Thread nD τ).loc main_arg0)) (m ((c : Thread nD τ).loc main_arg1)) (m ((c : Thread nD τ).loc main_arg2)))
      ∧ r.2.mem ((c : Thread nD τ).loc main_v57) = dtOut (proj (m ((c : Thread nD τ).loc main_arg0)) (m ((c : Thread nD τ).loc main_arg1)) (m ((c : Thread nD τ).loc main_arg2)))
      ∧ r.2.mem ((c : Thread nD τ).loc main_v59) = qOut (proj (m ((c : Thread nD τ).loc main_arg0)) (m ((c : Thread nD τ).loc main_arg1)) (m ((c : Thread nD τ).loc main_arg2))) (m ((c : Thread nD τ).loc main_arg3))
      ∧ r.2.mem ((c : Thread nD τ).loc main_v60) = kOut (proj (m ((c : Thread nD τ).loc main_arg0)) (m ((c : Thread nD τ).loc main_arg1)) (m ((c : Thread nD τ).loc main_arg2))) (m ((c : Thread nD τ).loc main_arg4))
      ∧ r.2.mem ((c : Thread nD τ).loc main_v61) = vOut (proj (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono (fun r h c => ⟨(h c).1.trans rfl, (h c).2.1.trans rfl, (h c).2.2.1.trans rfl, (h c).2.2.2.1.trans rfl,
    (h c).2.2.2.2.1.trans rfl, (h c).2.2.2.2.2.1.trans rfl, (h c).2.2.2.2.2.2⟩) (Value.run m ρ)

/-- A row of the projections, by the flat number of its token. -/
def prow (p : FVec Ideal S16x2048x4112 .f32) (r : Fin 32768) (j : Fin 4112) : EReal :=
  p (ix3 ⟨(r : ℕ) / 2048, by omega⟩ ⟨(r : ℕ) % 2048, by omega⟩ j)

/-- One element of a head normed by its mean square. -/
def headed (t0 : EReal) (t : Fin 64 → EReal) : EReal :=
  t0 * Ideal.rsqrt (Ideal.div (∑ x, t x * t x) (Ideal.ofBits .f32 0x42800000#32) + Ideal.ofBits .f32 0x358637BD#32)

theorem hid_at (a0 : FVec Ideal S16x2048x1024 .f32) (a1 : FVec Ideal S2x1024 .f32) (b : Fin 16) (l : Fin 2048) (k : Fin 1024) :
    hid a0 a1 (ix3 b l k) = normed (fun k => a0 (ix3 b l k)) (a1 (ix2 0 k)) k := by
  pointwise [hid]
  rfl

theorem proj_at (a0 : FVec Ideal S16x2048x1024 .f32) (a1 : FVec Ideal S2x1024 .f32) (a2 : FVec Ideal S1x1024x4112 .f32) (b : Fin 16) (l : Fin 2048) (j : Fin 4112) :
    proj a0 a1 a2 (ix3 b l j) = ∑ k : Fin 1024, normed (fun k => a0 (ix3 b l k)) (a1 (ix2 0 k)) k * a2 (ix3 0 k j) := by
  unfold proj
  generalize hh : hid a0 a1 = h
  pointwise
  simp only [← hh, hid_at]

theorem zOut_at (p : FVec Ideal S16x2048x4112 .f32) (r : Fin 32768) (e : Fin 1024) : zOut p (ix2 r e) = prow p r ⟨e, by omega⟩ := by
  pointwise [zOut]
  rfl

theorem xbcOut_at (p : FVec Ideal S16x2048x4112 .f32) (r : Fin 32768) (e : Fin 1536) : xbcOut p (ix2 r e) = prow p r ⟨1024 + (e : ℕ), by omega⟩ := by
  pointwise [xbcOut]
  rfl

theorem vOut_at (p : FVec Ideal S16x2048x4112 .f32) (r : Fin 32768) (e : Fin 256) : vOut p (ix2 r e) = prow p r ⟨3856 + (e : ℕ), by omega⟩ := by
  pointwise [vOut]
  rfl

theorem dtOut_at (p : FVec Ideal S16x2048x4112 .f32) (r : Fin 32768) (e : Fin 128) :
    dtOut p (ix2 r e) = if h : (e : ℕ) < 16 then prow p r ⟨2560 + (e : ℕ), by omega⟩ else 0 := by
  pointwise [dtOut]
  by_cases h : (e : ℕ) < 16
  · exact (dif_pos ⟨by omega, by omega, h⟩).trans (Eq.symm (dif_pos h))
  · refine (dif_neg fun hh => h hh.2.2).trans (Eq.trans ?_ (Eq.symm (dif_neg h)))
    show ((((0#32 : BitVec 32).toInt : ℝ)) : EReal) = 0
    simp

theorem kOut_at (p : FVec Ideal S16x2048x4112 .f32) (a4 : FVec Ideal S1x64 .f32) (r : Fin 32768) (e : Fin 256) :
    kOut p a4 (ix2 r e) = headed (prow p r ⟨3600 + (e : ℕ), by omega⟩) (fun d => prow p r ⟨3600 + ((e : ℕ) / 64 * 64 + d), by omega⟩) * a4 (ix2 0 ⟨(e : ℕ) % 64, by omega⟩) := by
  pointwise [kOut]
  rfl

theorem qOut_at (p : FVec Ideal S16x2048x4112 .f32) (a3 : FVec Ideal S1x64 .f32) (r : Fin 32768) (e : Fin 1024) :
    qOut p a3 (ix2 r e) = headed (prow p r ⟨2576 + (e : ℕ), by omega⟩) (fun d => prow p r ⟨2576 + ((e : ℕ) / 64 * 64 + d), by omega⟩) * a3 (ix2 0 ⟨(e : ℕ) % 64, by omega⟩) := by
  pointwise [qOut]
  rfl

end Cert.InpRefIdeal.At

end
-- ==== Proof.InpPay.lean ====
/- Hand-written: the input projections' payloads, each read at an index. -/
module

public import proofs.«01_k».proof.Proof.Gen.InpIdeal.Value
public import proofs.«01_k».proof.Proof.InpRefAt
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InpIdeal.InpValue

open Cert.InpIdeal Cert.InpIdeal.Gen Cert.InpRefIdeal.At
open Cert.FfnRefIdeal.At (normed)

/-- One element of a head normed as the kernel does it: its mean square by a product with a matrix of zeros and ones. -/
def headedBy (t : Fin 256 → EReal) (o : FVec Ideal S256x256 .bf16) (e : Fin 256) : EReal :=
  t e * Ideal.rsqrt ((∑ j, t j * t j * o (ix2 j e)) * Ideal.ofBits .f32 0x3C800000#32 + Ideal.ofBits .f32 0x358637BD#32)

theorem pay4 (x0 : FVec Ideal S512x1024 .f32) (x1 : FVec Ideal S1x1024 .f32) (q : Fin 512) (e : Fin 1024) :
    k0_pay4 (F := Ideal) x0 x1 (ix2 q e) = normed (fun k => x0 (ix2 q k)) (x1 (ix2 0 e)) e := by
  pointwise [k0_pay4]
  rfl

theorem pay6 (x0 : FVec Ideal S512x1024 .f32) (x1 : FVec Ideal S1x1024 .f32) (w : FVec Ideal S1024x1024 .bf16) (q : Fin 512) (e : Fin 1024) :
    k0_pay6 (F := Ideal) x0 x1 w (ix2 q e) = ∑ k, normed (fun k => x0 (ix2 q k)) (x1 (ix2 0 k)) k * w (ix2 k e) := by
  unfold k0_pay6
  simp only [← pay4]
  generalize k0_pay4 (F := Ideal) x0 x1 = h
  pointwise

theorem pay7 (x0 : FVec Ideal S512x1024 .f32) (x1 : FVec Ideal S1x1024 .f32) (w : FVec Ideal S1024x1536 .bf16) (q : Fin 512) (e : Fin 1536) :
    k0_pay7 (F := Ideal) x0 x1 w (ix2 q e) = ∑ k, normed (fun k => x0 (ix2 q k)) (x1 (ix2 0 k)) k * w (ix2 k e) := by
  unfold k0_pay7
  simp only [← pay4]
  generalize k0_pay4 (F := Ideal) x0 x1 = h
  pointwise

theorem pay8 (x0 : FVec Ideal S512x1024 .f32) (x1 : FVec Ideal S1x1024 .f32) (w : FVec Ideal S1024x128 .bf16) (q : Fin 512) (e : Fin 128) :
    k0_pay8 (F := Ideal) x0 x1 w (ix2 q e) = ∑ k, normed (fun k => x0 (ix2 q k)) (x1 (ix2 0 k)) k * w (ix2 k e) := by
  unfold k0_pay8
  simp only [← pay4]
  generalize k0_pay4 (F := Ideal) x0 x1 = h
  pointwise

theorem pay3 (h : FVec Ideal S512x1024 .bf16) (w : FVec Ideal S1024x256 .bf16) (q : Fin 512) (e : Fin 256) :
    k0_pay3 (F := Ideal) h w (ix2 q e) = ∑ k, h (ix2 q k) * w (ix2 k e) := by
  pointwise [k0_pay3]

theorem pay9 (h : FVec Ideal S512x1024 .bf16) (w : FVec Ideal S1024x1024 .bf16) (q : Fin 512) (e : Fin 1024) :
    k0_pay9 (F := Ideal) h w (ix2 q e) = ∑ k, h (ix2 q k) * w (ix2 k e) := by
  pointwise [k0_pay9]

theorem pay2 (h : FVec Ideal S512x1024 .bf16) (o : FVec Ideal S256x256 .bf16) (w : FVec Ideal S1024x256 .bf16) (g : FVec Ideal S1x256 .f32) (q : Fin 512) (e : Fin 256) :
    k0_pay2 (F := Ideal) h (k0_pay5 (F := Ideal) o) w g (ix2 q e) = headedBy (fun j => ∑ k, h (ix2 q k) * w (ix2 k j)) o e * g (ix2 0 e) := by
  pointwise [k0_pay2, k0_pay5]
  rfl

theorem pay11 (h : FVec Ideal S512x1024 .bf16) (o : FVec Ideal S256x256 .bf16) (w : FVec Ideal S1024x1024 .bf16) (q : Fin 512) (e : Fin 256) :
    k0_pay11 (F := Ideal) h (k0_pay5 (F := Ideal) o) w (ix2 q e) = headedBy (fun j => k0_pay9 (F := Ideal) h w (ix2 q ⟨j, by omega⟩)) o e := by
  unfold k0_pay11
  generalize k0_pay9 (F := Ideal) h w = z
  pointwise [k0_pay5]
  rfl

theorem pay12 (h : FVec Ideal S512x1024 .bf16) (o : FVec Ideal S256x256 .bf16) (w : FVec Ideal S1024x1024 .bf16) (q : Fin 512) (e : Fin 256) :
    k0_pay12 (F := Ideal) h (k0_pay5 (F := Ideal) o) w (ix2 q e) = headedBy (fun j => k0_pay9 (F := Ideal) h w (ix2 q ⟨256 + (j : ℕ), by omega⟩)) o e := by
  unfold k0_pay12
  generalize k0_pay9 (F := Ideal) h w = z
  pointwise [k0_pay5]
  rfl

theorem pay13 (h : FVec Ideal S512x1024 .bf16) (o : FVec Ideal S256x256 .bf16) (w : FVec Ideal S1024x1024 .bf16) (q : Fin 512) (e : Fin 256) :
    k0_pay13 (F := Ideal) h (k0_pay5 (F := Ideal) o) w (ix2 q e) = headedBy (fun j => k0_pay9 (F := Ideal) h w (ix2 q ⟨512 + (j : ℕ), by omega⟩)) o e := by
  unfold k0_pay13
  generalize k0_pay9 (F := Ideal) h w = z
  pointwise [k0_pay5]
  rfl

theorem pay15 (h : FVec Ideal S512x1024 .bf16) (o : FVec Ideal S256x256 .bf16) (w : FVec Ideal S1024x1024 .bf16) (q : Fin 512) (e : Fin 256) :
    k0_pay14 (F := Ideal) h w (ix2 q e) * Ideal.rsqrt (k0_pay15 (F := Ideal) h (k0_pay5 (F := Ideal) o) w (ix2 q e)) = headedBy (fun j => k0_pay9 (F := Ideal) h w (ix2 q ⟨768 + (j : ℕ), by omega⟩)) o e := by
  unfold k0_pay15 k0_pay14
  generalize k0_pay9 (F := Ideal) h w = z
  pointwise [k0_pay5]
  rfl

/-- The queries' block: the head that a column lies in, normed, of the four groups of columns that the kernel joins. -/
theorem pay1 (g : FVec Ideal S1x1024 .f32) (h : FVec Ideal S512x1024 .bf16) (o : FVec Ideal S256x256 .bf16) (w : FVec Ideal S1024x1024 .bf16) (q : Fin 512) (e : Fin 1024) :
    k0_pay1 (F := Ideal) (k0_pay10 (F := Ideal) g) (k0_pay11 (F := Ideal) h (k0_pay5 (F := Ideal) o) w) (k0_pay12 (F := Ideal) h (k0_pay5 (F := Ideal) o) w)
        (k0_pay13 (F := Ideal) h (k0_pay5 (F := Ideal) o) w) (k0_pay14 (F := Ideal) h w) (k0_pay15 (F := Ideal) h (k0_pay5 (F := Ideal) o) w) (ix2 q e)
      = headedBy (fun j => k0_pay9 (F := Ideal) h w (ix2 q ⟨(e : ℕ) / 256 * 256 + (j : ℕ), by omega⟩)) o ⟨(e : ℕ) % 256, by omega⟩ * g (ix2 0 e) := by
  have p11 := pay11 h o w q
  have p12 := pay12 h o w q
  have p13 := pay13 h o w q
  have p15 := pay15 h o w q
  unfold k0_pay1
  generalize k0_pay11 (F := Ideal) h (k0_pay5 (F := Ideal) o) w = a at *
  generalize k0_pay12 (F := Ideal) h (k0_pay5 (F := Ideal) o) w = b at *
  generalize k0_pay13 (F := Ideal) h (k0_pay5 (F := Ideal) o) w = c at *
  generalize k0_pay15 (F := Ideal) h (k0_pay5 (F := Ideal) o) w = f at *
  generalize k0_pay14 (F := Ideal) h w = d at *
  pointwise [k0_pay10]
  refine congrArg (fun z : EReal => z * _) ?_
  have key : ∀ (n : ℕ) (i : Fin 256) (hn : n + 256 ≤ 1024), n + (i : ℕ) = e → n % 256 = 0 →
      headedBy (fun j => k0_pay9 (F := Ideal) h w (ix2 q ⟨n + (j : ℕ), by omega⟩)) o i
        = headedBy (fun j => k0_pay9 (F := Ideal) h w (ix2 q ⟨(e : ℕ) / 256 * 256 + (j : ℕ), by omega⟩)) o ⟨(e : ℕ) % 256, by omega⟩ := by
    intro n i hn he hm
    have hi : i = ⟨(e : ℕ) % 256, by omega⟩ := Fin.ext (by show (i : ℕ) = (e : ℕ) % 256; omega)
    have hb : n = (e : ℕ) / 256 * 256 := by omega
    subst hb
    rw [← hi]
  split_ifs
  all_goals first
    | exact (p11 _).trans (((congrArg (fun z => headedBy z o _) (funext fun j => congrArg (fun k => k0_pay9 (F := Ideal) h w (ix2 q k)) (Fin.ext (Nat.zero_add _).symm)))).trans (key 0 _ (by omega) (Nat.zero_add _) rfl))
    | exact (p12 _).trans (key 256 _ (by omega) (by show 256 + ((e : ℕ) - 256) = e; omega) rfl)
    | exact (p13 _).trans (key 512 _ (by omega) (by show 512 + ((e : ℕ) - 256 - 256) = e; omega) rfl)
    | exact (p15 _).trans (key 768 _ (by omega) (by show 768 + ((e : ℕ) - 256 - 256 - 256) = e; omega) rfl)

/-- The matrix of zeros and ones adds up the squares of one head. -/
theorem sum_head (t : Fin 256 → EReal) (o : FVec Ideal S256x256 .bf16) (e : Fin 256)
    (ho : ∀ j : Fin 256, o (ix2 j e) = if (j : ℕ) / 64 = (e : ℕ) / 64 then (1 : EReal) else 0) :
    ∑ j, t j * t j * o (ix2 j e) = ∑ x : Fin 64, t ⟨(e : ℕ) / 64 * 64 + (x : ℕ), by omega⟩ * t ⟨(e : ℕ) / 64 * 64 + (x : ℕ), by omega⟩ := by
  have h1 : ∀ j : Fin 256, t j * t j * o (ix2 j e) = if (j : ℕ) / 64 = (e : ℕ) / 64 then t j * t j else 0 := fun j => by
    rw [ho j]
    split_ifs <;> simp
  rw [Finset.sum_congr rfl fun j _ => h1 j, ← Finset.sum_filter]
  refine (Finset.sum_nbij (fun x : Fin 64 => (⟨(e : ℕ) / 64 * 64 + (x : ℕ), by omega⟩ : Fin 256)) ?_ ?_ ?_ ?_).symm
  · intro x _
    refine Finset.mem_filter.2 ⟨Finset.mem_univ _, ?_⟩
    show ((e : ℕ) / 64 * 64 + (x : ℕ)) / 64 = (e : ℕ) / 64
    omega
  · intro x _ y _ hxy
    have := congrArg Fin.val hxy
    refine Fin.ext ?_
    have h2 : (e : ℕ) / 64 * 64 + (x : ℕ) = (e : ℕ) / 64 * 64 + (y : ℕ) := this
    omega
  · intro j hj
    have hj2 : (j : ℕ) / 64 = (e : ℕ) / 64 := (Finset.mem_filter.1 hj).2
    refine ⟨⟨(j : ℕ) % 64, by omega⟩, Finset.mem_coe.2 (Finset.mem_univ _), Fin.ext ?_⟩
    show (e : ℕ) / 64 * 64 + (j : ℕ) % 64 = j
    omega
  · intro x _
    rfl

/-- The product with 1/64 is the quotient by 64. -/
theorem headedBy_eq (t : Fin 256 → EReal) (o : FVec Ideal S256x256 .bf16) (e : Fin 256)
    (ho : ∀ j : Fin 256, o (ix2 j e) = if (j : ℕ) / 64 = (e : ℕ) / 64 then (1 : EReal) else 0) :
    headedBy t o e = headed (t e) (fun x => t ⟨(e : ℕ) / 64 * 64 + (x : ℕ), by omega⟩) := by
  have h64 : Ideal.ofBits .f32 0x42800000#32 = ((64 : ℝ) : EReal) := by
    simp [Ideal.ofBits, Ideal.ieee, -EReal.coe_mul]; norm_num
  have hinv : Ideal.ofBits .f32 0x3C800000#32 = ((1 / 64 : ℝ) : EReal) := by
    simp [Ideal.ofBits, Ideal.ieee, -EReal.coe_mul]; norm_num
  unfold headedBy headed
  rw [sum_head t o e ho, h64, hinv, Ideal.div_coe (by norm_num)]

end Cert.InpIdeal.InpValue

end
-- ==== Proof.InpBlk.lean ====
/- Hand-written: the blocks that the input projections read. -/
module

public import proofs.«01_k».proof.Proof.Gen.InpIdeal.Value
public import proofs.«01_k».proof.Proof.InpPay
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.InpIdeal.InpValue

open Cert.InpIdeal Cert.InpIdeal.Gen Cert.InpRefIdeal.At
open Cert.FfnRefIdeal.At (normed)

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0] :=
  (by decide +kernel : ∀ t : Fin grid0.N, _)

theorem iblk0 (c : Dev nD) (t : Fin cfg0.N) (q : Fin 512) (e : Fin 1024) (r : Fin 32768) (hr : (r : ℕ) = t.val * 512 + q) :
    iblk m c 0 t (ix2 q e) = m ((c : Thread nD τ).loc main_arg0) (ix3 ⟨(r : ℕ) / 2048, by omega⟩ ⟨(r : ℕ) % 2048, by omega⟩ e) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk1 (c : Dev nD) (t : Fin cfg0.N) (e : Fin 1024) :
    iblk m c 1 t (ix2 0 e) = m ((c : Thread nD τ).loc main_arg1) (ix2 0 e) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk2 (c : Dev nD) (t : Fin cfg0.N) (k : Fin 1024) (e : Fin 1024) :
    iblk m c 2 t (ix2 k e) = m ((c : Thread nD τ).loc main_arg2) (ix3 0 k ⟨e, by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk3 (c : Dev nD) (t : Fin cfg0.N) (k : Fin 1024) (e : Fin 1536) :
    iblk m c 3 t (ix2 k e) = m ((c : Thread nD τ).loc main_arg2) (ix3 0 k ⟨1024 + (e : ℕ), by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk4 (c : Dev nD) (t : Fin cfg0.N) (k : Fin 1024) (e : Fin 128) :
    iblk m c 4 t (ix2 k e) = if h : (e : ℕ) < 16 then m ((c : Thread nD τ).loc main_arg2) (ix3 0 k ⟨2560 + (e : ℕ), by omega⟩) else (0 : EReal) := by
  blk_simp [iblk]
  unfold V
  simp only [hostOps0, hostOps0_1, hostOps0_2, hostOps0_3, hostOps0_4, List.flatten_cons, List.flatten_nil, List.append_nil, List.cons_append, List.nil_append]
  entry_read
  pointwise
  simp only [StableHlo.TRef.ofBuf_toBuf]
  change pad S1024x128 ![0, 0] ![0, 112] ![0, 0]
          (extractStridedSlice S1024x16 ![0, 2560] (fun (i : S1024x4112.Idx) => m (c, Proc.tc.devRef main_arg2) (ix3 0 (i 0) (i 1)))
            slices_S1024x4112_S1024x16_0_2560)
            (sitofp (F := Ideal) FTy.f32 (constantI S_ 32 0#32))
        pads_S1024x16_S1024x128_000_01120 h_S_
      (((View.whole main_v11).slice (win0_4.rect t)).emb (ix2 k e)) = _
  refine (congrArg _ (show ((View.whole main_v11).slice (win0_4.rect t)).emb (ix2 k e) = ix2 k e from ?_)).trans ?_
  · blk_ext [idx_val t]
  pointwise
  by_cases h : (e : ℕ) < 16
  · exact (dif_pos h).trans (Eq.symm (dif_pos h))
  · refine (dif_neg h).trans (Eq.trans ?_ (Eq.symm (dif_neg h)))
    show ((((0#32 : BitVec 32).toInt : ℝ)) : EReal) = 0
    simp

theorem iblk5 (c : Dev nD) (t : Fin cfg0.N) (k : Fin 1024) (e : Fin 1024) :
    iblk m c 5 t (ix2 k e) = m ((c : Thread nD τ).loc main_arg2) (ix3 0 k ⟨2576 + (e : ℕ), by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk6 (c : Dev nD) (t : Fin cfg0.N) (k : Fin 1024) (e : Fin 256) :
    iblk m c 6 t (ix2 k e) = m ((c : Thread nD τ).loc main_arg2) (ix3 0 k ⟨3600 + (e : ℕ), by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk7 (c : Dev nD) (t : Fin cfg0.N) (k : Fin 1024) (e : Fin 256) :
    iblk m c 7 t (ix2 k e) = m ((c : Thread nD τ).loc main_arg2) (ix3 0 k ⟨3856 + (e : ℕ), by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk8 (c : Dev nD) (t : Fin cfg0.N) (e : Fin 1024) :
    iblk m c 8 t (ix2 0 e) = m ((c : Thread nD τ).loc main_arg3) (ix2 0 ⟨(e : ℕ) % 64, by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

theorem iblk9 (c : Dev nD) (t : Fin cfg0.N) (e : Fin 256) :
    iblk m c 9 t (ix2 0 e) = m ((c : Thread nD τ).loc main_arg4) (ix2 0 ⟨(e : ℕ) % 64, by omega⟩) := by
  blk_simp [iblk]
  unfold V
  simp only [hostOps0, hostOps0_1, hostOps0_2, hostOps0_3, hostOps0_4, List.flatten_cons, List.flatten_nil, List.append_nil, List.cons_append, List.nil_append]
  entry_read
  pointwise
  blk_ext [idx_val t]

/-- The head that each of 256 columns lies in, as the host code computes it. -/
def headNo : S256.Idx → BitVec 32 :=
  select
    (andi
      (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

theorem headNo_at : ∀ i : Fin 256, headNo (ix1 i) = BitVec.ofNat 32 ((i : ℕ) / 64) := by
  decide +kernel

theorem same_head : ∀ a b : Fin 4, IntOp.cmpi .eq (BitVec.ofNat 32 (a : ℕ)) (BitVec.ofNat 32 (b : ℕ)) = if (a : ℕ) = (b : ℕ) then 1#1 else 0#1 := by
  decide +kernel

theorem iblk10 (c : Dev nD) (t : Fin cfg0.N) (j e : Fin 256) :
    iblk m c 10 t (ix2 j e) = if (j : ℕ) / 64 = (e : ℕ) / 64 then (1 : EReal) else (0 : EReal) := by
  blk_simp [iblk]
  have hv : V m c main_v35 = fun y => if ((y 0 : ℕ) / 64 = (y 1 : ℕ) / 64) then (1 : EReal) else (0 : EReal) := by
    unfold V
    simp only [hostOps0, hostOps0_1, hostOps0_2, hostOps0_3, hostOps0_4, List.flatten_cons, List.flatten_nil, List.append_nil, List.cons_append, List.nil_append]
    entry_read
    funext y
    simp only [StableHlo.TRef.ofBuf_toBuf, id]
    pointwise
    have h1 : (y 1).val < 256 := (y 1).isLt
    have h0 : (y 0).val < 256 := (y 0).isLt
    change FloatOps.uitofp (F := Ideal) .bf16 (IntOp.cmpi .eq (headNo (ix1 (y 0))) (headNo (ix1 (y 1)))) = _
    refine (congrArg₂ (fun a b => FloatOps.uitofp (F := Ideal) .bf16 (IntOp.cmpi .eq a b)) (headNo_at _) (headNo_at _)).trans ?_
    refine (congrArg (fun b => FloatOps.uitofp (F := Ideal) .bf16 b) (same_head ⟨(y 0).val / 64, by omega⟩ ⟨(y 1).val / 64, by omega⟩)).trans ?_
    show FloatOps.uitofp (F := Ideal) .bf16 (if (y 0).val / 64 = (y 1).val / 64 then 1#1 else 0#1) = _
    split_ifs
    · show (((1#1 : BitVec 1).toNat : ℝ) : EReal) = 1
      simp
    · show (((0#1 : BitVec 1).toNat : ℝ) : EReal) = 0
      simp
  rw [hv]
  blk_ext [idx_val t]

end Cert.InpIdeal.InpValue

end
-- ==== Proof.InpValue.lean ====
/- Hand-written: the input projections at an index, and their results are the reference's. -/
module

public import proofs.«01_k».proof.Proof.Gen.InpIdeal.Value
public import proofs.«01_k».proof.Proof.InpBlk
public import Idealize.ShloMosaic.Lib.Pointwise
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem

namespace Cert.InpIdeal.InpValue

open Cert.InpIdeal Cert.InpIdeal.Gen Cert.InpRefIdeal.At
open Cert.FfnRefIdeal.At (normed)

variable (m : (ℓ : Loc nD τ sig) → Buf (Elt Ideal) ℓ)

/-- The reference's projections of this call's inputs. -/
def refProj (c : Dev nD) : FVec Ideal Cert.InpRefIdeal.S16x2048x4112 .f32 :=
  proj (m ((c : Thread nD τ).loc main_arg0)) (m ((c : Thread nD τ).loc main_arg1)) (m ((c : Thread nD τ).loc main_arg2))

/-- A row of a block's normed input times a column of the weights is an entry of the reference's projections. -/
theorem dot (c : Dev nD) (t : Fin cfg0.N) (q : Fin 512) (r : Fin 32768) (hr : (r : ℕ) = t.val * 512 + q) (w : Fin 1024 → EReal) (j : Fin 4112)
    (hw : ∀ k, w k = m ((c : Thread nD τ).loc main_arg2) (ix3 0 k j)) :
    ∑ k : Fin 1024, normed (fun k => iblk m c 0 t (ix2 q k)) (iblk m c 1 t (ix2 0 k)) k * w k = prow (refProj m c) r j := by
  refine Eq.trans ?_ (proj_at (m ((c : Thread nD τ).loc main_arg0)) (m ((c : Thread nD τ).loc main_arg1)) (m ((c : Thread nD τ).loc main_arg2)) ⟨(r : ℕ) / 2048, by omega⟩ ⟨(r : ℕ) % 2048, by omega⟩ j).symm
  refine Finset.sum_congr rfl fun k _ => congrArg₂ (fun a b : EReal => a * b) ?_ (hw k)
  exact congrArg₂ (fun f g => normed f g k) (funext fun k => iblk0 m c t q k r hr) (iblk1 m c t k)

theorem ones (c : Dev nD) (t : Fin cfg0.N) (e j : Fin 256) : iblk m c 10 t (ix2 j e) = if (j : ℕ) / 64 = (e : ℕ) / 64 then (1 : EReal) else 0 :=
  iblk10 m c t j e

theorem point11 (c : Dev nD) (t : Fin cfg0.N) (q : Fin 512) (e : Fin 1024) (r : Fin 32768) (hr : (r : ℕ) = t.val * 512 + q) :
    k0_pay6 (F := Ideal) (iblk m c 0 t) (iblk m c 1 t) (iblk m c 2 t) (ix2 q e) = zOut (refProj m c) (ix2 r e) := by
  refine (pay6 (iblk m c 0 t) (iblk m c 1 t) (iblk m c 2 t) q e).trans (Eq.trans ?_ (zOut_at (refProj m c) r e).symm)
  exact dot m c t q r hr _ _ fun k => iblk2 m c t k e

theorem final11 (c : Dev nD) : (dats m 0 c).arrAt 11 (cfgs 0).N = zOut (refProj m c) := by
  refine (dats m 0 c).arrAt_eq_of_covers 11 _ (by decide +kernel) fun t hf y => ?_
  blk_simp; rw [after0_11]
  unfold_out out0_11
  frame_out
  have h1 : (y 1).val < 1024 := (y 1).isLt
  have h0 : (y 0).val < 512 := (y 0).isLt
  have ht : t.val < 64 := t.isLt
  have ey : y = (ix2 (⟨(y 0).val, h0⟩ : Fin 512) (⟨(y 1).val, h1⟩ : Fin 1024) : S512x1024.Idx) := by
    funext a; refine Fin.ext ?_; fin_cases a <;> rfl
  refine (congrArg (k0_pay6 (F := Ideal) (iblk m c 0 t) (iblk m c 1 t) (iblk m c 2 t)) ey).trans ?_
  refine (point11 m c t _ _ ⟨t.val * 512 + (y 0).val, by omega⟩ rfl).trans ?_
  blk_ext [idx_val t]

theorem point12 (c : Dev nD) (t : Fin cfg0.N) (q : Fin 512) (e : Fin 1536) (r : Fin 32768) (hr : (r : ℕ) = t.val * 512 + q) :
    k0_pay7 (F := Ideal) (iblk m c 0 t) (iblk m c 1 t) (iblk m c 3 t) (ix2 q e) = xbcOut (refProj m c) (ix2 r e) := by
  refine (pay7 (iblk m c 0 t) (iblk m c 1 t) (iblk m c 3 t) q e).trans (Eq.trans ?_ (xbcOut_at (refProj m c) r e).symm)
  exact dot m c t q r hr _ _ fun k => iblk3 m c t k e

theorem final12 (c : Dev nD) : (dats m 0 c).arrAt 12 (cfgs 0).N = xbcOut (refProj m c) := by
  refine (dats m 0 c).arrAt_eq_of_covers 12 _ (by decide +kernel) fun t hf y => ?_
  blk_simp; rw [after0_12]
  unfold_out out0_12
  frame_out
  have h1 : (y 1).val < 1536 := (y 1).isLt
  have h0 : (y 0).val < 512 := (y 0).isLt
  have ht : t.val < 64 := t.isLt
  have ey : y = (ix2 (⟨(y 0).val, h0⟩ : Fin 512) (⟨(y 1).val, h1⟩ : Fin 1536) : S512x1536.Idx) := by
    funext a; refine Fin.ext ?_; fin_cases a <;> rfl
  refine (congrArg (k0_pay7 (F := Ideal) (iblk m c 0 t) (iblk m c 1 t) (iblk m c 3 t)) ey).trans ?_
  refine (point12 m c t _ _ ⟨t.val * 512 + (y 0).val, by omega⟩ rfl).trans ?_
  blk_ext [idx_val t]

theorem point13 (c : Dev nD) (t : Fin cfg0.N) (q : Fin 512) (e : Fin 128) (r : Fin 32768) (hr : (r : ℕ) = t.val * 512 + q) :
    k0_pay8 (F := Ideal) (iblk m c 0 t) (iblk m c 1 t) (iblk m c 4 t) (ix2 q e) = dtOut (refProj m c) (ix2 r e) := by
  refine (pay8 (iblk m c 0 t) (iblk m c 1 t) (iblk m c 4 t) q e).trans (Eq.trans ?_ (dtOut_at (refProj m c) r e).symm)
  by_cases h : (e : ℕ) < 16
  · exact (dot m c t q r hr _ ⟨2560 + (e : ℕ), by omega⟩ fun k => (iblk4 m c t k e).trans (dif_pos h)).trans (Eq.symm (dif_pos h))
  · refine Eq.trans ?_ (Eq.symm (dif_neg h))
    refine Finset.sum_eq_zero fun k _ => ?_
    rw [show iblk m c 4 t (ix2 k e) = (0 : EReal) from (iblk4 m c t k e).trans (dif_neg h)]
    exact mul_zero _

theorem final13 (c : Dev nD) : (dats m 0 c).arrAt 13 (cfgs 0).N = dtOut (refProj m c) := by
  refine (dats m 0 c).arrAt_eq_of_covers 13 _ (by decide +kernel) fun t hf y => ?_
  blk_simp; rw [after0_13]
  unfold_out out0_13
  frame_out
  have h1 : (y 1).val < 128 := (y 1).isLt
  have h0 : (y 0).val < 512 := (y 0).isLt
  have ht : t.val < 64 := t.isLt
  have ey : y = (ix2 (⟨(y 0).val, h0⟩ : Fin 512) (⟨(y 1).val, h1⟩ : Fin 128) : S512x128.Idx) := by
    funext a; refine Fin.ext ?_; fin_cases a <;> rfl
  refine (congrArg (k0_pay8 (F := Ideal) (iblk m c 0 t) (iblk m c 1 t) (iblk m c 4 t)) ey).trans ?_
  refine (point13 m c t _ _ ⟨t.val * 512 + (y 0).val, by omega⟩ rfl).trans ?_
  blk_ext [idx_val t]

theorem point16 (c : Dev nD) (t : Fin cfg0.N) (q : Fin 512) (e : Fin 256) (r : Fin 32768) (hr : (r : ℕ) = t.val * 512 + q) :
    k0_pay3 (F := Ideal) (k0_pay4 (F := Ideal) (iblk m c 0 t) (iblk m c 1 t)) (iblk m c 7 t) (ix2 q e) = vOut (refProj m c) (ix2 r e) := by
  refine (pay3 (k0_pay4 (F := Ideal) (iblk m c 0 t) (iblk m c 1 t)) (iblk m c 7 t) q e).trans (Eq.trans ?_ (vOut_at (refProj m c) r e).symm)
  simp only [pay4]
  exact dot m c t q r hr _ _ fun k => iblk7 m c t k e

theorem final16 (c : Dev nD) : (dats m 0 c).arrAt 16 (cfgs 0).N = vOut (refProj m c) := by
  refine (dats m 0 c).arrAt_eq_of_covers 16 _ (by decide +kernel) fun t hf y => ?_
  blk_simp; rw [after0_16]
  unfold_out out0_16
  frame_out
  have h1 : (y 1).val < 256 := (y 1).isLt
  have h0 : (y 0).val < 512 := (y 0).isLt
  have ht : t.val < 64 := t.isLt
  have ey : y = (ix2 (⟨(y 0).val, h0⟩ : Fin 512) (⟨(y 1).val, h1⟩ : Fin 256) : S512x256.Idx) := by
    funext a; refine Fin.ext ?_; fin_cases a <;> rfl
  refine (congrArg (k0_pay3 (F := Ideal) (k0_pay4 (F := Ideal) (iblk m c 0 t) (iblk m c 1 t)) (iblk m c 7 t)) ey).trans ?_
  refine (point16 m c t _ _ ⟨t.val * 512 + (y 0).val, by omega⟩ rfl).trans ?_
  blk_ext [idx_val t]

theorem point15 (c : Dev nD) (t : Fin cfg0.N) (q : Fin 512) (e : Fin 256) (r : Fin 32768) (hr : (r : ℕ) = t.val * 512 + q) :
    k0_pay2 (F := Ideal) (k0_pay4 (F := Ideal) (iblk m c 0 t) (iblk m c 1 t)) (k0_pay5 (F := Ideal) (iblk m c 10 t)) (iblk m c 6 t) (iblk m c 9 t) (ix2 q e) = kOut (refProj m c) (m ((c : Thread nD τ).loc main_arg4)) (ix2 r e) := by
  refine (pay2 (k0_pay4 (F := Ideal) (iblk m c 0 t) (iblk m c 1 t)) (iblk m c 10 t) (iblk m c 6 t) (iblk m c 9 t) q e).trans (Eq.trans ?_ (kOut_at (refProj m c) (m ((c : Thread nD τ).loc main_arg4)) r e).symm)
  refine congrArg₂ (fun a b : EReal => a * b) ?_ (iblk9 m c t e)
  rw [headedBy_eq _ _ _ (ones m c t e)]
  have hd : ∀ j : Fin 256, ∑ k, k0_pay4 (F := Ideal) (iblk m c 0 t) (iblk m c 1 t) (ix2 q k) * iblk m c 6 t (ix2 k j) = prow (refProj m c) r ⟨3600 + (j : ℕ), by omega⟩ := fun j => by
    simp only [pay4]
    exact dot m c t q r hr _ _ fun k => iblk6 m c t k j
  exact congrArg₂ headed (hd e) (funext fun x => hd _)

theorem final15 (c : Dev nD) : (dats m 0 c).arrAt 15 (cfgs 0).N = kOut (refProj m c) (m ((c : Thread nD τ).loc main_arg4)) := by
  refine (dats m 0 c).arrAt_eq_of_covers 15 _ (by decide +kernel) fun t hf y => ?_
  blk_simp; rw [after0_15]
  unfold_out out0_15
  frame_out
  have h1 : (y 1).val < 256 := (y 1).isLt
  have h0 : (y 0).val < 512 := (y 0).isLt
  have ht : t.val < 64 := t.isLt
  have ey : y = (ix2 (⟨(y 0).val, h0⟩ : Fin 512) (⟨(y 1).val, h1⟩ : Fin 256) : S512x256.Idx) := by
    funext a; refine Fin.ext ?_; fin_cases a <;> rfl
  refine (congrArg (k0_pay2 (F := Ideal) (k0_pay4 (F := Ideal) (iblk m c 0 t) (iblk m c 1 t)) (k0_pay5 (F := Ideal) (iblk m c 10 t)) (iblk m c 6 t) (iblk m c 9 t)) ey).trans ?_
  refine (point15 m c t _ _ ⟨t.val * 512 + (y 0).val, by omega⟩ rfl).trans ?_
  blk_ext [idx_val t]

theorem point14 (c : Dev nD) (t : Fin cfg0.N) (q : Fin 512) (e : Fin 1024) (r : Fin 32768) (hr : (r : ℕ) = t.val * 512 + q) :
    k0_pay1 (F := Ideal) (k0_pay10 (F := Ideal) (iblk m c 8 t)) (k0_pay11 (F := Ideal) (k0_pay4 (F := Ideal) (iblk m c 0 t) (iblk m c 1 t)) (k0_pay5 (F := Ideal) (iblk m c 10 t)) (iblk m c 5 t)) (k0_pay12 (F := Ideal) (k0_pay4 (F := Ideal) (iblk m c 0 t) (iblk m c 1 t)) (k0_pay5 (F := Ideal) (iblk m c 10 t)) (iblk m c 5 t)) (k0_pay13 (F := Ideal) (k0_pay4 (F := Ideal) (iblk m c 0 t) (iblk m c 1 t)) (k0_pay5 (F := Ideal) (iblk m c 10 t)) (iblk m c 5 t)) (k0_pay14 (F := Ideal) (k0_pay4 (F := Ideal) (iblk m c 0 t) (iblk m c 1 t)) (iblk m c 5 t)) (k0_pay15 (F := Ideal) (k0_pay4 (F := Ideal) (iblk m c 0 t) (iblk m c 1 t)) (k0_pay5 (F := Ideal) (iblk m c 10 t)) (iblk m c 5 t)) (ix2 q e) = qOut (refProj m c) (m ((c : Thread nD τ).loc main_arg3)) (ix2 r e) := by
  refine (pay1 (iblk m c 8 t) (k0_pay4 (F := Ideal) (iblk m c 0 t) (iblk m c 1 t)) (iblk m c 10 t) (iblk m c 5 t) q e).trans (Eq.trans ?_ (qOut_at (refProj m c) (m ((c : Thread nD τ).loc main_arg3)) r e).symm)
  refine congrArg₂ (fun a b : EReal => a * b) ?_ (iblk8 m c t e)
  rw [headedBy_eq _ _ _ (ones m c t _)]
  have hd : ∀ j : Fin 1024, k0_pay9 (F := Ideal) (k0_pay4 (F := Ideal) (iblk m c 0 t) (iblk m c 1 t)) (iblk m c 5 t) (ix2 q j) = prow (refProj m c) r ⟨2576 + (j : ℕ), by omega⟩ := fun j => by
    refine (pay9 (k0_pay4 (F := Ideal) (iblk m c 0 t) (iblk m c 1 t)) (iblk m c 5 t) q j).trans ?_
    simp only [pay4]
    exact dot m c t q r hr _ _ fun k => iblk5 m c t k j
  refine congrArg₂ headed ((hd _).trans (congrArg _ (Fin.ext ?_))) (funext fun x => (hd _).trans (congrArg _ (Fin.ext ?_)))
  · show 2576 + ((e : ℕ) / 256 * 256 + (e : ℕ) % 256) = 2576 + (e : ℕ)
    omega
  · show 2576 + ((e : ℕ) / 256 * 256 + ((e : ℕ) % 256 / 64 * 64 + (x : ℕ))) = 2576 + ((e : ℕ) / 64 * 64 + (x : ℕ))
    omega

theorem final14 (c : Dev nD) : (dats m 0 c).arrAt 14 (cfgs 0).N = qOut (refProj m c) (m ((c : Thread nD τ).loc main_arg3)) := by
  refine (dats m 0 c).arrAt_eq_of_covers 14 _ (by decide +kernel) fun t hf y => ?_
  blk_simp; rw [after0_14]
  unfold_out out0_14
  frame_out
  have h1 : (y 1).val < 1024 := (y 1).isLt
  have h0 : (y 0).val < 512 := (y 0).isLt
  have ht : t.val < 64 := t.isLt
  have ey : y = (ix2 (⟨(y 0).val, h0⟩ : Fin 512) (⟨(y 1).val, h1⟩ : Fin 1024) : S512x1024.Idx) := by
    funext a; refine Fin.ext ?_; fin_cases a <;> rfl
  refine (congrArg (k0_pay1 (F := Ideal) (k0_pay10 (F := Ideal) (iblk m c 8 t)) (k0_pay11 (F := Ideal) (k0_pay4 (F := Ideal) (iblk m c 0 t) (iblk m c 1 t)) (k0_pay5 (F := Ideal) (iblk m c 10 t)) (iblk m c 5 t)) (k0_pay12 (F := Ideal) (k0_pay4 (F := Ideal) (iblk m c 0 t) (iblk m c 1 t)) (k0_pay5 (F := Ideal) (iblk m c 10 t)) (iblk m c 5 t)) (k0_pay13 (F := Ideal) (k0_pay4 (F := Ideal) (iblk m c 0 t) (iblk m c 1 t)) (k0_pay5 (F := Ideal) (iblk m c 10 t)) (iblk m c 5 t)) (k0_pay14 (F := Ideal) (k0_pay4 (F := Ideal) (iblk m c 0 t) (iblk m c 1 t)) (iblk m c 5 t)) (k0_pay15 (F := Ideal) (k0_pay4 (F := Ideal) (iblk m c 0 t) (iblk m c 1 t)) (k0_pay5 (F := Ideal) (iblk m c 10 t)) (iblk m c 5 t))) ey).trans ?_
  refine (point14 m c t _ _ ⟨t.val * 512 + (y 0).val, by omega⟩ rfl).trans ?_
  blk_ext [idx_val t]

theorem algebraic : Cert.algebraic_InpIdeal_InpRefIdeal := by
  intro m g m' g' _ hm
  refine ⟨fun c => Cert.InpRefIdeal.At.zOut (Cert.InpRefIdeal.At.proj (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))), fun c => Cert.InpRefIdeal.At.xbcOut (Cert.InpRefIdeal.At.proj (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))), fun c => Cert.InpRefIdeal.At.dtOut (Cert.InpRefIdeal.At.proj (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))), fun c => Cert.InpRefIdeal.At.qOut (Cert.InpRefIdeal.At.proj (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))) (m ((c.tc : Thread Cert.InpIdeal.nD Cert.InpIdeal.τ).loc Cert.InpIdeal.main_arg3)), fun c => Cert.InpRefIdeal.At.kOut (Cert.InpRefIdeal.At.proj (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))) (m ((c.tc : Thread Cert.InpIdeal.nD Cert.InpIdeal.τ).loc Cert.InpIdeal.main_arg4)), fun c => Cert.InpRefIdeal.At.vOut (Cert.InpRefIdeal.At.proj (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2))), ?_, ?_⟩
  · exact (θ_run _ _ _).mono (fun r hr c => ⟨(hr c).1.trans (final11 m c), (hr c).2.1.trans (final12 m c), (hr c).2.2.1.trans (final13 m c), (hr c).2.2.2.1.trans (final14 m c),
      (hr c).2.2.2.2.1.trans (final15 m c), (hr c).2.2.2.2.2.1.trans (final16 m c), (hr c).2.2.2.2.2.2⟩) (Cert.InpIdeal.Value.run_blocks m g)
  · refine (θ_run _ _ _).mono (fun r hr c => ?_) (Cert.InpRefIdeal.At.run m' g')
    obtain ⟨e0, e1, e2, e3, e4⟩ := hm c
    have h := hr c
    rw [e0, e1, e2, e3, e4] at h
    rw [e0, e1, e2, e3, e4]
    exact h

end Cert.InpIdeal.InpValue

end
-- ==== Proof.PrepRun.lean ====
/- What feeds the RWKV recurrence, the body's one run: what it stores in each output, and that it runs to the end. -/
module

public import proofs.«01_k».proof.Proof.Gen.PrepIdeal.Frame.Runs

@[expose] public section

set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The body at its one grid point, run from blocks that hold `x0`, …, `x17`: the pieces it stores in each output block and in the scratch rows. -/
noncomputable def kernelRun0_A (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) :
    Σ' (L18 : List (View.Piece (Elt F) S512x1024 .bf16)), Σ' (L19 : List (View.Piece (Elt F) S512x1024 .f32)), Σ' (L20 : List (View.Piece (Elt F) S512x1024 .bf16)), Σ' (L21 : List (View.Piece (Elt F) S512x1024 .bf16)), Σ' (L22 : List (View.Piece (Elt F) S512x1024 .bf16)), Σ' (L23 : List (View.Piece (Elt F) S512x1024 .bf16)), Σ' (L24 : List (View.Piece (Elt F) S512x1024 .bf16)), Σ' (L25 : List (View.Piece (Elt F) S512x1024 .f32)), { LT0 : List (View.Piece (Elt F) S520x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0)) -∗ K ⟨⟩))
          ⊢ wp frame (wpE (defs₀ (F := F)) Variants.none c none) E (cc0_rwkv_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, ?_, ?_, ?_, ?_, ?_, ?_, fun E K => ?run⟩
  case run =>
    simp only [cc0_rwkv_prep_eq_skeleton]; unfold cc0_rwkv_prep_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.PrepIdeal.Gen

end
-- ==== Proof.PrepFrame.lean ====
/- What feeds the RWKV recurrence, its frame: the proof data of the pipeline over the body's one run, and that the arguments end unchanged. -/
module

public import proofs.«01_k».proof.Proof.PrepRun
public import Idealize.ShloMosaic.Lib.Claim

@[expose] public section

set_option maxRecDepth 16384
set_option maxHeartbeats 2000000

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The pieces stored in this output fill its block. -/
theorem cover0_A_18 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1 S512x1024.size (by sl_kernel_rfl) y

/-- What the body leaves in this output block: its stored pieces, put together. -/
def out0_A_18 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).1)

/-- The pieces stored in this output fill its block. -/
theorem cover0_A_19 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1 S512x1024.size (by sl_kernel_rfl) y

/-- What the body leaves in this output block: its stored pieces, put together. -/
def out0_A_19 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.1)

/-- The pieces stored in this output fill its block. -/
theorem cover0_A_20 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1 S512x1024.size (by sl_kernel_rfl) y

/-- What the body leaves in this output block: its stored pieces, put together. -/
def out0_A_20 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.1)

/-- The pieces stored in this output fill its block. -/
theorem cover0_A_21 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1 S512x1024.size (by sl_kernel_rfl) y

/-- What the body leaves in this output block: its stored pieces, put together. -/
def out0_A_21 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.1)

/-- The pieces stored in this output fill its block. -/
theorem cover0_A_22 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1 S512x1024.size (by sl_kernel_rfl) y

/-- What the body leaves in this output block: its stored pieces, put together. -/
def out0_A_22 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.1)

/-- The pieces stored in this output fill its block. -/
theorem cover0_A_23 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1 S512x1024.size (by sl_kernel_rfl) y

/-- What the body leaves in this output block: its stored pieces, put together. -/
def out0_A_23 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.1)

/-- The pieces stored in this output fill its block. -/
theorem cover0_A_24 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1 S512x1024.size (by sl_kernel_rfl) y

/-- What the body leaves in this output block: its stored pieces, put together. -/
def out0_A_24 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.1)

/-- The pieces stored in this output fill its block. -/
theorem cover0_A_25 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1 S512x1024.size (by sl_kernel_rfl) y

/-- What the body leaves in this output block: its stored pieces, put together. -/
def out0_A_25 (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S6x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1024x1024 .bf16) (harg11 : arg11.IsWhole) (arg12 : Memref sig .tc .vmem S1024x64 .bf16) (harg12 : arg12.IsWhole) (arg13 : Memref sig .tc .vmem S64x1024 .bf16) (harg13 : arg13.IsWhole) (arg14 : Memref sig .tc .vmem S1024x64 .bf16) (harg14 : arg14.IsWhole) (arg15 : Memref sig .tc .vmem S64x1024 .bf16) (harg15 : arg15.IsWhole) (arg16 : Memref sig .tc .vmem S1024x128 .bf16) (harg16 : arg16.IsWhole) (arg17 : Memref sig .tc .vmem S128x1024 .bf16) (harg17 : arg17.IsWhole) (arg18 : Memref sig .tc .vmem S256x256 .bf16) (harg18 : arg18.IsWhole) (arg19 : Memref sig .tc .vmem S512x1024 .bf16) (harg19 : arg19.IsWhole) (arg20 : Memref sig .tc .vmem S512x1024 .f32) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x1024 .bf16) (harg23 : arg23.IsWhole) (arg24 : Memref sig .tc .vmem S512x1024 .bf16) (harg24 : arg24.IsWhole) (arg25 : Memref sig .tc .vmem S512x1024 .bf16) (harg25 : arg25.IsWhole) (arg26 : Memref sig .tc .vmem S512x1024 .f32) (harg26 : arg26.IsWhole) (arg27 : Memref sig .tc .vmem S520x1024 .f32) (harg27 : arg27.IsWhole)
    (x0 : Vec F S512x1024 .f32) (x1 : Vec F S512x1024 .f32) (x2 : Vec F S1x1024 .f32) (x3 : Vec F S6x1024 .f32) (x4 : Vec F S1x1024 .f32) (x5 : Vec F S1x1024 .f32) (x6 : Vec F S1x1024 .f32) (x7 : Vec F S1x1024 .f32) (x8 : Vec F S1024x1024 .bf16) (x9 : Vec F S1024x1024 .bf16) (x10 : Vec F S1024x1024 .bf16) (x11 : Vec F S1024x64 .bf16) (x12 : Vec F S64x1024 .bf16) (x13 : Vec F S1024x64 .bf16) (x14 : Vec F S64x1024 .bf16) (x15 : Vec F S1024x128 .bf16) (x16 : Vec F S128x1024 .bf16) (x17 : Vec F S256x256 .bf16) : Vec F S512x1024 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17).2.2.2.2.2.2.2.1)

/-- What the body leaves in all its output blocks at point `t`. -/
def outsAt0 (c : Dev nD) (t : Fin cfg0.N) : Vec F S512x1024 .bf16 × Vec F S512x1024 .f32 × Vec F S512x1024 .bf16 × Vec F S512x1024 .bf16 × Vec F S512x1024 .bf16 × Vec F S512x1024 .bf16 × Vec F S512x1024 .bf16 × Vec F S512x1024 .f32 :=
  (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t))

/-- The proof data of the pipeline: what every array holds at launch and what every block holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (outsAt0 m c t).1
    | ⟨19, _⟩ => (outsAt0 m c t).2.1
    | ⟨20, _⟩ => (outsAt0 m c t).2.2.1
    | ⟨21, _⟩ => (outsAt0 m c t).2.2.2.1
    | ⟨22, _⟩ => (outsAt0 m c t).2.2.2.2.1
    | ⟨23, _⟩ => (outsAt0 m c t).2.2.2.2.2.1
    | ⟨24, _⟩ => (outsAt0 m c t).2.2.2.2.2.2.1
    | ⟨25, _⟩ => (outsAt0 m c t).2.2.2.2.2.2.2
    | ⟨_ + 26, h⟩ => absurd h (Nat.not_lt.2 (Nat.le_add_left _ _))
  Φ _ := Pipeline.ΦA spec0 c
  q _ := fullShare
  owed _ := 0

/-- At launch the arrays hold what the operations before the region wrote. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = (outsAt0 m c t).1 := by dsimp only [dats]
theorem after0_19 (c : Dev nD) (t : Fin cfg0.N) : (dats m 0 c).after 19 t = (outsAt0 m c t).2.1 := by dsimp only [dats]
theorem after0_20 (c : Dev nD) (t : Fin cfg0.N) : (dats m 0 c).after 20 t = (outsAt0 m c t).2.2.1 := by dsimp only [dats]
theorem after0_21 (c : Dev nD) (t : Fin cfg0.N) : (dats m 0 c).after 21 t = (outsAt0 m c t).2.2.2.1 := by dsimp only [dats]
theorem after0_22 (c : Dev nD) (t : Fin cfg0.N) : (dats m 0 c).after 22 t = (outsAt0 m c t).2.2.2.2.1 := by dsimp only [dats]
theorem after0_23 (c : Dev nD) (t : Fin cfg0.N) : (dats m 0 c).after 23 t = (outsAt0 m c t).2.2.2.2.2.1 := by dsimp only [dats]
theorem after0_24 (c : Dev nD) (t : Fin cfg0.N) : (dats m 0 c).after 24 t = (outsAt0 m c t).2.2.2.2.2.2.1 := by dsimp only [dats]
theorem after0_25 (c : Dev nD) (t : Fin cfg0.N) : (dats m 0 c).after 25 t = (outsAt0 m c t).2.2.2.2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d

/-- What the body finds: its input blocks, its output blocks and its scratch rows. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 16000000 in
/-- The body, started as `bodyPre` says, ends as `bodyPost` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_18 out0_A_19 out0_A_20 out0_A_21 out0_A_22 out0_A_23 out0_A_24 out0_A_25; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩, ⟨%e24, H24⟩, ⟨%e25, H25⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The region calls the body once per point. -/
theorem defs₀_row (t : Fin cfg0.N) :
    defs₀ (F := F) .tc cfg0.body (cfg0.bodyArgs t (cfg0.slots t)) = bodyAt0 t := by
  unfold defs₀; rw [Defs.onTc_tc]

/-- So the body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program ends, every counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole program ends, as the pipeline says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.PrepIdeal.Gen

end
-- ==== Proof.PrepBits.lean ====
/- Hand-written: what feeds the RWKV recurrence and its idealization are one program text, so the call's frame is the one run's. -/
module
public import proofs.«01_k».proof.Proof.Gen.Prep
public import Idealize.ShloMosaic.Lib.Tactic
public import proofs.«01_k».proof.Proof.PrepFrame
public import proofs.«01_k».proof.Defs
@[expose] public section
open Idealize.ShloMosaic Idealize.ShloMosaic.TcCoe Idealize.SL.Sem Idealize.ShloMosaic.Tactic
noncomputable section
variable {F : FTy → Type} [FloatOps F]
set_option maxRecDepth 16384
namespace Cert.PrepProof
theorem main_same : Cert.Prep.main (F:=F) = Cert.PrepIdeal.main (F:=F) := by sl_kernel_rfl
theorem defs_same : Cert.Prep.defs (F:=F) = Cert.PrepIdeal.defs (F:=F) := by sl_kernel_rfl
set_option maxHeartbeats 8000000 in
/-- The call's frame: the run of the one text, at words. -/
theorem frame_bits : Cert.quiescent_Prep := fun m g h => by
  have key := Cert.PrepIdeal.Gen.frame (F := Bits) m g
  rw [← defs_same, ← main_same] at key
  exact key
end Cert.PrepProof

end
-- ==== Proof.PrepDat.lean ====
/- What feeds the RWKV recurrence, its results: the arrays that the pipeline's proof data leave, block by block. -/
module

public import proofs.«01_k».proof.Proof.PrepFrame
public import Idealize.ShloMosaic.Lib.Pipeline.Value

@[expose] public section

noncomputable section

namespace Cert.PrepIdeal.Value

open Cert.PrepIdeal Cert.PrepIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post18 (r : PUnit × MemSt nD τ sig (Elt F)) (h : Pipeline.FramePost cfgs (dats m) 0 (V m) r) (c : Dev nD) :
    r.2.mem ((c : Thread nD τ).loc main_v42_0) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v42_1) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v42_2) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v42_3) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v42_4) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v42_5) = (dats m 0 c).arrAt 23 cfg0.N :=
  (h c).1 23

theorem post24 (r : PUnit × MemSt nD τ sig (Elt F)) (h : Pipeline.FramePost cfgs (dats m) 0 (V m) r) (c : Dev nD) :
    r.2.mem ((c : Thread nD τ).loc main_v42_6) = (dats m 0 c).arrAt 24 cfg0.N :=
  (h c).1 24

theorem post25 (r : PUnit × MemSt nD τ sig (Elt F)) (h : Pipeline.FramePost cfgs (dats m) 0 (V m) r) (c : Dev nD) :
    r.2.mem ((c : Thread nD τ).loc main_v42_7) = (dats m 0 c).arrAt 25 cfg0.N :=
  (h c).1 25

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

set_option maxHeartbeats 2000000 in
/-- The program ends with every output array as the pipeline leaves it, and its arguments unchanged. -/
theorem run_blocks : θ_run defs (onTc (τ := τ) (main (F := F))) ⟨m, fun _ => 0, ρ⟩ fun r => ∀ c : Dev nD,
      r.2.mem ((c : Thread nD τ).loc main_v42_0) = (dats m 0 c).arrAt 18 cfg0.N
      ∧ r.2.mem ((c : Thread nD τ).loc main_v42_1) = (dats m 0 c).arrAt 19 cfg0.N
      ∧ r.2.mem ((c : Thread nD τ).loc main_v42_2) = (dats m 0 c).arrAt 20 cfg0.N
      ∧ r.2.mem ((c : Thread nD τ).loc main_v42_3) = (dats m 0 c).arrAt 21 cfg0.N
      ∧ r.2.mem ((c : Thread nD τ).loc main_v42_4) = (dats m 0 c).arrAt 22 cfg0.N
      ∧ r.2.mem ((c : Thread nD τ).loc main_v42_5) = (dats m 0 c).arrAt 23 cfg0.N
      ∧ r.2.mem ((c : Thread nD τ).loc main_v42_6) = (dats m 0 c).arrAt 24 cfg0.N
      ∧ r.2.mem ((c : Thread nD τ).loc main_v42_7) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post18 m r h c,
      post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.PrepIdeal.Value

end
-- ==== Proof.PrepRefAt.lean ====
/- Hand-written: the reference of what feeds the RWKV recurrence, stage by stage, each stage read at an index. -/
module

public import proofs.«01_k».proof.Proof.Gen.PrepRefIdeal.Run
public import proofs.«01_k».proof.Proof.FfnRefAt
public import Idealize.ShloMosaic.Lib.Pointwise

@[expose] public section

set_option maxRecDepth 16384

noncomputable section

open Idealize.ShloMosaic Idealize.ShloMosaic.TcCoe Idealize.ShloMosaic.StableHlo Idealize.SL.Sem

namespace Cert.PrepRefIdeal.At

open Cert.PrepRefIdeal Cert.PrepRefIdeal.Gen
open Cert.FfnRefIdeal.At (normed)

/-- The normed activations. -/
def hid (a0 : FVec Ideal S128x4x1024 .f32) (a2 : FVec Ideal S2x1024 .f32) : FVec Ideal S128x4x1024 .f32 :=
  (mulf (mulf a0 (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf a0 a0) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (shapeCast _ (extractStridedSlice S1x1024 ![1, 0] a2 slices_S2x1024_S1x1024_1_0) shapeCasts_S1x1024_S1024))))

/-- The token before's activations less a token's own. -/
def shiftBy (h : FVec Ideal S128x4x1024 .f32) (a1 : FVec Ideal S1x128x1024 .f32) : FVec Ideal S128x4x1024 .f32 :=
  (subf (concatenate S128x4x1024 1 [⟨S128x1x1024, (broadcastInDim S128x1x1024 ![0, 2] bcast_S128x1024_S128x1x1024_0_2 (shapeCast _ a1 shapeCasts_S1x128x1024_S128x1024))⟩, ⟨S128x3x1024, (extractStridedSlice S128x3x1024 ![0, 0, 0] h slices_S128x4x1024_S128x3x1024_0_0_0)⟩] concatenates_S128x1x1024_S128x3x1024_S128x4x1024_d1) h)

/-- The activations, shifted by one of the mixing rows. -/
def mix0 (h : FVec Ideal S128x4x1024 .f32) (x : FVec Ideal S128x4x1024 .f32) (a3 : FVec Ideal S1x6x1024 .f32) : FVec Ideal S128x4x1024 .f32 :=
  (addf h (mulf x (broadcastInDim S128x4x1024 ![0, 1, 2] bcast_S1x1x1024_S128x4x1024_0_1_2 (broadcastInDim S1x1x1024 ![2] bcast_S1024_S1x1x1024_2 (shapeCast _ (extractStridedSlice S1x1x1024 ![0, 0, 0] a3 slices_S1x6x1024_S1x1x1024_0_0_0) shapeCasts_S1x1x1024_S1024)))))

/-- The activations, shifted by one of the mixing rows. -/
def mix2 (h : FVec Ideal S128x4x1024 .f32) (x : FVec Ideal S128x4x1024 .f32) (a3 : FVec Ideal S1x6x1024 .f32) : FVec Ideal S128x4x1024 .f32 :=
  (addf h (mulf x (broadcastInDim S128x4x1024 ![0, 1, 2] bcast_S1x1x1024_S128x4x1024_0_1_2 (broadcastInDim S1x1x1024 ![2] bcast_S1024_S1x1x1024_2 (shapeCast _ (extractStridedSlice S1x1x1024 ![0, 2, 0] a3 slices_S1x6x1024_S1x1x1024_0_2_0) shapeCasts_S1x1x1024_S1024)))))

/-- The activations, shifted by one of the mixing rows. -/
def mix3 (h : FVec Ideal S128x4x1024 .f32) (x : FVec Ideal S128x4x1024 .f32) (a3 : FVec Ideal S1x6x1024 .f32) : FVec Ideal S128x4x1024 .f32 :=
  (addf h (mulf x (broadcastInDim S128x4x1024 ![0, 1, 2] bcast_S1x1x1024_S128x4x1024_0_1_2 (broadcastInDim S1x1x1024 ![2] bcast_S1024_S1x1x1024_2 (shapeCast _ (extractStridedSlice S1x1x1024 ![0, 3, 0] a3 slices_S1x6x1024_S1x1x1024_0_3_0) shapeCasts_S1x1x1024_S1024)))))

/-- The activations, shifted by one of the mixing rows. -/
def mix4 (h : FVec Ideal S128x4x1024 .f32) (x : FVec Ideal S128x4x1024 .f32) (a3 : FVec Ideal S1x6x1024 .f32) : FVec Ideal S128x4x1024 .f32 :=
  (addf h (mulf x (broadcastInDim S128x4x1024 ![0, 1, 2] bcast_S1x1x1024_S128x4x1024_0_1_2 (broadcastInDim S1x1x1024 ![2] bcast_S1024_S1x1x1024_2 (shapeCast _ (extractStridedSlice S1x1x1024 ![0, 4, 0] a3 slices_S1x6x1024_S1x1x1024_0_4_0) shapeCasts_S1x1x1024_S1024)))))

/-- The activations, shifted by one of the mixing rows. -/
def mix5 (h : FVec Ideal S128x4x1024 .f32) (x : FVec Ideal S128x4x1024 .f32) (a3 : FVec Ideal S1x6x1024 .f32) : FVec Ideal S128x4x1024 .f32 :=
  (addf h (mulf x (broadcastInDim S128x4x1024 ![0, 1, 2] bcast_S1x1x1024_S128x4x1024_0_1_2 (broadcastInDim S1x1x1024 ![2] bcast_S1024_S1x1x1024_2 (shapeCast _ (extractStridedSlice S1x1x1024 ![0, 5, 0] a3 slices_S1x6x1024_S1x1x1024_0_5_0) shapeCasts_S1x1x1024_S1024)))))

/-- A square projection. -/
def proj (x : FVec Ideal S128x4x1024 .f32) (w : FVec Ideal S1x1024x1024 .f32) : FVec Ideal S128x4x1024 .f32 :=
  (Host.dotGeneral dot_S128x4x1024_S1024x1024_S128x4x1024_2_0_01_1_n_n none x (shapeCast _ w shapeCasts_S1x1024x1024_S1024x1024))

/-- The gate of the recurrence. -/
def gateA (x : FVec Ideal S128x4x1024 .f32) (a7 : FVec Ideal S1x1024 .f32) (a8 : FVec Ideal S1x1024x64 .f32) (a9 : FVec Ideal S1x64x1024 .f32) : FVec Ideal S128x4x1024 .f32 :=
  (Host.divf (broadcastInDim S128x4x1024 ![] bcast_S_S128x4x1024 (constant S_ .f32 0x3F800000#32)) (addf (broadcastInDim S128x4x1024 ![] bcast_S_S128x4x1024 (constant S_ .f32 0x3F800000#32)) (Host.exp (Host.negf (addf (broadcastInDim S128x4x1024 ![0, 1, 2] bcast_S1x1x1024_S128x4x1024_0_1_2 (broadcastInDim S1x1x1024 ![2] bcast_S1024_S1x1x1024_2 (shapeCast _ a7 shapeCasts_S1x1024_S1024))) (Host.dotGeneral dot_S128x4x64_S64x1024_S128x4x1024_2_0_01_1_n_n none (Host.dotGeneral dot_S128x4x1024_S1024x64_S128x4x64_2_0_01_1_n_n none x (shapeCast _ a8 shapeCasts_S1x1024x64_S1024x64)) (shapeCast _ a9 shapeCasts_S1x64x1024_S64x1024)))))))

/-- The gate of the results. -/
def gateG (x : FVec Ideal S128x4x1024 .f32) (a10 : FVec Ideal S1x1024x128 .f32) (a11 : FVec Ideal S1x128x1024 .f32) : FVec Ideal S128x4x1024 .f32 :=
  (Host.dotGeneral dot_S128x4x128_S128x1024_S128x4x1024_2_0_01_1_n_n none (Host.divf (broadcastInDim S128x4x128 ![] bcast_S_S128x4x128 (constant S_ .f32 0x3F800000#32)) (addf (broadcastInDim S128x4x128 ![] bcast_S_S128x4x128 (constant S_ .f32 0x3F800000#32)) (Host.exp (Host.negf (Host.dotGeneral dot_S128x4x1024_S1024x128_S128x4x128_2_0_01_1_n_n none x (shapeCast _ a10 shapeCasts_S1x1024x128_S1024x128)))))) (shapeCast _ a11 shapeCasts_S1x128x1024_S128x1024))

/-- The keys, scaled. -/
def scaled (k : FVec Ideal S128x4x1024 .f32) (a12 : FVec Ideal S1x1024 .f32) : FVec Ideal S128x4x1024 .f32 :=
  (mulf k (broadcastInDim S128x4x1024 ![0, 1, 2] bcast_S1x1x1024_S128x4x1024_0_1_2 (broadcastInDim S1x1x1024 ![2] bcast_S1024_S1x1x1024_2 (shapeCast _ a12 shapeCasts_S1x1024_S1024))))

/-- The scaled keys, each head divided by its norm. -/
def unit (z : FVec Ideal S128x4x1024 .f32) : FVec Ideal S128x4x16x64 .f32 :=
  (Host.divf (shapeCast _ z shapeCasts_S128x4x1024_S128x4x16x64) (broadcastInDim S128x4x16x64 ![0, 1, 2, 3] bcast_S128x4x16x1_S128x4x16x64_0_1_2_3 (maximumf (Host.sqrt (broadcastInDim S128x4x16x1 ![0, 1, 2] bcast_S128x4x16_S128x4x16x1_0_1_2 (Host.reduceAdd (mulf (shapeCast _ z shapeCasts_S128x4x1024_S128x4x16x64) (shapeCast _ z shapeCasts_S128x4x1024_S128x4x16x64)) (constant S_ .f32 0x00000000#32) reducesTo_S128x4x16x64_S128x4x16_d3 h_S_))) (broadcastInDim S128x4x16x1 ![] bcast_S_S128x4x16x1 (constant S_ .f32 0x2B8CBCCC#32)))))

/-- A projection, flat. -/
def flatOut (x : FVec Ideal S128x4x1024 .f32) : FVec Ideal S512x1024 .bf16 :=
  truncf .bf16 (shapeCast _ x shapeCasts_S128x4x1024_S512x1024) bitsLt_bf16_f32

/-- The keys that the recurrence adds. -/
def keyOut (k : FVec Ideal S128x4x1024 .f32) (a : FVec Ideal S128x4x1024 .f32) (a13 : FVec Ideal S1x1024 .f32) : FVec Ideal S512x1024 .bf16 :=
  truncf .bf16 (shapeCast _ (mulf k (addf (broadcastInDim S128x4x1024 ![] bcast_S_S128x4x1024 (constant S_ .f32 0x3F800000#32)) (mulf (subf a (broadcastInDim S128x4x1024 ![] bcast_S_S128x4x1024 (constant S_ .f32 0x3F800000#32))) (broadcastInDim S128x4x1024 ![0, 1, 2] bcast_S1x1x1024_S128x4x1024_0_1_2 (broadcastInDim S1x1x1024 ![2] bcast_S1024_S1x1x1024_2 (shapeCast _ a13 shapeCasts_S1x1024_S1024)))))) shapeCasts_S128x4x1024_S512x1024) bitsLt_bf16_f32

/-- The unit keys, negated. -/
def negOut (z : FVec Ideal S128x4x16x64 .f32) : FVec Ideal S512x1024 .bf16 :=
  truncf .bf16 (shapeCast _ (Host.negf z) shapeCasts_S128x4x16x64_S512x1024) bitsLt_bf16_f32

/-- The unit keys, gated. -/
def gatedOut (z : FVec Ideal S128x4x16x64 .f32) (a : FVec Ideal S128x4x1024 .f32) : FVec Ideal S512x1024 .bf16 :=
  truncf .bf16 (shapeCast _ (mulf z (shapeCast _ a shapeCasts_S128x4x1024_S128x4x16x64)) shapeCasts_S128x4x16x64_S512x1024) bitsLt_bf16_f32

/-- The activations, flat. -/
def hidOut (h : FVec Ideal S128x4x1024 .f32) : FVec Ideal S512x1024 .f32 :=
  shapeCast _ h shapeCasts_S128x4x1024_S512x1024

/-- The mixed activations of the arguments. -/
def mixed0 (a0 : FVec Ideal S128x4x1024 .f32) (a1 : FVec Ideal S1x128x1024 .f32) (a2 : FVec Ideal S2x1024 .f32) (a3 : FVec Ideal S1x6x1024 .f32) : FVec Ideal S128x4x1024 .f32 :=
  mix0 (hid a0 a2) (shiftBy (hid a0 a2) a1) a3

/-- The mixed activations of the arguments. -/
def mixed2 (a0 : FVec Ideal S128x4x1024 .f32) (a1 : FVec Ideal S1x128x1024 .f32) (a2 : FVec Ideal S2x1024 .f32) (a3 : FVec Ideal S1x6x1024 .f32) : FVec Ideal S128x4x1024 .f32 :=
  mix2 (hid a0 a2) (shiftBy (hid a0 a2) a1) a3

/-- The mixed activations of the arguments. -/
def mixed3 (a0 : FVec Ideal S128x4x1024 .f32) (a1 : FVec Ideal S1x128x1024 .f32) (a2 : FVec Ideal S2x1024 .f32) (a3 : FVec Ideal S1x6x1024 .f32) : FVec Ideal S128x4x1024 .f32 :=
  mix3 (hid a0 a2) (shiftBy (hid a0 a2) a1) a3

/-- The mixed activations of the arguments. -/
def mixed4 (a0 : FVec Ideal S128x4x1024 .f32) (a1 : FVec Ideal S1x128x1024 .f32) (a2 : FVec Ideal S2x1024 .f32) (a3 : FVec Ideal S1x6x1024 .f32) : FVec Ideal S128x4x1024 .f32 :=
  mix4 (hid a0 a2) (shiftBy (hid a0 a2) a1) a3

/-- The mixed activations of the arguments. -/
def mixed5 (a0 : FVec Ideal S128x4x1024 .f32) (a1 : FVec Ideal S1x128x1024 .f32) (a2 : FVec Ideal S2x1024 .f32) (a3 : FVec Ideal S1x6x1024 .f32) : FVec Ideal S128x4x1024 .f32 :=
  mix5 (hid a0 a2) (shiftBy (hid a0 a2) a1) a3

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v109) = flatOut (proj (mixed0 (m ((c : Thread nD τ).loc main_arg0)) (m ((c : Thread nD τ).loc main_arg1)) (m ((c : Thread nD τ).loc main_arg2)) (m ((c : Thread nD τ).loc main_arg3))) (m ((c : Thread nD τ).loc main_arg14))) ∧
      r.2.mem ((c : Thread nD τ).loc main_v111) = keyOut (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) (m ((c : Thread nD τ).loc main_arg13)) ∧
      r.2.mem ((c : Thread nD τ).loc main_v113) = flatOut (proj (mixed3 (m ((c : Thread nD τ).loc main_arg0)) (m ((c : Thread nD τ).loc main_arg1)) (m ((c : Thread nD τ).loc main_arg2)) (m ((c : Thread nD τ).loc main_arg3))) (m ((c : Thread nD τ).loc main_arg16))) ∧
      r.2.mem ((c : Thread nD τ).loc main_v116) = negOut (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) ∧
      r.2.mem ((c : Thread nD τ).loc main_v120) = gatedOut (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) ∧
      r.2.mem ((c : Thread nD τ).loc main_v122) = flatOut (gateG (mixed5 (m ((c : Thread nD τ).loc main_arg0)) (m ((c : Thread nD τ).loc main_arg1)) (m ((c : Thread nD τ).loc main_arg2)) (m ((c : Thread nD τ).loc main_arg3))) (m ((c : Thread nD τ).loc main_arg10)) (m ((c : Thread nD τ).loc main_arg11))) ∧
      r.2.mem ((c : Thread nD τ).loc main_v123) = hidOut (hid (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run _ _ _).mono (fun r h c => ⟨(h c).1.trans rfl, (h c).2.1.trans rfl, (h c).2.2.1.trans rfl, (h c).2.2.2.1.trans rfl, (h c).2.2.2.2.1.trans rfl, (h c).2.2.2.2.2.1.trans rfl, (h c).2.2.2.2.2.2.1.trans rfl, (h c).2.2.2.2.2.2.2⟩) (Value.run m ρ)

/-- Which row of the flat results a token is. -/
abbrev seqOf (r : Fin 512) : Fin 128 := ⟨(r : ℕ) / 4, by omega⟩
/-- Which token of its sequence a row of the flat results is. -/
abbrev tokOf (r : Fin 512) : Fin 4 := ⟨(r : ℕ) % 4, by omega⟩

/-- One over one plus the exponential of the negated value. -/
def sigm (z : EReal) : EReal := Ideal.div 1 (1 + Ideal.exp (-z))

/-- The quotient of a value by its head's norm. -/
def united (z : EReal) (t : Fin 64 → EReal) : EReal :=
  Ideal.div z (max (Ideal.sqrt (∑ x, t x * t x)) (Ideal.ofBits .f32 0x2B8CBCCC#32))

theorem hid_at (a0 : FVec Ideal S128x4x1024 .f32) (a2 : FVec Ideal S2x1024 .f32) (b : Fin 128) (l : Fin 4) (k : Fin 1024) :
    hid a0 a2 (ix3 b l k) = normed (fun k => a0 (ix3 b l k)) (a2 (ix2 1 k)) k := by
  pointwise [hid]
  rfl

theorem shiftBy_at (h : FVec Ideal S128x4x1024 .f32) (a1 : FVec Ideal S1x128x1024 .f32) (b : Fin 128) (l : Fin 4) (k : Fin 1024) :
    shiftBy h a1 (ix3 b l k) = (if hl : (l : ℕ) < 1 then a1 (ix3 0 b k) else h (ix3 b ⟨(l : ℕ) - 1, by omega⟩ k)) - h (ix3 b l k) := by
  pointwise [shiftBy]

theorem mix0_at (h : FVec Ideal S128x4x1024 .f32) (x : FVec Ideal S128x4x1024 .f32) (a3 : FVec Ideal S1x6x1024 .f32) (b : Fin 128) (l : Fin 4) (k : Fin 1024) :
    mix0 h x a3 (ix3 b l k) = h (ix3 b l k) + x (ix3 b l k) * a3 (ix3 0 0 k) := by
  pointwise [mix0]

theorem mix2_at (h : FVec Ideal S128x4x1024 .f32) (x : FVec Ideal S128x4x1024 .f32) (a3 : FVec Ideal S1x6x1024 .f32) (b : Fin 128) (l : Fin 4) (k : Fin 1024) :
    mix2 h x a3 (ix3 b l k) = h (ix3 b l k) + x (ix3 b l k) * a3 (ix3 0 2 k) := by
  pointwise [mix2]

theorem mix3_at (h : FVec Ideal S128x4x1024 .f32) (x : FVec Ideal S128x4x1024 .f32) (a3 : FVec Ideal S1x6x1024 .f32) (b : Fin 128) (l : Fin 4) (k : Fin 1024) :
    mix3 h x a3 (ix3 b l k) = h (ix3 b l k) + x (ix3 b l k) * a3 (ix3 0 3 k) := by
  pointwise [mix3]

theorem mix4_at (h : FVec Ideal S128x4x1024 .f32) (x : FVec Ideal S128x4x1024 .f32) (a3 : FVec Ideal S1x6x1024 .f32) (b : Fin 128) (l : Fin 4) (k : Fin 1024) :
    mix4 h x a3 (ix3 b l k) = h (ix3 b l k) + x (ix3 b l k) * a3 (ix3 0 4 k) := by
  pointwise [mix4]

theorem mix5_at (h : FVec Ideal S128x4x1024 .f32) (x : FVec Ideal S128x4x1024 .f32) (a3 : FVec Ideal S1x6x1024 .f32) (b : Fin 128) (l : Fin 4) (k : Fin 1024) :
    mix5 h x a3 (ix3 b l k) = h (ix3 b l k) + x (ix3 b l k) * a3 (ix3 0 5 k) := by
  pointwise [mix5]

theorem proj_at (x : FVec Ideal S128x4x1024 .f32) (w : FVec Ideal S1x1024x1024 .f32) (b : Fin 128) (l : Fin 4) (e : Fin 1024) :
    proj x w (ix3 b l e) = ∑ k : Fin 1024, x (ix3 b l k) * w (ix3 0 k e) := by
  pointwise [proj]

theorem gateA_at (x : FVec Ideal S128x4x1024 .f32) (a7 : FVec Ideal S1x1024 .f32) (a8 : FVec Ideal S1x1024x64 .f32) (a9 : FVec Ideal S1x64x1024 .f32) (b : Fin 128) (l : Fin 4) (e : Fin 1024) :
    gateA x a7 a8 a9 (ix3 b l e) = sigm (a7 (ix2 0 e) + ∑ j : Fin 64, (∑ k : Fin 1024, x (ix3 b l k) * a8 (ix3 0 k j)) * a9 (ix3 0 j e)) := by
  pointwise [gateA]
  rfl

theorem gateG_at (x : FVec Ideal S128x4x1024 .f32) (a10 : FVec Ideal S1x1024x128 .f32) (a11 : FVec Ideal S1x128x1024 .f32) (b : Fin 128) (l : Fin 4) (e : Fin 1024) :
    gateG x a10 a11 (ix3 b l e) = ∑ j : Fin 128, sigm (∑ k : Fin 1024, x (ix3 b l k) * a10 (ix3 0 k j)) * a11 (ix3 0 j e) := by
  pointwise [gateG]
  rfl

theorem scaled_at (k : FVec Ideal S128x4x1024 .f32) (a12 : FVec Ideal S1x1024 .f32) (b : Fin 128) (l : Fin 4) (e : Fin 1024) :
    scaled k a12 (ix3 b l e) = k (ix3 b l e) * a12 (ix2 0 e) := by
  pointwise [scaled]

theorem unit_at (z : FVec Ideal S128x4x1024 .f32) (b : Fin 128) (l : Fin 4) (n : Fin 16) (d : Fin 64) :
    unit z (ix4 b l n d) = united (z (ix3 b l ⟨(n : ℕ) * 64 + (d : ℕ), by omega⟩)) (fun x => z (ix3 b l ⟨(n : ℕ) * 64 + (x : ℕ), by omega⟩)) := by
  pointwise [unit]
  rfl

theorem flatOut_at (x : FVec Ideal S128x4x1024 .f32) (r : Fin 512) (e : Fin 1024) : flatOut x (ix2 r e) = x (ix3 (seqOf r) (tokOf r) e) := by
  pointwise [flatOut]

theorem hidOut_at (h : FVec Ideal S128x4x1024 .f32) (r : Fin 512) (e : Fin 1024) : hidOut h (ix2 r e) = h (ix3 (seqOf r) (tokOf r) e) := by
  pointwise [hidOut]

theorem keyOut_at (k : FVec Ideal S128x4x1024 .f32) (a : FVec Ideal S128x4x1024 .f32) (a13 : FVec Ideal S1x1024 .f32) (r : Fin 512) (e : Fin 1024) :
    keyOut k a a13 (ix2 r e) = k (ix3 (seqOf r) (tokOf r) e) * (1 + (a (ix3 (seqOf r) (tokOf r) e) - 1) * a13 (ix2 0 e)) := by
  pointwise [keyOut]

theorem negOut_at (z : FVec Ideal S128x4x16x64 .f32) (r : Fin 512) (e : Fin 1024) :
    negOut z (ix2 r e) = -z (ix4 (seqOf r) (tokOf r) ⟨(e : ℕ) / 64, by omega⟩ ⟨(e : ℕ) % 64, by omega⟩) := by
  pointwise [negOut]

theorem gatedOut_at (z : FVec Ideal S128x4x16x64 .f32) (a : FVec Ideal S128x4x1024 .f32) (r : Fin 512) (e : Fin 1024) :
    gatedOut z a (ix2 r e) = z (ix4 (seqOf r) (tokOf r) ⟨(e : ℕ) / 64, by omega⟩ ⟨(e : ℕ) % 64, by omega⟩) * a (ix3 (seqOf r) (tokOf r) e) := by
  pointwise [gatedOut]

end Cert.PrepRefIdeal.At

end
-- ==== Proof.PrepBlk.lean ====
/- Hand-written: the blocks that the step feeding the RWKV recurrence reads. -/
module

public import proofs.«01_k».proof.Proof.Gen.PrepIdeal.Frame.Runs
public import proofs.«01_k».proof.Proof.PrepRefAt
public import proofs.«01_k».proof.Proof.InpBlk
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PrepIdeal.PrepValue

open Cert.PrepIdeal Cert.PrepIdeal.Gen Cert.PrepRefIdeal.At

variable (m : (ℓ : Loc nD τ sig) → Buf (Elt Ideal) ℓ)

theorem idx_val14 : ∀ t : Fin cfg0.N, win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![0, 0]
    ∧ win0_25.index t = ![0, 0] :=
  (by decide +kernel : ∀ t : Fin grid0.N, _)

theorem idx_val : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0] :=
  (by decide +kernel : ∀ t : Fin grid0.N, _)

theorem iblk0 (c : Dev nD) (t : Fin cfg0.N) (q : Fin 512) (e : Fin 1024) :
    iblk m c 0 t (ix2 q e) = m ((c : Thread nD τ).loc main_arg0) (ix3 (seqOf q) (tokOf q) e) := by
  blk_simp [iblk]
  unfold V
  simp only [hostOps0, hostOps0_1, hostOps0_2, List.flatten_cons, List.flatten_nil, List.append_nil, List.cons_append, List.nil_append]
  entry_read
  pointwise
  blk_ext [idx_val t]

theorem iblk1 (c : Dev nD) (t : Fin cfg0.N) (q : Fin 512) (e : Fin 1024) :
    iblk m c 1 t (ix2 q e) = m ((c : Thread nD τ).loc main_arg1) (ix3 0 (seqOf q) e) := by
  blk_simp [iblk]
  unfold V
  simp only [hostOps0, hostOps0_1, hostOps0_2, List.flatten_cons, List.flatten_nil, List.append_nil, List.cons_append, List.nil_append]
  entry_read
  pointwise
  blk_ext [idx_val t]

theorem iblk2 (c : Dev nD) (t : Fin cfg0.N) (e : Fin 1024) :
    iblk m c 2 t (ix2 0 e) = m ((c : Thread nD τ).loc main_arg2) (ix2 1 e) := by
  blk_simp [iblk]
  unfold V
  simp only [hostOps0, hostOps0_1, hostOps0_2, List.flatten_cons, List.flatten_nil, List.append_nil, List.cons_append, List.nil_append]
  entry_read
  pointwise
  blk_ext [idx_val t]

theorem iblk3 (c : Dev nD) (t : Fin cfg0.N) (j : Fin 6) (e : Fin 1024) :
    iblk m c 3 t (ix2 j e) = m ((c : Thread nD τ).loc main_arg3) (ix3 0 j e) := by
  blk_simp [iblk]
  unfold V
  simp only [hostOps0, hostOps0_1, hostOps0_2, List.flatten_cons, List.flatten_nil, List.append_nil, List.cons_append, List.nil_append]
  entry_read
  pointwise
  blk_ext [idx_val t]

theorem iblk5 (c : Dev nD) (t : Fin cfg0.N) (e : Fin 1024) :
    iblk m c 5 t (ix2 0 e) = m ((c : Thread nD τ).loc main_arg7) (ix2 0 e) := by
  blk_simp [iblk]
  unfold V
  simp only [hostOps0, hostOps0_1, hostOps0_2, List.flatten_cons, List.flatten_nil, List.append_nil, List.cons_append, List.nil_append]
  entry_read
  pointwise
  blk_ext [idx_val t]

theorem iblk6 (c : Dev nD) (t : Fin cfg0.N) (e : Fin 1024) :
    iblk m c 6 t (ix2 0 e) = m ((c : Thread nD τ).loc main_arg12) (ix2 0 e) := by
  blk_simp [iblk]
  unfold V
  simp only [hostOps0, hostOps0_1, hostOps0_2, List.flatten_cons, List.flatten_nil, List.append_nil, List.cons_append, List.nil_append]
  entry_read
  pointwise
  blk_ext [idx_val t]

theorem iblk7 (c : Dev nD) (t : Fin cfg0.N) (e : Fin 1024) :
    iblk m c 7 t (ix2 0 e) = m ((c : Thread nD τ).loc main_arg13) (ix2 0 e) := by
  blk_simp [iblk]
  unfold V
  simp only [hostOps0, hostOps0_1, hostOps0_2, List.flatten_cons, List.flatten_nil, List.append_nil, List.cons_append, List.nil_append]
  entry_read
  pointwise
  blk_ext [idx_val t]

theorem iblk8 (c : Dev nD) (t : Fin cfg0.N) (k : Fin 1024) (e : Fin 1024) :
    iblk m c 8 t (ix2 k e) = m ((c : Thread nD τ).loc main_arg14) (ix3 0 k e) := by
  blk_simp [iblk]
  unfold V
  simp only [hostOps0, hostOps0_1, hostOps0_2, List.flatten_cons, List.flatten_nil, List.append_nil, List.cons_append, List.nil_append]
  entry_read
  pointwise
  blk_ext [idx_val t]

theorem iblk9 (c : Dev nD) (t : Fin cfg0.N) (k : Fin 1024) (e : Fin 1024) :
    iblk m c 9 t (ix2 k e) = m ((c : Thread nD τ).loc main_arg15) (ix3 0 k e) := by
  blk_simp [iblk]
  unfold V
  simp only [hostOps0, hostOps0_1, hostOps0_2, List.flatten_cons, List.flatten_nil, List.append_nil, List.cons_append, List.nil_append]
  entry_read
  pointwise
  blk_ext [idx_val t]

theorem iblk10 (c : Dev nD) (t : Fin cfg0.N) (k : Fin 1024) (e : Fin 1024) :
    iblk m c 10 t (ix2 k e) = m ((c : Thread nD τ).loc main_arg16) (ix3 0 k e) := by
  blk_simp [iblk]
  unfold V
  simp only [hostOps0, hostOps0_1, hostOps0_2, List.flatten_cons, List.flatten_nil, List.append_nil, List.cons_append, List.nil_append]
  entry_read
  pointwise
  blk_ext [idx_val t]

theorem iblk13 (c : Dev nD) (t : Fin cfg0.N) (k : Fin 1024) (e : Fin 64) :
    iblk m c 13 t (ix2 k e) = m ((c : Thread nD τ).loc main_arg8) (ix3 0 k e) := by
  blk_simp [iblk]
  unfold V
  simp only [hostOps0, hostOps0_1, hostOps0_2, List.flatten_cons, List.flatten_nil, List.append_nil, List.cons_append, List.nil_append]
  entry_read
  pointwise
  blk_ext [idx_val t]

theorem iblk14 (c : Dev nD) (t : Fin cfg0.N) (k : Fin 64) (e : Fin 1024) :
    iblk m c 14 t (ix2 k e) = m ((c : Thread nD τ).loc main_arg9) (ix3 0 k e) := by
  blk_simp [iblk]
  unfold V
  simp only [hostOps0, hostOps0_1, hostOps0_2, List.flatten_cons, List.flatten_nil, List.append_nil, List.cons_append, List.nil_append]
  entry_read
  pointwise
  blk_ext [idx_val14 t]

theorem iblk15 (c : Dev nD) (t : Fin cfg0.N) (k : Fin 1024) (e : Fin 128) :
    iblk m c 15 t (ix2 k e) = m ((c : Thread nD τ).loc main_arg10) (ix3 0 k e) := by
  blk_simp [iblk]
  unfold V
  simp only [hostOps0, hostOps0_1, hostOps0_2, List.flatten_cons, List.flatten_nil, List.append_nil, List.cons_append, List.nil_append]
  entry_read
  pointwise
  blk_ext [idx_val14 t]

theorem iblk16 (c : Dev nD) (t : Fin cfg0.N) (k : Fin 128) (e : Fin 1024) :
    iblk m c 16 t (ix2 k e) = m ((c : Thread nD τ).loc main_arg11) (ix3 0 k e) := by
  blk_simp [iblk]
  unfold V
  simp only [hostOps0, hostOps0_1, hostOps0_2, List.flatten_cons, List.flatten_nil, List.append_nil, List.cons_append, List.nil_append]
  entry_read
  pointwise
  blk_ext [idx_val14 t]

theorem iblk17 (c : Dev nD) (t : Fin cfg0.N) (j e : Fin 256) :
    iblk m c 17 t (ix2 j e) = if (j : ℕ) / 64 = (e : ℕ) / 64 then (1 : EReal) else (0 : EReal) := by
  blk_simp [iblk]
  have hv : V m c main_v41 = fun y => if ((y 0 : ℕ) / 64 = (y 1 : ℕ) / 64) then (1 : EReal) else (0 : EReal) := by
    unfold V
    simp only [hostOps0, hostOps0_1, hostOps0_2, List.flatten_cons, List.flatten_nil, List.append_nil, List.cons_append, List.nil_append]
    entry_read
    funext y
    simp only [StableHlo.TRef.ofBuf_toBuf, id]
    pointwise
    have h1 : (y 1).val < 256 := (y 1).isLt
    have h0 : (y 0).val < 256 := (y 0).isLt
    change FloatOps.uitofp (F := Ideal) .bf16 (IntOp.cmpi .eq (Cert.InpIdeal.InpValue.headNo (ix1 (y 0))) (Cert.InpIdeal.InpValue.headNo (ix1 (y 1)))) = _
    refine (congrArg₂ (fun a b => FloatOps.uitofp (F := Ideal) .bf16 (IntOp.cmpi .eq a b)) (Cert.InpIdeal.InpValue.headNo_at _) (Cert.InpIdeal.InpValue.headNo_at _)).trans ?_
    refine (congrArg (fun b => FloatOps.uitofp (F := Ideal) .bf16 b) (Cert.InpIdeal.InpValue.same_head ⟨(y 0).val / 64, by omega⟩ ⟨(y 1).val / 64, by omega⟩)).trans ?_
    show FloatOps.uitofp (F := Ideal) .bf16 (if (y 0).val / 64 = (y 1).val / 64 then 1#1 else 0#1) = _
    split_ifs
    · show (((1#1 : BitVec 1).toNat : ℝ) : EReal) = 1
      simp
    · show (((0#1 : BitVec 1).toNat : ℝ) : EReal) = 0
      simp
  rw [hv]
  blk_ext [idx_val14 t]

end Cert.PrepIdeal.PrepValue

end
-- ==== Proof.PrepPay.lean ====
/- Hand-written: the payloads of what feeds the RWKV recurrence, each read at an index. -/
module

public import proofs.«01_k».proof.Proof.Gen.PrepIdeal.Skeleton
public import proofs.«01_k».proof.Proof.PrepRefAt
public import proofs.«01_k».proof.Proof.InpPay
public import Idealize.ShloMosaic.Lib.Pointwise

@[expose] public section

set_option maxRecDepth 16384

noncomputable section

open Idealize.ShloMosaic Idealize.ShloMosaic.TcCoe Idealize.SL.Sem

namespace Cert.PrepIdeal.PrepValue

open Cert.PrepIdeal Cert.PrepIdeal.Gen Cert.PrepRefIdeal.At
open Cert.FfnRefIdeal.At (normed)

theorem pay6 (x0 : FVec Ideal S512x1024 .f32) (x2 : FVec Ideal S1x1024 .f32) (q : Fin 512) (e : Fin 1024) :
    k0_pay6 (F := Ideal) x0 x2 (ix2 q e) = normed (fun k => x0 (ix2 q k)) (x2 (ix2 0 e)) e := by
  pointwise [k0_pay6]
  rfl

theorem pay8 (x0 : FVec Ideal S512x1024 .f32) (x2 : FVec Ideal S1x1024 .f32) : k0_pay8 (F := Ideal) x0 x2 = k0_pay6 (F := Ideal) x0 x2 := by
  unfold k0_pay8
  exact shapeCast_self _ _

/-- The token before's activations less a token's own, as the kernel computes them: `f` where a row starts a sequence, the row before elsewhere. -/
def shifted (h p f : FVec Ideal S512x1024 .f32) : FVec Ideal S512x1024 .f32 :=
  k0_pay12 (F := Ideal) h p (Scalar.select (Scalar.cmpi .eq 4#32 0#32) 1#32 4#32) k0_pay9 k0_pay10 k0_pay11 0#32 f

/-- Whether a row starts a sequence, computed as the kernel does. -/
def startsSeq (q : Fin 512) : BitVec 1 :=
  IntOp.cmpi CmpIPredicate.eq
    (Scalar.select
      (IntOp.andi
        (IntOp.xori
          (IntOp.cmpi CmpIPredicate.slt
            (IntOp.remsi ArithUnit.vector (BitVec.ofNat 32 (q : ℕ)) (Scalar.select (Scalar.cmpi CmpIPredicate.eq 4#32 0#32) 1#32 4#32)) 0#32)
          (Scalar.cmpi CmpIPredicate.slt (Scalar.select (Scalar.cmpi CmpIPredicate.eq 4#32 0#32) 1#32 4#32) 0#32))
        (IntOp.cmpi CmpIPredicate.ne
          (IntOp.remsi ArithUnit.vector (BitVec.ofNat 32 (q : ℕ)) (Scalar.select (Scalar.cmpi CmpIPredicate.eq 4#32 0#32) 1#32 4#32)) 0#32))
      (IntOp.addi
        (IntOp.remsi ArithUnit.vector (BitVec.ofNat 32 (q : ℕ)) (Scalar.select (Scalar.cmpi CmpIPredicate.eq 4#32 0#32) 1#32 4#32))
        (Scalar.select (Scalar.cmpi CmpIPredicate.eq 4#32 0#32) 1#32 4#32))
      (IntOp.remsi ArithUnit.vector (BitVec.ofNat 32 (q : ℕ)) (Scalar.select (Scalar.cmpi CmpIPredicate.eq 4#32 0#32) 1#32 4#32)))
    0#32

theorem startsSeq_eq : ∀ q : Fin 512, startsSeq q = if (q : ℕ) % 4 = 0 then 1#1 else 0#1 := by decide +kernel

theorem shifted_at (h p f : FVec Ideal S512x1024 .f32) (q : Fin 512) (e : Fin 1024) :
    shifted h p f (ix2 q e) = (if (q : ℕ) % 4 = 0 then f (ix2 q e) else p (ix2 q e)) - h (ix2 q e) := by
  pointwise [shifted, k0_pay12, k0_pay9, k0_pay10, k0_pay11]
  change Scalar.select (startsSeq q) (f (ix2 q e)) (p (ix2 q e)) - h (ix2 q e) = _
  rw [startsSeq_eq]
  split_ifs <;> rfl

theorem pay13 (h p f : FVec Ideal S512x1024 .f32) (g : FVec Ideal S1x1024 .f32) (w : FVec Ideal S1024x1024 .bf16) (q : Fin 512) (e : Fin 1024) :
    k0_pay13 (F := Ideal) h p (Scalar.select (Scalar.cmpi .eq 4#32 0#32) 1#32 4#32) k0_pay9 k0_pay10 k0_pay11 0#32 f g w (ix2 q e)
      = ∑ k, (h (ix2 q k) + shifted h p f (ix2 q k) * g (ix2 0 k)) * w (ix2 k e) := by
  unfold k0_pay13
  change matmul _ _ (truncf _ (addf h (mulf (shifted h p f) _)) _) _ _ (ix2 q e) = _
  generalize shifted h p f = x
  pointwise

theorem pay14 (h p f : FVec Ideal S512x1024 .f32) (g : FVec Ideal S1x1024 .f32) (w : FVec Ideal S1024x1024 .bf16) (q : Fin 512) (e : Fin 1024) :
    k0_pay14 (F := Ideal) h p (Scalar.select (Scalar.cmpi .eq 4#32 0#32) 1#32 4#32) k0_pay9 k0_pay10 k0_pay11 0#32 f g w (ix2 q e)
      = ∑ k, (h (ix2 q k) + shifted h p f (ix2 q k) * g (ix2 0 k)) * w (ix2 k e) := by
  unfold k0_pay14
  change matmul _ _ (truncf _ (addf h (mulf (shifted h p f) _)) _) _ _ (ix2 q e) = _
  generalize shifted h p f = x
  pointwise

theorem pay15 (h p f : FVec Ideal S512x1024 .f32) (g : FVec Ideal S1x1024 .f32) (w : FVec Ideal S1024x1024 .bf16) (q : Fin 512) (e : Fin 1024) :
    k0_pay15 (F := Ideal) h p (Scalar.select (Scalar.cmpi .eq 4#32 0#32) 1#32 4#32) k0_pay9 k0_pay10 k0_pay11 0#32 f g w (ix2 q e)
      = ∑ k, (h (ix2 q k) + shifted h p f (ix2 q k) * g (ix2 0 k)) * w (ix2 k e) := by
  unfold k0_pay15
  change matmul _ _ (truncf _ (addf h (mulf (shifted h p f) _)) _) _ _ (ix2 q e) = _
  generalize shifted h p f = x
  pointwise

theorem pay17 (h x : FVec Ideal S512x1024 .f32) (g : FVec Ideal S1x1024 .f32) (w : FVec Ideal S1024x64 .bf16) (u : FVec Ideal S64x1024 .bf16) (q : Fin 512) (e : Fin 1024) :
    k0_pay17 (F := Ideal) h x g w u (ix2 q e) = ∑ j : Fin 64, (∑ k : Fin 1024, (h (ix2 q k) + x (ix2 q k) * g (ix2 0 k)) * w (ix2 k j)) * u (ix2 j e) := by
  pointwise [k0_pay17]

theorem pay19 (h x : FVec Ideal S512x1024 .f32) (g : FVec Ideal S1x1024 .f32) (w : FVec Ideal S1024x128 .bf16) (u : FVec Ideal S128x1024 .bf16) (q : Fin 512) (e : Fin 1024) :
    k0_pay19 (F := Ideal) (k0_pay18 (F := Ideal) h x g w) u (ix2 q e) = ∑ j : Fin 128, sigm (∑ k : Fin 1024, (h (ix2 q k) + x (ix2 q k) * g (ix2 0 k)) * w (ix2 k j)) * u (ix2 j e) := by
  pointwise [k0_pay19, k0_pay18]
  simp only [sigm, zero_sub]

theorem pay21 (z : FVec Ideal S512x1024 .f32) (g : FVec Ideal S1x1024 .f32) (q : Fin 512) (e : Fin 1024) :
    k0_pay21 (F := Ideal) z g (ix2 q e) = sigm (g (ix2 0 e) + z (ix2 q e)) := by
  pointwise [k0_pay21]
  simp only [sigm, zero_sub]

theorem pay22 (k : FVec Ideal S512x1024 .f32) (g : FVec Ideal S1x1024 .f32) (q : Fin 512) (e : Fin 1024) :
    k0_pay22 (F := Ideal) k g (ix2 q e) = k (ix2 q e) * g (ix2 0 e) := by
  pointwise [k0_pay22]

theorem pay1 (k a : FVec Ideal S512x1024 .f32) (g : FVec Ideal S1x1024 .f32) (q : Fin 512) (e : Fin 1024) :
    k0_pay1 (F := Ideal) k (k0_pay28 (F := Ideal) a g) (ix2 q e) = k (ix2 q e) * (1 + (a (ix2 q e) - 1) * g (ix2 0 e)) := by
  pointwise [k0_pay1, k0_pay28]

theorem pay2 (v : FVec Ideal S512x1024 .f32) (q : Fin 512) (e : Fin 1024) : k0_pay2 (F := Ideal) v (ix2 q e) = v (ix2 q e) := by
  pointwise [k0_pay2]

theorem pay27 (v : FVec Ideal S512x1024 .f32) (q : Fin 512) (e : Fin 1024) : k0_pay27 (F := Ideal) v (ix2 q e) = v (ix2 q e) := by
  pointwise [k0_pay27]

theorem pay5 (v : FVec Ideal S512x1024 .f32) (q : Fin 512) (e : Fin 1024) : k0_pay5 (F := Ideal) v (ix2 q e) = v (ix2 q e) := by
  pointwise [k0_pay5]

theorem pay3 (v : FVec Ideal S512x1024 .f32) (q : Fin 512) (e : Fin 1024) : k0_pay3 (F := Ideal) v (ix2 q e) = -v (ix2 q e) := by
  pointwise [k0_pay3]
  exact zero_sub _

theorem pay4 (a v : FVec Ideal S512x1024 .f32) (q : Fin 512) (e : Fin 1024) : k0_pay4 (F := Ideal) a v (ix2 q e) = v (ix2 q e) * a (ix2 q e) := by
  pointwise [k0_pay4]

/-- One element of a head divided by its norm as the kernel does it: the sum of squares by a product with a matrix of zeros and ones. -/
def unitedBy (t : Fin 256 → EReal) (o : FVec Ideal S256x256 .bf16) (e : Fin 256) : EReal :=
  Ideal.div (t e) (max (Ideal.sqrt (∑ j, t j * t j * o (ix2 j e))) (Ideal.ofBits .f32 0x2B8CBCCC#32))

theorem unitedBy_eq (t : Fin 256 → EReal) (o : FVec Ideal S256x256 .bf16) (e : Fin 256)
    (ho : ∀ j : Fin 256, o (ix2 j e) = if (j : ℕ) / 64 = (e : ℕ) / 64 then (1 : EReal) else 0) :
    unitedBy t o e = united (t e) (fun x => t ⟨(e : ℕ) / 64 * 64 + (x : ℕ), by omega⟩) := by
  unfold unitedBy united
  rw [Cert.InpIdeal.InpValue.sum_head t o e ho]

/-- A group of 256 columns of the scaled keys, each head divided by its norm. -/
def unitPart (z : FVec Ideal S512x256 .f32) (o : FVec Ideal S256x256 .bf16) : FVec Ideal S512x256 .f32 :=
  divf z (maximumf (sqrt (matmul dot_S512x256_S256x256_S512x256_1_0_0_1_n_n none (truncf .bf16 (mulf z z) bitsLt_bf16_f32) o (constant S512x256 .f32 0x00000000#32)))
    (broadcast S512x256 (Scalar.ofBits .f32 0x2B8CBCCC#32)))

theorem unitPart_at (z : FVec Ideal S512x256 .f32) (o : FVec Ideal S256x256 .bf16) (q : Fin 512) (e : Fin 256) :
    unitPart z o (ix2 q e) = unitedBy (fun j => z (ix2 q j)) o e := by
  pointwise [unitPart]
  rfl

/-- A group of 256 columns. -/
theorem part0 (z : FVec Ideal S512x1024 .f32) (q : Fin 512) (e : Fin 256) : extractStridedSlice S512x256 ![0, 0] z slices_S512x1024_o0_0_S512x256 (ix2 q e) = z (ix2 q ⟨(e : ℕ), by omega⟩) := by
  pointwise
theorem part256 (z : FVec Ideal S512x1024 .f32) (q : Fin 512) (e : Fin 256) : extractStridedSlice S512x256 ![0, 256] z slices_S512x1024_o0_256_S512x256 (ix2 q e) = z (ix2 q ⟨256 + (e : ℕ), by omega⟩) := by
  pointwise
theorem part512 (z : FVec Ideal S512x1024 .f32) (q : Fin 512) (e : Fin 256) : extractStridedSlice S512x256 ![0, 512] z slices_S512x1024_o0_512_S512x256 (ix2 q e) = z (ix2 q ⟨512 + (e : ℕ), by omega⟩) := by
  pointwise
theorem part768 (z : FVec Ideal S512x1024 .f32) (q : Fin 512) (e : Fin 256) : extractStridedSlice S512x256 ![0, 768] z slices_S512x1024_o0_768_S512x256 (ix2 q e) = z (ix2 q ⟨768 + (e : ℕ), by omega⟩) := by
  pointwise

/-- The scaled keys, each head divided by its norm, of the four groups of columns that the kernel joins. -/
theorem pay26 (k : FVec Ideal S512x1024 .f32) (g : FVec Ideal S1x1024 .f32) (o : FVec Ideal S256x256 .bf16) (q : Fin 512) (e : Fin 1024) :
    k0_pay26 (F := Ideal) (k0_pay22 (F := Ideal) k g) (k0_pay23 (F := Ideal) o) (k0_pay24 (F := Ideal) k g) (k0_pay25 (F := Ideal) k g) (ix2 q e)
      = unitedBy (fun j => k0_pay22 (F := Ideal) k g (ix2 q ⟨(e : ℕ) / 256 * 256 + (j : ℕ), by omega⟩)) o ⟨(e : ℕ) % 256, by omega⟩ := by
  have ho : k0_pay23 (F := Ideal) o = o := shapeCast_self _ _
  rw [ho]
  unfold k0_pay26 k0_pay25 k0_pay24
  generalize k0_pay22 (F := Ideal) k g = z
  have p0 : ∀ i, unitPart _ o (ix2 q i) = _ := fun i => (unitPart_at _ o q i).trans (congrArg (fun y => unitedBy y o i) (funext fun j => part0 z q j))
  have p1 : ∀ i, unitPart _ o (ix2 q i) = _ := fun i => (unitPart_at _ o q i).trans (congrArg (fun y => unitedBy y o i) (funext fun j => part256 z q j))
  have p2 : ∀ i, unitPart _ o (ix2 q i) = _ := fun i => (unitPart_at _ o q i).trans (congrArg (fun y => unitedBy y o i) (funext fun j => part512 z q j))
  have p3 : ∀ i, unitPart _ o (ix2 q i) = _ := fun i => (unitPart_at _ o q i).trans (congrArg (fun y => unitedBy y o i) (funext fun j => part768 z q j))
  change concatenate S512x1024 1 [⟨S512x256, unitPart (extractStridedSlice S512x256 ![0, 0] z slices_S512x1024_o0_0_S512x256) o⟩,
    ⟨S512x256, unitPart (extractStridedSlice S512x256 ![0, 256] z slices_S512x1024_o0_256_S512x256) o⟩,
    ⟨S512x256, unitPart (extractStridedSlice S512x256 ![0, 512] z slices_S512x1024_o0_512_S512x256) o⟩,
    ⟨S512x256, unitPart (extractStridedSlice S512x256 ![0, 768] z slices_S512x1024_o0_768_S512x256) o⟩] concatenates_S512x256_S512x256_S512x256_S512x256_S512x1024_d1 (ix2 q e) = _
  generalize unitPart (extractStridedSlice S512x256 ![0, 0] z slices_S512x1024_o0_0_S512x256) o = a at *
  generalize unitPart (extractStridedSlice S512x256 ![0, 256] z slices_S512x1024_o0_256_S512x256) o = b at *
  generalize unitPart (extractStridedSlice S512x256 ![0, 512] z slices_S512x1024_o0_512_S512x256) o = c at *
  generalize unitPart (extractStridedSlice S512x256 ![0, 768] z slices_S512x1024_o0_768_S512x256) o = d at *
  pointwise
  have key : ∀ (n : ℕ) (i : Fin 256) (hn : n + 256 ≤ 1024), n + (i : ℕ) = e → n % 256 = 0 →
      unitedBy (fun j => z (ix2 q ⟨n + (j : ℕ), by omega⟩)) o i
        = unitedBy (fun j => z (ix2 q ⟨(e : ℕ) / 256 * 256 + (j : ℕ), by omega⟩)) o ⟨(e : ℕ) % 256, by omega⟩ := by
    intro n i hn he hm
    have hi : i = ⟨(e : ℕ) % 256, by omega⟩ := Fin.ext (by show (i : ℕ) = (e : ℕ) % 256; omega)
    have hb : n = (e : ℕ) / 256 * 256 := by omega
    subst hb
    rw [← hi]
  split_ifs
  all_goals first
    | exact (p0 _).trans (((congrArg (fun y => unitedBy y o _) (funext fun j => congrArg (fun k => z (ix2 q k)) (Fin.ext (Nat.zero_add _).symm)))).trans (key 0 _ (by omega) (Nat.zero_add _) rfl))
    | exact (p1 _).trans (key 256 _ (by omega) (by show 256 + ((e : ℕ) - 256) = e; omega) rfl)
    | exact (p2 _).trans (key 512 _ (by omega) (by show 512 + ((e : ℕ) - 256 - 256) = e; omega) rfl)
    | exact (p3 _).trans (key 768 _ (by omega) (by show 768 + ((e : ℕ) - 256 - 256 - 256) = e; omega) rfl)

end Cert.PrepIdeal.PrepValue

end
-- ==== Proof.PrepRow.lean ====
/- Hand-written: what feeds the RWKV recurrence, row by row, is the reference's. -/
module

public import proofs.«01_k».proof.Proof.PrepBlk
public import proofs.«01_k».proof.Proof.PrepPay

@[expose] public section

set_option maxRecDepth 16384

noncomputable section

open Idealize.ShloMosaic Idealize.ShloMosaic.TcCoe Idealize.SL.Sem

namespace Cert.PrepIdeal.PrepValue

open Cert.PrepIdeal Cert.PrepIdeal.Gen Cert.PrepRefIdeal.At
open Cert.FfnRefIdeal.At (normed)

variable (m : (ℓ : Loc nD τ sig) → Buf (Elt Ideal) ℓ)

/-- The kernel's normed rows. -/
abbrev rows (c : Dev nD) (t : Fin cfg0.N) : FVec Ideal S512x1024 .f32 := k0_pay6 (F := Ideal) (iblk m c 0 t) (iblk m c 2 t)

/-- The reference's normed activations. -/
abbrev acts (c : Dev nD) : FVec Ideal Cert.PrepRefIdeal.S128x4x1024 .f32 :=
  hid (m ((c : Thread nD τ).loc main_arg0)) (m ((c : Thread nD τ).loc main_arg2))

/-- `p` holds at every row but the first the normed row before it. -/
def Before (c : Dev nD) (t : Fin cfg0.N) (p : FVec Ideal S512x1024 .f32) : Prop :=
  ∀ (q : Fin 512) (e : Fin 1024), 1 ≤ (q : ℕ) → p (ix2 q e) = rows m c t (ix2 ⟨(q : ℕ) - 1, by omega⟩ e)

/-- `g` is row `j` of the mixing rows. -/
def MixRow (c : Dev nD) (j : Fin 6) (g : FVec Ideal S1x1024 .f32) : Prop :=
  ∀ e : Fin 1024, g (ix2 0 e) = m ((c : Thread nD τ).loc main_arg3) (ix3 0 j e)

theorem rows_at (c : Dev nD) (t : Fin cfg0.N) (q : Fin 512) (e : Fin 1024) :
    rows m c t (ix2 q e) = acts m c (ix3 (seqOf q) (tokOf q) e) := by
  refine (pay6 (iblk m c 0 t) (iblk m c 2 t) q e).trans (Eq.trans ?_ (hid_at _ _ _ _ _).symm)
  exact congrArg₂ (fun f g => normed f g e) (funext fun k => iblk0 m c t q k) (iblk2 m c t e)

theorem shifted_row (c : Dev nD) (t : Fin cfg0.N) (p : FVec Ideal S512x1024 .f32) (hp : Before m c t p) (q : Fin 512) (e : Fin 1024) :
    shifted (rows m c t) p (iblk m c 1 t) (ix2 q e)
      = shiftBy (acts m c) (m ((c : Thread nD τ).loc main_arg1)) (ix3 (seqOf q) (tokOf q) e) := by
  refine (shifted_at _ _ _ q e).trans (Eq.trans ?_ (shiftBy_at _ _ _ _ _).symm)
  refine congrArg₂ (fun a b : EReal => a - b) ?_ (rows_at m c t q e)
  have hv : ((tokOf q : Fin 4) : ℕ) = (q : ℕ) % 4 := rfl
  by_cases h : (q : ℕ) % 4 = 0
  · rw [if_pos h, dif_pos (by omega)]
    exact iblk1 m c t q e
  · rw [if_neg h, dif_neg (by omega), hp q e (by omega), rows_at]
    refine congrArg (acts m c) ?_
    have h1 : seqOf ⟨(q : ℕ) - 1, by omega⟩ = seqOf q := Fin.ext (show ((q : ℕ) - 1) / 4 = (q : ℕ) / 4 by omega)
    have h2 : tokOf ⟨(q : ℕ) - 1, by omega⟩ = ⟨((tokOf q : Fin 4) : ℕ) - 1, by omega⟩ := Fin.ext (show ((q : ℕ) - 1) % 4 = (q : ℕ) % 4 - 1 by omega)
    rw [h1, h2]

theorem mixed0_row (c : Dev nD) (t : Fin cfg0.N) (p : FVec Ideal S512x1024 .f32) (hp : Before m c t p) (g : FVec Ideal S1x1024 .f32) (hg : MixRow m c 0 g) (q : Fin 512) (e : Fin 1024) :
    (rows m c t) (ix2 q e) + (shifted (rows m c t) p (iblk m c 1 t)) (ix2 q e) * g (ix2 0 e) = (mixed0 (m ((c : Thread nD τ).loc main_arg0)) (m ((c : Thread nD τ).loc main_arg1)) (m ((c : Thread nD τ).loc main_arg2)) (m ((c : Thread nD τ).loc main_arg3))) (ix3 (seqOf q) (tokOf q) e) := by
  refine Eq.trans ?_ (mix0_at _ _ _ _ _ _).symm
  exact congrArg₂ (fun a b : EReal => a + b) (rows_at m c t q e)
    (congrArg₂ (fun a b : EReal => a * b) (shifted_row m c t p hp q e) (hg e))

theorem mixed2_row (c : Dev nD) (t : Fin cfg0.N) (p : FVec Ideal S512x1024 .f32) (hp : Before m c t p) (g : FVec Ideal S1x1024 .f32) (hg : MixRow m c 2 g) (q : Fin 512) (e : Fin 1024) :
    (rows m c t) (ix2 q e) + (shifted (rows m c t) p (iblk m c 1 t)) (ix2 q e) * g (ix2 0 e) = (mixed2 (m ((c : Thread nD τ).loc main_arg0)) (m ((c : Thread nD τ).loc main_arg1)) (m ((c : Thread nD τ).loc main_arg2)) (m ((c : Thread nD τ).loc main_arg3))) (ix3 (seqOf q) (tokOf q) e) := by
  refine Eq.trans ?_ (mix2_at _ _ _ _ _ _).symm
  exact congrArg₂ (fun a b : EReal => a + b) (rows_at m c t q e)
    (congrArg₂ (fun a b : EReal => a * b) (shifted_row m c t p hp q e) (hg e))

theorem mixed3_row (c : Dev nD) (t : Fin cfg0.N) (p : FVec Ideal S512x1024 .f32) (hp : Before m c t p) (g : FVec Ideal S1x1024 .f32) (hg : MixRow m c 3 g) (q : Fin 512) (e : Fin 1024) :
    (rows m c t) (ix2 q e) + (shifted (rows m c t) p (iblk m c 1 t)) (ix2 q e) * g (ix2 0 e) = (mixed3 (m ((c : Thread nD τ).loc main_arg0)) (m ((c : Thread nD τ).loc main_arg1)) (m ((c : Thread nD τ).loc main_arg2)) (m ((c : Thread nD τ).loc main_arg3))) (ix3 (seqOf q) (tokOf q) e) := by
  refine Eq.trans ?_ (mix3_at _ _ _ _ _ _).symm
  exact congrArg₂ (fun a b : EReal => a + b) (rows_at m c t q e)
    (congrArg₂ (fun a b : EReal => a * b) (shifted_row m c t p hp q e) (hg e))

theorem mixed4_row (c : Dev nD) (t : Fin cfg0.N) (p : FVec Ideal S512x1024 .f32) (hp : Before m c t p) (g : FVec Ideal S1x1024 .f32) (hg : MixRow m c 4 g) (q : Fin 512) (e : Fin 1024) :
    (rows m c t) (ix2 q e) + (shifted (rows m c t) p (iblk m c 1 t)) (ix2 q e) * g (ix2 0 e) = (mixed4 (m ((c : Thread nD τ).loc main_arg0)) (m ((c : Thread nD τ).loc main_arg1)) (m ((c : Thread nD τ).loc main_arg2)) (m ((c : Thread nD τ).loc main_arg3))) (ix3 (seqOf q) (tokOf q) e) := by
  refine Eq.trans ?_ (mix4_at _ _ _ _ _ _).symm
  exact congrArg₂ (fun a b : EReal => a + b) (rows_at m c t q e)
    (congrArg₂ (fun a b : EReal => a * b) (shifted_row m c t p hp q e) (hg e))

theorem mixed5_row (c : Dev nD) (t : Fin cfg0.N) (p : FVec Ideal S512x1024 .f32) (hp : Before m c t p) (g : FVec Ideal S1x1024 .f32) (hg : MixRow m c 5 g) (q : Fin 512) (e : Fin 1024) :
    (rows m c t) (ix2 q e) + (shifted (rows m c t) p (iblk m c 1 t)) (ix2 q e) * g (ix2 0 e) = (mixed5 (m ((c : Thread nD τ).loc main_arg0)) (m ((c : Thread nD τ).loc main_arg1)) (m ((c : Thread nD τ).loc main_arg2)) (m ((c : Thread nD τ).loc main_arg3))) (ix3 (seqOf q) (tokOf q) e) := by
  refine Eq.trans ?_ (mix5_at _ _ _ _ _ _).symm
  exact congrArg₂ (fun a b : EReal => a + b) (rows_at m c t q e)
    (congrArg₂ (fun a b : EReal => a * b) (shifted_row m c t p hp q e) (hg e))

theorem rec_row (c : Dev nD) (t : Fin cfg0.N) (p : FVec Ideal S512x1024 .f32) (hp : Before m c t p) (g : FVec Ideal S1x1024 .f32) (hg : MixRow m c 0 g) (q : Fin 512) (e : Fin 1024) :
    (k0_pay13 (F := Ideal) (rows m c t) p (Scalar.select (Scalar.cmpi .eq 4#32 0#32) 1#32 4#32) k0_pay9 k0_pay10 k0_pay11 0#32 (iblk m c 1 t) g (iblk m c 8 t)) (ix2 q e) = proj (mixed0 (m ((c : Thread nD τ).loc main_arg0)) (m ((c : Thread nD τ).loc main_arg1)) (m ((c : Thread nD τ).loc main_arg2)) (m ((c : Thread nD τ).loc main_arg3))) (m ((c : Thread nD τ).loc main_arg14)) (ix3 (seqOf q) (tokOf q) e) := by
  refine (pay13 _ _ _ _ _ q e).trans (Eq.trans ?_ (proj_at _ _ _ _ _).symm)
  exact Finset.sum_congr rfl fun k _ => congrArg₂ (fun a b : EReal => a * b) (mixed0_row m c t p hp g hg q k) (iblk8 m c t k e)

theorem key_row (c : Dev nD) (t : Fin cfg0.N) (p : FVec Ideal S512x1024 .f32) (hp : Before m c t p) (g : FVec Ideal S1x1024 .f32) (hg : MixRow m c 2 g) (q : Fin 512) (e : Fin 1024) :
    (k0_pay14 (F := Ideal) (rows m c t) p (Scalar.select (Scalar.cmpi .eq 4#32 0#32) 1#32 4#32) k0_pay9 k0_pay10 k0_pay11 0#32 (iblk m c 1 t) g (iblk m c 9 t)) (ix2 q e) = proj (mixed2 (m ((c : Thread nD τ).loc main_arg0)) (m ((c : Thread nD τ).loc main_arg1)) (m ((c : Thread nD τ).loc main_arg2)) (m ((c : Thread nD τ).loc main_arg3))) (m ((c : Thread nD τ).loc main_arg15)) (ix3 (seqOf q) (tokOf q) e) := by
  refine (pay14 _ _ _ _ _ q e).trans (Eq.trans ?_ (proj_at _ _ _ _ _).symm)
  exact Finset.sum_congr rfl fun k _ => congrArg₂ (fun a b : EReal => a * b) (mixed2_row m c t p hp g hg q k) (iblk9 m c t k e)

theorem val_row (c : Dev nD) (t : Fin cfg0.N) (p : FVec Ideal S512x1024 .f32) (hp : Before m c t p) (g : FVec Ideal S1x1024 .f32) (hg : MixRow m c 3 g) (q : Fin 512) (e : Fin 1024) :
    (k0_pay15 (F := Ideal) (rows m c t) p (Scalar.select (Scalar.cmpi .eq 4#32 0#32) 1#32 4#32) k0_pay9 k0_pay10 k0_pay11 0#32 (iblk m c 1 t) g (iblk m c 10 t)) (ix2 q e) = proj (mixed3 (m ((c : Thread nD τ).loc main_arg0)) (m ((c : Thread nD τ).loc main_arg1)) (m ((c : Thread nD τ).loc main_arg2)) (m ((c : Thread nD τ).loc main_arg3))) (m ((c : Thread nD τ).loc main_arg16)) (ix3 (seqOf q) (tokOf q) e) := by
  refine (pay15 _ _ _ _ _ q e).trans (Eq.trans ?_ (proj_at _ _ _ _ _).symm)
  exact Finset.sum_congr rfl fun k _ => congrArg₂ (fun a b : EReal => a * b) (mixed3_row m c t p hp g hg q k) (iblk10 m c t k e)

theorem gate_row (c : Dev nD) (t : Fin cfg0.N) (p : FVec Ideal S512x1024 .f32) (hp : Before m c t p) (g : FVec Ideal S1x1024 .f32) (hg : MixRow m c 4 g) (q : Fin 512) (e : Fin 1024) :
    (k0_pay21 (F := Ideal) (k0_pay17 (F := Ideal) (rows m c t) (shifted (rows m c t) p (iblk m c 1 t)) g (iblk m c 13 t) (iblk m c 14 t)) (iblk m c 5 t)) (ix2 q e) = (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) (ix3 (seqOf q) (tokOf q) e) := by
  refine (pay21 _ _ q e).trans (Eq.trans ?_ (gateA_at _ _ _ _ _ _ _).symm)
  refine congrArg sigm (congrArg₂ (fun a b : EReal => a + b) (iblk5 m c t e) ((pay17 _ _ _ _ _ q e).trans ?_))
  exact Finset.sum_congr rfl fun j _ => congrArg₂ (fun a b : EReal => a * b)
    (Finset.sum_congr rfl fun k _ => congrArg₂ (fun a b : EReal => a * b) (mixed4_row m c t p hp g hg q k) (iblk13 m c t k j)) (iblk14 m c t j e)

theorem out_row (c : Dev nD) (t : Fin cfg0.N) (p : FVec Ideal S512x1024 .f32) (hp : Before m c t p) (g : FVec Ideal S1x1024 .f32) (hg : MixRow m c 5 g) (q : Fin 512) (e : Fin 1024) :
    (k0_pay19 (F := Ideal) (k0_pay18 (F := Ideal) (rows m c t) (shifted (rows m c t) p (iblk m c 1 t)) g (iblk m c 15 t)) (iblk m c 16 t)) (ix2 q e) = (gateG (mixed5 (m ((c : Thread nD τ).loc main_arg0)) (m ((c : Thread nD τ).loc main_arg1)) (m ((c : Thread nD τ).loc main_arg2)) (m ((c : Thread nD τ).loc main_arg3))) (m ((c : Thread nD τ).loc main_arg10)) (m ((c : Thread nD τ).loc main_arg11))) (ix3 (seqOf q) (tokOf q) e) := by
  refine (pay19 _ _ _ _ _ q e).trans (Eq.trans ?_ (gateG_at _ _ _ _ _ _).symm)
  exact Finset.sum_congr rfl fun j _ => congrArg₂ (fun a b : EReal => a * b)
    (congrArg sigm (Finset.sum_congr rfl fun k _ => congrArg₂ (fun a b : EReal => a * b) (mixed5_row m c t p hp g hg q k) (iblk15 m c t k j))) (iblk16 m c t j e)

theorem scaled_row (c : Dev nD) (t : Fin cfg0.N) (p : FVec Ideal S512x1024 .f32) (hp : Before m c t p) (g : FVec Ideal S1x1024 .f32) (hg : MixRow m c 2 g) (q : Fin 512) (e : Fin 1024) :
    k0_pay22 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t) (ix2 q e) = scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)) (ix3 (seqOf q) (tokOf q) e) := by
  refine (pay22 _ _ q e).trans (Eq.trans ?_ (scaled_at _ _ _ _ _).symm)
  exact congrArg₂ (fun a b : EReal => a * b) (key_row m c t p hp g hg q e) (iblk6 m c t e)

theorem unit_row (c : Dev nD) (t : Fin cfg0.N) (p : FVec Ideal S512x1024 .f32) (hp : Before m c t p) (g : FVec Ideal S1x1024 .f32) (hg : MixRow m c 2 g) (q : Fin 512) (e : Fin 1024) :
    (k0_pay26 (F := Ideal) (k0_pay22 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t)) (k0_pay23 (F := Ideal) (iblk m c 17 t)) (k0_pay24 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t)) (k0_pay25 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t))) (ix2 q e) = (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) (ix4 (seqOf q) (tokOf q) ⟨(e : ℕ) / 64, by omega⟩ ⟨(e : ℕ) % 64, by omega⟩) := by
  refine (pay26 _ _ _ q e).trans (Eq.trans ?_ (unit_at _ _ _ _ _).symm)
  rw [unitedBy_eq _ _ _ fun j => iblk17 m c t j _]
  have hd : ∀ i k : Fin 1024, (i : ℕ) = (k : ℕ) → k0_pay22 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t) (ix2 q i)
      = scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)) (ix3 (seqOf q) (tokOf q) k) := fun i k h => by
    obtain rfl : i = k := Fin.ext h
    exact scaled_row m c t p hp g hg q i
  refine congrArg₂ united (hd _ _ ?_) (funext fun x => hd _ _ ?_)
  · show (e : ℕ) / 256 * 256 + (e : ℕ) % 256 = (e : ℕ) / 64 * 64 + (e : ℕ) % 64
    omega
  · show (e : ℕ) / 256 * 256 + ((e : ℕ) % 256 / 64 * 64 + (x : ℕ)) = (e : ℕ) / 64 * 64 + (x : ℕ)
    omega

theorem point18 (c : Dev nD) (t : Fin cfg0.N) (p : FVec Ideal S512x1024 .f32) (hp : Before m c t p) (g : FVec Ideal S1x1024 .f32) (hg : MixRow m c 0 g) (q : Fin 512) (e : Fin 1024) :
    k0_pay27 (F := Ideal) (k0_pay13 (F := Ideal) (rows m c t) p (Scalar.select (Scalar.cmpi .eq 4#32 0#32) 1#32 4#32) k0_pay9 k0_pay10 k0_pay11 0#32 (iblk m c 1 t) g (iblk m c 8 t)) (ix2 q e) = flatOut (proj (mixed0 (m ((c : Thread nD τ).loc main_arg0)) (m ((c : Thread nD τ).loc main_arg1)) (m ((c : Thread nD τ).loc main_arg2)) (m ((c : Thread nD τ).loc main_arg3))) (m ((c : Thread nD τ).loc main_arg14))) (ix2 q e) := by
  exact (pay27 _ q e).trans ((rec_row m c t p hp g hg q e).trans (flatOut_at _ q e).symm)

theorem point20 (c : Dev nD) (t : Fin cfg0.N) (p : FVec Ideal S512x1024 .f32) (hp : Before m c t p) (g : FVec Ideal S1x1024 .f32) (hg : MixRow m c 2 g) (u : FVec Ideal S1x1024 .f32) (hu : MixRow m c 4 u) (q : Fin 512) (e : Fin 1024) :
    k0_pay1 (F := Ideal) (k0_pay14 (F := Ideal) (rows m c t) p (Scalar.select (Scalar.cmpi .eq 4#32 0#32) 1#32 4#32) k0_pay9 k0_pay10 k0_pay11 0#32 (iblk m c 1 t) g (iblk m c 9 t)) (k0_pay28 (F := Ideal) (k0_pay21 (F := Ideal) (k0_pay17 (F := Ideal) (rows m c t) (shifted (rows m c t) p (iblk m c 1 t)) u (iblk m c 13 t) (iblk m c 14 t)) (iblk m c 5 t)) (iblk m c 7 t)) (ix2 q e) = keyOut (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) (m ((c : Thread nD τ).loc main_arg13)) (ix2 q e) := by
  refine (pay1 _ _ _ q e).trans (Eq.trans ?_ (keyOut_at _ _ _ q e).symm)
  exact congrArg₂ (fun a b : EReal => a * b) (key_row m c t p hp g hg q e)
    (congrArg₂ (fun a b : EReal => 1 + (a - 1) * b) (gate_row m c t p hp u hu q e) (iblk7 m c t e))

theorem point21 (c : Dev nD) (t : Fin cfg0.N) (p : FVec Ideal S512x1024 .f32) (hp : Before m c t p) (g : FVec Ideal S1x1024 .f32) (hg : MixRow m c 3 g) (q : Fin 512) (e : Fin 1024) :
    k0_pay2 (F := Ideal) (k0_pay15 (F := Ideal) (rows m c t) p (Scalar.select (Scalar.cmpi .eq 4#32 0#32) 1#32 4#32) k0_pay9 k0_pay10 k0_pay11 0#32 (iblk m c 1 t) g (iblk m c 10 t)) (ix2 q e) = flatOut (proj (mixed3 (m ((c : Thread nD τ).loc main_arg0)) (m ((c : Thread nD τ).loc main_arg1)) (m ((c : Thread nD τ).loc main_arg2)) (m ((c : Thread nD τ).loc main_arg3))) (m ((c : Thread nD τ).loc main_arg16))) (ix2 q e) := by
  exact (pay2 _ q e).trans ((val_row m c t p hp g hg q e).trans (flatOut_at _ q e).symm)

theorem point22 (c : Dev nD) (t : Fin cfg0.N) (p : FVec Ideal S512x1024 .f32) (hp : Before m c t p) (g : FVec Ideal S1x1024 .f32) (hg : MixRow m c 2 g) (q : Fin 512) (e : Fin 1024) :
    k0_pay3 (F := Ideal) (k0_pay26 (F := Ideal) (k0_pay22 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t)) (k0_pay23 (F := Ideal) (iblk m c 17 t)) (k0_pay24 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t)) (k0_pay25 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t))) (ix2 q e) = negOut (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) (ix2 q e) := by
  exact (pay3 _ q e).trans ((congrArg (fun a : EReal => -a) (unit_row m c t p hp g hg q e)).trans (negOut_at _ q e).symm)

theorem point23 (c : Dev nD) (t : Fin cfg0.N) (p : FVec Ideal S512x1024 .f32) (hp : Before m c t p) (g : FVec Ideal S1x1024 .f32) (hg : MixRow m c 2 g) (u : FVec Ideal S1x1024 .f32) (hu : MixRow m c 4 u) (q : Fin 512) (e : Fin 1024) :
    k0_pay4 (F := Ideal) (k0_pay21 (F := Ideal) (k0_pay17 (F := Ideal) (rows m c t) (shifted (rows m c t) p (iblk m c 1 t)) u (iblk m c 13 t) (iblk m c 14 t)) (iblk m c 5 t)) (k0_pay26 (F := Ideal) (k0_pay22 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t)) (k0_pay23 (F := Ideal) (iblk m c 17 t)) (k0_pay24 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t)) (k0_pay25 (F := Ideal) (k0_pay14 (F := Ideal) (rows m c t) p (Scalar.select (Scalar.cmpi .eq 4#32 0#32) 1#32 4#32) k0_pay9 k0_pay10 k0_pay11 0#32 (iblk m c 1 t) g (iblk m c 9 t)) (iblk m c 6 t))) (ix2 q e) = gatedOut (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) (ix2 q e) := by
  exact (pay4 _ _ q e).trans ((congrArg₂ (fun a b : EReal => a * b) (unit_row m c t p hp g hg q e) (gate_row m c t p hp u hu q e)).trans (gatedOut_at _ _ q e).symm)

theorem point24 (c : Dev nD) (t : Fin cfg0.N) (p : FVec Ideal S512x1024 .f32) (hp : Before m c t p) (g : FVec Ideal S1x1024 .f32) (hg : MixRow m c 5 g) (q : Fin 512) (e : Fin 1024) :
    k0_pay5 (F := Ideal) (k0_pay19 (F := Ideal) (k0_pay18 (F := Ideal) (rows m c t) (shifted (rows m c t) p (iblk m c 1 t)) g (iblk m c 15 t)) (iblk m c 16 t)) (ix2 q e) = flatOut (gateG (mixed5 (m ((c : Thread nD τ).loc main_arg0)) (m ((c : Thread nD τ).loc main_arg1)) (m ((c : Thread nD τ).loc main_arg2)) (m ((c : Thread nD τ).loc main_arg3))) (m ((c : Thread nD τ).loc main_arg10)) (m ((c : Thread nD τ).loc main_arg11))) (ix2 q e) := by
  exact (pay5 _ q e).trans ((out_row m c t p hp g hg q e).trans (flatOut_at _ q e).symm)

theorem point25 (c : Dev nD) (t : Fin cfg0.N) (q : Fin 512) (e : Fin 1024) :
    (rows m c t) (ix2 q e) = hidOut (acts m c) (ix2 q e) :=
  (rows_at m c t q e).trans (hidOut_at _ q e).symm

end Cert.PrepIdeal.PrepValue

end
-- ==== Proof.PrepValue.lean ====
/- Hand-written: what feeds the RWKV recurrence is the reference's. -/
module

public import proofs.«01_k».proof.Proof.PrepDat
public import proofs.«01_k».proof.Proof.PrepRow
public import proofs.«01_k».proof.Defs

@[expose] public section

set_option maxRecDepth 16384

noncomputable section

open Idealize.ShloMosaic Idealize.ShloMosaic.TcCoe Idealize.SL.Sem

namespace Cert.PrepIdeal.PrepValue

open Cert.PrepIdeal Cert.PrepIdeal.Gen Cert.PrepRefIdeal.At

variable (m : (ℓ : Loc nD τ sig) → Buf (Elt Ideal) ℓ)

/-- Rows 7 to 518 of the scratch rows. -/
abbrev early : LoadRect S520x1024 := (Rect.unit (s := S520x1024) ![7, 0] ![512, 1024] inb_S520x1024_S512x1024_7_0).toLoadRect

/-- The scratch rows, read one row early, are the normed rows moved down by one. -/
theorem before (c : Dev nD) (t : Fin cfg0.N) :
    Before m c t (View.readCov (Val := Elt Ideal) (View.whole cc0_scratch0 : View sig .tc .vmem S520x1024 .f32)
      [⟨Rect.unit ![8, 0] ![512, 1024] inb_S520x1024_S512x1024_8_0, k0_pay8 (F := Ideal) (iblk m c 0 t) (iblk m c 2 t)⟩,
        ⟨Rect.unit ![0, 0] ![8, 1024] inb_S520x1024_S8x1024_0_0, k0_pay7 (F := Ideal)⟩]
      early) := by
  intro q e hq
  rw [View.readCov_eq_canon']
  beta_reduce
  refine Eq.trans (congrArg (View.canon _) (?_ : _ = (Rect.unit (s := S520x1024) ![8, 0] ![512, 1024] inb_S520x1024_S512x1024_8_0).emb
    (ix2 ⟨(q : ℕ) - 1, by omega⟩ e))) ((View.canon_cons_emb _ _ _ _).trans (congrFun (pay8 (iblk m c 0 t) (iblk m c 2 t)) _))
  funext a
  refine Fin.ext ?_
  fin_cases a
  · simp [LoadRect.idx, Rect.unit, Rect.emb]
    omega
  · simp [LoadRect.idx, Rect.unit, Rect.emb]

theorem mixRow0 (c : Dev nD) (t : Fin cfg0.N) :
    MixRow m c 0 (View.ld (iblk m c 3 t) (Rect.unit ![0, 0] ![1, 1024] inb_S6x1024_S1x1024_0_0)) := by
  intro e
  refine Eq.trans (congrArg (iblk m c 3 t) (?_ : _ = (ix2 0 e : S6x1024.Idx))) (iblk3 m c t 0 e)
  funext a
  refine Fin.ext ?_
  fin_cases a <;> simp [LoadRect.idx, Rect.unit]

theorem mixRow2 (c : Dev nD) (t : Fin cfg0.N) :
    MixRow m c 2 (View.ld (iblk m c 3 t) (Rect.unit ![2, 0] ![1, 1024] inb_S6x1024_S1x1024_2_0)) := by
  intro e
  refine Eq.trans (congrArg (iblk m c 3 t) (?_ : _ = (ix2 2 e : S6x1024.Idx))) (iblk3 m c t 2 e)
  funext a
  refine Fin.ext ?_
  fin_cases a <;> simp [LoadRect.idx, Rect.unit]

theorem mixRow3 (c : Dev nD) (t : Fin cfg0.N) :
    MixRow m c 3 (View.ld (iblk m c 3 t) (Rect.unit ![3, 0] ![1, 1024] inb_S6x1024_S1x1024_3_0)) := by
  intro e
  refine Eq.trans (congrArg (iblk m c 3 t) (?_ : _ = (ix2 3 e : S6x1024.Idx))) (iblk3 m c t 3 e)
  funext a
  refine Fin.ext ?_
  fin_cases a <;> simp [LoadRect.idx, Rect.unit]

theorem mixRow4 (c : Dev nD) (t : Fin cfg0.N) :
    MixRow m c 4 (View.ld (iblk m c 3 t) (Rect.unit ![4, 0] ![1, 1024] inb_S6x1024_S1x1024_4_0)) := by
  intro e
  refine Eq.trans (congrArg (iblk m c 3 t) (?_ : _ = (ix2 4 e : S6x1024.Idx))) (iblk3 m c t 4 e)
  funext a
  refine Fin.ext ?_
  fin_cases a <;> simp [LoadRect.idx, Rect.unit]

theorem mixRow5 (c : Dev nD) (t : Fin cfg0.N) :
    MixRow m c 5 (View.ld (iblk m c 3 t) (Rect.unit ![5, 0] ![1, 1024] inb_S6x1024_S1x1024_5_0)) := by
  intro e
  refine Eq.trans (congrArg (iblk m c 3 t) (?_ : _ = (ix2 5 e : S6x1024.Idx))) (iblk3 m c t 5 e)
  funext a
  refine Fin.ext ?_
  fin_cases a <;> simp [LoadRect.idx, Rect.unit]

theorem final18 (c : Dev nD) : (dats m 0 c).arrAt 18 (cfgs 0).N = flatOut (proj (mixed0 (m ((c : Thread nD τ).loc main_arg0)) (m ((c : Thread nD τ).loc main_arg1)) (m ((c : Thread nD τ).loc main_arg2)) (m ((c : Thread nD τ).loc main_arg3))) (m ((c : Thread nD τ).loc main_arg14))) := by
  refine (dats m 0 c).arrAt_eq_of_covers 18 _ (by decide +kernel) fun t hf y => ?_
  blk_simp; rw [after0_18]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point18 m c t _ (before m c t) _ (mixRow0 m c t) q e).trans ?_
  blk_ext [idx_val14 t]

theorem final20 (c : Dev nD) : (dats m 0 c).arrAt 20 (cfgs 0).N = keyOut (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) (m ((c : Thread nD τ).loc main_arg13)) := by
  refine (dats m 0 c).arrAt_eq_of_covers 20 _ (by decide +kernel) fun t hf y => ?_
  blk_simp; rw [after0_20]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point20 m c t _ (before m c t) _ (mixRow2 m c t) _ (mixRow4 m c t) q e).trans ?_
  blk_ext [idx_val14 t]

theorem final21 (c : Dev nD) : (dats m 0 c).arrAt 21 (cfgs 0).N = flatOut (proj (mixed3 (m ((c : Thread nD τ).loc main_arg0)) (m ((c : Thread nD τ).loc main_arg1)) (m ((c : Thread nD τ).loc main_arg2)) (m ((c : Thread nD τ).loc main_arg3))) (m ((c : Thread nD τ).loc main_arg16))) := by
  refine (dats m 0 c).arrAt_eq_of_covers 21 _ (by decide +kernel) fun t hf y => ?_
  blk_simp; rw [after0_21]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point21 m c t _ (before m c t) _ (mixRow3 m c t) q e).trans ?_
  blk_ext [idx_val14 t]

theorem final22 (c : Dev nD) : (dats m 0 c).arrAt 22 (cfgs 0).N = negOut (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) := by
  refine (dats m 0 c).arrAt_eq_of_covers 22 _ (by decide +kernel) fun t hf y => ?_
  blk_simp; rw [after0_22]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point22 m c t _ (before m c t) _ (mixRow2 m c t) q e).trans ?_
  blk_ext [idx_val14 t]

theorem final23 (c : Dev nD) : (dats m 0 c).arrAt 23 (cfgs 0).N = gatedOut (unit (scaled (proj (mixed2 (m ((c : Thread nD τ).loc main_arg0)) (m ((c : Thread nD τ).loc main_arg1)) (m ((c : Thread nD τ).loc main_arg2)) (m ((c : Thread nD τ).loc main_arg3))) (m ((c : Thread nD τ).loc main_arg15))) (m ((c : Thread nD τ).loc main_arg12)))) (gateA (mixed4 (m ((c : Thread nD τ).loc main_arg0)) (m ((c : Thread nD τ).loc main_arg1)) (m ((c : Thread nD τ).loc main_arg2)) (m ((c : Thread nD τ).loc main_arg3))) (m ((c : Thread nD τ).loc main_arg7)) (m ((c : Thread nD τ).loc main_arg8)) (m ((c : Thread nD τ).loc main_arg9))) := by
  refine (dats m 0 c).arrAt_eq_of_covers 23 _ (by decide +kernel) fun t hf y => ?_
  blk_simp; rw [after0_23]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point23 m c t _ (before m c t) _ (mixRow2 m c t) _ (mixRow4 m c t) q e).trans ?_
  blk_ext [idx_val14 t]

theorem final24 (c : Dev nD) : (dats m 0 c).arrAt 24 (cfgs 0).N = flatOut (gateG (mixed5 (m ((c : Thread nD τ).loc main_arg0)) (m ((c : Thread nD τ).loc main_arg1)) (m ((c : Thread nD τ).loc main_arg2)) (m ((c : Thread nD τ).loc main_arg3))) (m ((c : Thread nD τ).loc main_arg10)) (m ((c : Thread nD τ).loc main_arg11))) := by
  refine (dats m 0 c).arrAt_eq_of_covers 24 _ (by decide +kernel) fun t hf y => ?_
  blk_simp; rw [after0_24]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point24 m c t _ (before m c t) _ (mixRow5 m c t) q e).trans ?_
  blk_ext [idx_val14 t]

theorem final25 (c : Dev nD) : (dats m 0 c).arrAt 25 (cfgs 0).N = hidOut (acts m c) := by
  refine (dats m 0 c).arrAt_eq_of_covers 25 _ (by decide +kernel) fun t hf y => ?_
  blk_simp; rw [after0_25]
  unfold outsAt0
  frame_out
  have h1 : (y 1).val < 1024 := (y 1).isLt
  have h0 : (y 0).val < 512 := (y 0).isLt
  obtain ⟨q, e, rfl⟩ : ∃ (q : Fin 512) (e : Fin 1024), y = (ix2 q e : S512x1024.Idx) :=
    ⟨⟨_, h0⟩, ⟨_, h1⟩, by funext a; refine Fin.ext ?_; fin_cases a <;> rfl⟩
  refine (point25 m c t  q e).trans ?_
  blk_ext [idx_val14 t]

set_option maxHeartbeats 8000000 in
theorem algebraic : Cert.algebraic_PrepIdeal_PrepRefIdeal := by
  intro m g m' g' _ hm
  refine ⟨fun c => Cert.PrepRefIdeal.At.flatOut (proj (mixed0 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg14))),
    fun c => Cert.PrepRefIdeal.At.keyOut (proj (mixed2 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg15))) (gateA (mixed4 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))) (m ((c.tc : Thread Cert.PrepIdeal.nD Cert.PrepIdeal.τ).loc Cert.PrepIdeal.main_arg13)),
    fun c => Cert.PrepRefIdeal.At.flatOut (proj (mixed3 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg16))),
    fun c => Cert.PrepRefIdeal.At.negOut (unit (scaled (proj (mixed2 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg15))) (m ((c.tc : Thread Cert.PrepIdeal.nD Cert.PrepIdeal.τ).loc Cert.PrepIdeal.main_arg12)))),
    fun c => Cert.PrepRefIdeal.At.gatedOut (unit (scaled (proj (mixed2 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg15))) (m ((c.tc : Thread Cert.PrepIdeal.nD Cert.PrepIdeal.τ).loc Cert.PrepIdeal.main_arg12)))) (gateA (mixed4 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))),
    fun c => Cert.PrepRefIdeal.At.flatOut (gateG (mixed5 (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))) (m ((c.tc : Thread Cert.PrepIdeal.nD Cert.PrepIdeal.τ).loc Cert.PrepIdeal.main_arg10)) (m ((c.tc : Thread Cert.PrepIdeal.nD Cert.PrepIdeal.τ).loc Cert.PrepIdeal.main_arg11))),
    fun c => Cert.PrepRefIdeal.At.hidOut (hid (m ((c.tc : Thread Cert.PrepIdeal.nD Cert.PrepIdeal.τ).loc Cert.PrepIdeal.main_arg0)) (m ((c.tc : Thread Cert.PrepIdeal.nD Cert.PrepIdeal.τ).loc Cert.PrepIdeal.main_arg2))), ?_, ?_⟩
  · exact (θ_run _ _ _).mono (fun r hr c => ⟨(hr c).1.trans (final18 m c), (hr c).2.2.1.trans (final20 m c), (hr c).2.2.2.1.trans (final21 m c), (hr c).2.2.2.2.1.trans (final22 m c), (hr c).2.2.2.2.2.1.trans (final23 m c), (hr c).2.2.2.2.2.2.1.trans (final24 m c), (hr c).2.2.2.2.2.2.2.1.trans (final25 m c), (hr c).2.2.2.2.2.2.2.2⟩) (Cert.PrepIdeal.Value.run_blocks m g)
  · refine (θ_run _ _ _).mono (fun r hr c => ?_) (Cert.PrepRefIdeal.At.run m' g')
    obtain ⟨e0, e1, e2, e3, e4, e5, e6, e7, e8, e9, e10, e11, e12, e13, e14, e15, e16⟩ := hm c
    have h := hr c
    rw [e0, e1, e2, e3, e4, e5, e6, e7, e8, e9, e10, e11, e12, e13, e14, e15, e16] at h
    rw [e0, e1, e2, e3, e4, e5, e6, e7, e8, e9, e10, e11, e12, e13, e14, e15, e16]
    exact h

end Cert.PrepIdeal.PrepValue

end
-- ==== Proof.lean ====
module

public import proofs.«01_k».proof.Defs
public import proofs.«01_k».proof.Proof.SwaProof
public import proofs.«01_k».proof.Proof.FfnValue
public import proofs.«01_k».proof.Proof.MoeBits
public import proofs.«01_k».proof.Proof.MoeValue
public import proofs.«01_k».proof.Proof.InpValue
public import proofs.«01_k».proof.Proof.PrepBits
public import proofs.«01_k».proof.Proof.PrepValue
public import proofs.«01_k».proof.Proof.Gen.Pre_finite_scores
public import proofs.«01_k».proof.Proof.Gen.Swa.Frame
public import proofs.«01_k».proof.Proof.Gen.SwaIdeal.Frame
public import proofs.«01_k».proof.Proof.Gen.SwaIdeal.Value
public import proofs.«01_k».proof.Proof.Gen.FfnIdeal.Value
public import proofs.«01_k».proof.Proof.Gen.SwaRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.Moe
public import proofs.«01_k».proof.Proof.Gen.MoeIdeal
public import proofs.«01_k».proof.Proof.Gen.MoeRefIdeal
public import proofs.«01_k».proof.Proof.Gen.MoeRefIdeal.Run
public import proofs.«01_k».proof.Proof.Gen.Pre_plan_ranges
public import proofs.«01_k».proof.Proof.Gen.Inp.Frame
public import proofs.«01_k».proof.Proof.Gen.InpIdeal.Frame
public import proofs.«01_k».proof.Proof.Gen.InpIdeal.Value
public import proofs.«01_k».proof.Proof.Gen.InpRefIdeal.Run
public import proofs.«01_k».proof.Proof.Gen.Prep
public import proofs.«01_k».proof.Proof.Gen.PrepIdeal
public import proofs.«01_k».proof.Proof.Gen.PrepRefIdeal.Run
public import Idealize.ShloMosaic.Adequacy
public import Idealize.ShloMosaic.Init

@[expose] public section

noncomputable section

namespace Cert.Proof

open Idealize.ShloMosaic Idealize.SL.Sem

theorem frame_SwaRefIdeal : Cert.quiescent_SwaRefIdeal := fun m g _ =>
  (θ_run Cert.SwaRefIdeal.defs _ _).mono (fun r h => ⟨fun c => (h c).2, sem_eq_zero_of_no_sems (by decide) r.2⟩)
    (Cert.SwaRefIdeal.Value.run m g)

theorem frame_FfnRefIdeal : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run m g)

theorem frame_MoeRefIdeal : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run m g)

theorem frame_InpRefIdeal : Cert.quiescent_InpRefIdeal := fun m g _ =>
  (θ_run Cert.InpRefIdeal.defs _ _).mono (fun r h => ⟨fun c => (h c).2.2.2.2.2.2, sem_eq_zero_of_no_sems (by decide) r.2⟩)
    (Cert.InpRefIdeal.Value.run m g)

theorem frame_PrepRefIdeal : Cert.quiescent_PrepRefIdeal := fun m g _ =>
  (θ_run Cert.PrepRefIdeal.defs _ _).mono (fun r h => ⟨fun c => (h c).2.2.2.2.2.2.2, sem_eq_zero_of_no_sems (by decide) r.2⟩)
    (Cert.PrepRefIdeal.Value.run m g)

theorem claim : Cert.Claim :=
  ⟨Cert.Swa.Gen.facts, Cert.SwaIdeal.Gen.facts, Cert.SwaRefIdeal.Gen.facts, Cert.Ffn.Gen.facts, Cert.FfnIdeal.Gen.facts,
    Cert.FfnRefIdeal.Gen.facts, Cert.Moe.Gen.facts, Cert.MoeIdeal.Gen.facts, Cert.MoeRefIdeal.Gen.facts,
    Cert.Inp.Gen.facts, Cert.InpIdeal.Gen.facts, Cert.InpRefIdeal.Gen.facts, Cert.Prep.Gen.facts, Cert.PrepIdeal.Gen.facts, Cert.PrepRefIdeal.Gen.facts,
    Cert.Pre_finite_scores.Gen.facts, Cert.Pre_plan_ranges.Gen.facts,
    fun m ρ _ => Cert.Swa.Gen.frame m ρ,
    fun m ρ _ => Cert.SwaIdeal.Gen.frame m ρ,
    fun m ρ _ => Cert.SwaIdeal.Gen.frame m ρ,
    frame_SwaRefIdeal,
    fun m ρ _ => frame_SwaRefIdeal m ρ trivial,
    fun m ρ _ => Cert.Ffn.Gen.frame m ρ,
    fun m ρ _ => Cert.FfnIdeal.Gen.frame m ρ,
    frame_FfnRefIdeal,
    Cert.MoeProof.frame_bits,
    Cert.MoeProof.frame_ideal,
    frame_MoeRefIdeal,
    fun m ρ _ => frame_MoeRefIdeal m ρ trivial,
    fun m ρ _ => Cert.Inp.Gen.frame m ρ,
    fun m ρ _ => Cert.InpIdeal.Gen.frame m ρ,
    frame_InpRefIdeal,
    Cert.PrepProof.frame_bits,
    fun m ρ _ => Cert.PrepIdeal.Gen.frame m ρ,
    frame_PrepRefIdeal,
    IdealRules.named_const.statement Cert.SwaIdeal.κ "mask" .f32 0xF149F2CA#32 ⊥ rfl,
    Cert.SwaProof.algebraic,
    trivial,
    Cert.FfnIdeal.FfnValue.algebraic,
    trivial,
    Cert.MoeIdeal.MoeRun.algebraic,
    trivial,
    Cert.InpIdeal.InpValue.algebraic,
    trivial,
    Cert.PrepIdeal.PrepValue.algebraic⟩

end Cert.Proof

end
